-- ==== Defs.lean ====
def Pre_KernelRows (m : (ℓ : Loc Cert.KernelRows.nD Cert.KernelRows.τ Cert.KernelRows.sig) → Buf (Elt Bits) ℓ) : Prop :=
  True

def Pre_KernelRowsIdeal (m : (ℓ : Loc Cert.KernelRowsIdeal.nD Cert.KernelRowsIdeal.τ Cert.KernelRowsIdeal.sig) → Buf (Elt Ideal) ℓ) : Prop :=
  True

def Pre_ReferenceRowsIdeal (m : (ℓ : Loc Cert.ReferenceRowsIdeal.nD Cert.ReferenceRowsIdeal.τ Cert.ReferenceRowsIdeal.sig) → Buf (Elt Ideal) ℓ) : Prop :=
  True

def Pre_KernelDx (m : (ℓ : Loc Cert.KernelDx.nD Cert.KernelDx.τ Cert.KernelDx.sig) → Buf (Elt Bits) ℓ) : Prop :=
  True

def Pre_KernelDxIdeal (m : (ℓ : Loc Cert.KernelDxIdeal.nD Cert.KernelDxIdeal.τ Cert.KernelDxIdeal.sig) → Buf (Elt Ideal) ℓ) : Prop :=
  True

def Pre_ReferenceDxIdeal (m : (ℓ : Loc Cert.ReferenceDxIdeal.nD Cert.ReferenceDxIdeal.τ Cert.ReferenceDxIdeal.sig) → Buf (Elt Ideal) ℓ) : Prop :=
  True

def Pre_KernelDw1 (m : (ℓ : Loc Cert.KernelDw1.nD Cert.KernelDw1.τ Cert.KernelDw1.sig) → Buf (Elt Bits) ℓ) : Prop :=
  True

def Pre_KernelDw1Ideal (m : (ℓ : Loc Cert.KernelDw1Ideal.nD Cert.KernelDw1Ideal.τ Cert.KernelDw1Ideal.sig) → Buf (Elt Ideal) ℓ) : Prop :=
  True

def Pre_ReferenceDw1Ideal (m : (ℓ : Loc Cert.ReferenceDw1Ideal.nD Cert.ReferenceDw1Ideal.τ Cert.ReferenceDw1Ideal.sig) → Buf (Elt Ideal) ℓ) : Prop :=
  True

def Pre_KernelDw2 (m : (ℓ : Loc Cert.KernelDw2.nD Cert.KernelDw2.τ Cert.KernelDw2.sig) → Buf (Elt Bits) ℓ) : Prop :=
  True

def Pre_KernelDw2Ideal (m : (ℓ : Loc Cert.KernelDw2Ideal.nD Cert.KernelDw2Ideal.τ Cert.KernelDw2Ideal.sig) → Buf (Elt Ideal) ℓ) : Prop :=
  True

def Pre_ReferenceDw2Ideal (m : (ℓ : Loc Cert.ReferenceDw2Ideal.nD Cert.ReferenceDw2Ideal.τ Cert.ReferenceDw2Ideal.sig) → Buf (Elt Ideal) ℓ) : Prop :=
  True

def quiescent_KernelRows [hKernelRows : Cert.KernelRows.Facts] : Prop :=
  ∀ (m : (ℓ : Loc Cert.KernelRows.nD Cert.KernelRows.τ Cert.KernelRows.sig) → Buf (Elt Bits) ℓ) (g : Dev Cert.KernelRows.nD → PrngReg), Pre_KernelRows m →
    θ_run (Cert.KernelRows.defs (F := Bits)) (onTc (τ := Cert.KernelRows.τ) (Cert.KernelRows.main (F := Bits))) ⟨m, fun _ => 0, g⟩ (fun r => (∀ c : Dev Cert.KernelRows.nD,
      r.2.mem ((c.tc : Thread Cert.KernelRows.nD Cert.KernelRows.τ).loc Cert.KernelRows.main_arg0) = m ((c.tc : Thread Cert.KernelRows.nD Cert.KernelRows.τ).loc Cert.KernelRows.main_arg0)
      ∧ r.2.mem ((c.tc : Thread Cert.KernelRows.nD Cert.KernelRows.τ).loc Cert.KernelRows.main_arg1) = m ((c.tc : Thread Cert.KernelRows.nD Cert.KernelRows.τ).loc Cert.KernelRows.main_arg1)
      ∧ r.2.mem ((c.tc : Thread Cert.KernelRows.nD Cert.KernelRows.τ).loc Cert.KernelRows.main_arg2) = m ((c.tc : Thread Cert.KernelRows.nD Cert.KernelRows.τ).loc Cert.KernelRows.main_arg2)
      ∧ r.2.mem ((c.tc : Thread Cert.KernelRows.nD Cert.KernelRows.τ).loc Cert.KernelRows.main_arg3) = m ((c.tc : Thread Cert.KernelRows.nD Cert.KernelRows.τ).loc Cert.KernelRows.main_arg3))
      ∧ r.2.sem = fun _ => 0)

def quiescent_KernelRowsIdeal [hKernelRowsIdeal : Cert.KernelRowsIdeal.Facts] : Prop :=
  ∀ (m : (ℓ : Loc Cert.KernelRowsIdeal.nD Cert.KernelRowsIdeal.τ Cert.KernelRowsIdeal.sig) → Buf (Elt Ideal) ℓ) (g : Dev Cert.KernelRowsIdeal.nD → PrngReg), Pre_KernelRowsIdeal m →
    θ_run (Cert.KernelRowsIdeal.defs (F := Ideal)) (onTc (τ := Cert.KernelRowsIdeal.τ) (Cert.KernelRowsIdeal.main (F := Ideal))) ⟨m, fun _ => 0, g⟩ (fun r => (∀ c : Dev Cert.KernelRowsIdeal.nD,
      r.2.mem ((c.tc : Thread Cert.KernelRowsIdeal.nD Cert.KernelRowsIdeal.τ).loc Cert.KernelRowsIdeal.main_arg0) = m ((c.tc : Thread Cert.KernelRowsIdeal.nD Cert.KernelRowsIdeal.τ).loc Cert.KernelRowsIdeal.main_arg0)
      ∧ r.2.mem ((c.tc : Thread Cert.KernelRowsIdeal.nD Cert.KernelRowsIdeal.τ).loc Cert.KernelRowsIdeal.main_arg1) = m ((c.tc : Thread Cert.KernelRowsIdeal.nD Cert.KernelRowsIdeal.τ).loc Cert.KernelRowsIdeal.main_arg1)
      ∧ r.2.mem ((c.tc : Thread Cert.KernelRowsIdeal.nD Cert.KernelRowsIdeal.τ).loc Cert.KernelRowsIdeal.main_arg2) = m ((c.tc : Thread Cert.KernelRowsIdeal.nD Cert.KernelRowsIdeal.τ).loc Cert.KernelRowsIdeal.main_arg2)
      ∧ r.2.mem ((c.tc : Thread Cert.KernelRowsIdeal.nD Cert.KernelRowsIdeal.τ).loc Cert.KernelRowsIdeal.main_arg3) = m ((c.tc : Thread Cert.KernelRowsIdeal.nD Cert.KernelRowsIdeal.τ).loc Cert.KernelRowsIdeal.main_arg3))
      ∧ r.2.sem = fun _ => 0)

def quiescent_ReferenceRowsIdeal [hReferenceRowsIdeal : Cert.ReferenceRowsIdeal.Facts] : Prop :=
  ∀ (m : (ℓ : Loc Cert.ReferenceRowsIdeal.nD Cert.ReferenceRowsIdeal.τ Cert.ReferenceRowsIdeal.sig) → Buf (Elt Ideal) ℓ) (g : Dev Cert.ReferenceRowsIdeal.nD → PrngReg), Pre_ReferenceRowsIdeal m →
    θ_run (Cert.ReferenceRowsIdeal.defs (F := Ideal)) (onTc (τ := Cert.ReferenceRowsIdeal.τ) (Cert.ReferenceRowsIdeal.main (F := Ideal))) ⟨m, fun _ => 0, g⟩ (fun r => (∀ c : Dev Cert.ReferenceRowsIdeal.nD,
      r.2.mem ((c.tc : Thread Cert.ReferenceRowsIdeal.nD Cert.ReferenceRowsIdeal.τ).loc Cert.ReferenceRowsIdeal.main_arg0) = m ((c.tc : Thread Cert.ReferenceRowsIdeal.nD Cert.ReferenceRowsIdeal.τ).loc Cert.ReferenceRowsIdeal.main_arg0)
      ∧ r.2.mem ((c.tc : Thread Cert.ReferenceRowsIdeal.nD Cert.ReferenceRowsIdeal.τ).loc Cert.ReferenceRowsIdeal.main_arg1) = m ((c.tc : Thread Cert.ReferenceRowsIdeal.nD Cert.ReferenceRowsIdeal.τ).loc Cert.ReferenceRowsIdeal.main_arg1)
      ∧ r.2.mem ((c.tc : Thread Cert.ReferenceRowsIdeal.nD Cert.ReferenceRowsIdeal.τ).loc Cert.ReferenceRowsIdeal.main_arg2) = m ((c.tc : Thread Cert.ReferenceRowsIdeal.nD Cert.ReferenceRowsIdeal.τ).loc Cert.ReferenceRowsIdeal.main_arg2)
      ∧ r.2.mem ((c.tc : Thread Cert.ReferenceRowsIdeal.nD Cert.ReferenceRowsIdeal.τ).loc Cert.ReferenceRowsIdeal.main_arg3) = m ((c.tc : Thread Cert.ReferenceRowsIdeal.nD Cert.ReferenceRowsIdeal.τ).loc Cert.ReferenceRowsIdeal.main_arg3))
      ∧ r.2.sem = fun _ => 0)

def quiescent_KernelDx [hKernelDx : Cert.KernelDx.Facts] : Prop :=
  ∀ (m : (ℓ : Loc Cert.KernelDx.nD Cert.KernelDx.τ Cert.KernelDx.sig) → Buf (Elt Bits) ℓ) (g : Dev Cert.KernelDx.nD → PrngReg), Pre_KernelDx m →
    θ_run (Cert.KernelDx.defs (F := Bits)) (onTc (τ := Cert.KernelDx.τ) (Cert.KernelDx.main (F := Bits))) ⟨m, fun _ => 0, g⟩ (fun r => (∀ c : Dev Cert.KernelDx.nD,
      r.2.mem ((c.tc : Thread Cert.KernelDx.nD Cert.KernelDx.τ).loc Cert.KernelDx.main_arg0) = m ((c.tc : Thread Cert.KernelDx.nD Cert.KernelDx.τ).loc Cert.KernelDx.main_arg0)
      ∧ r.2.mem ((c.tc : Thread Cert.KernelDx.nD Cert.KernelDx.τ).loc Cert.KernelDx.main_arg1) = m ((c.tc : Thread Cert.KernelDx.nD Cert.KernelDx.τ).loc Cert.KernelDx.main_arg1)
      ∧ r.2.mem ((c.tc : Thread Cert.KernelDx.nD Cert.KernelDx.τ).loc Cert.KernelDx.main_arg2) = m ((c.tc : Thread Cert.KernelDx.nD Cert.KernelDx.τ).loc Cert.KernelDx.main_arg2)
      ∧ r.2.mem ((c.tc : Thread Cert.KernelDx.nD Cert.KernelDx.τ).loc Cert.KernelDx.main_arg3) = m ((c.tc : Thread Cert.KernelDx.nD Cert.KernelDx.τ).loc Cert.KernelDx.main_arg3))
      ∧ r.2.sem = fun _ => 0)

def quiescent_KernelDxIdeal [hKernelDxIdeal : Cert.KernelDxIdeal.Facts] : Prop :=
  ∀ (m : (ℓ : Loc Cert.KernelDxIdeal.nD Cert.KernelDxIdeal.τ Cert.KernelDxIdeal.sig) → Buf (Elt Ideal) ℓ) (g : Dev Cert.KernelDxIdeal.nD → PrngReg), Pre_KernelDxIdeal m →
    θ_run (Cert.KernelDxIdeal.defs (F := Ideal)) (onTc (τ := Cert.KernelDxIdeal.τ) (Cert.KernelDxIdeal.main (F := Ideal))) ⟨m, fun _ => 0, g⟩ (fun r => (∀ c : Dev Cert.KernelDxIdeal.nD,
      r.2.mem ((c.tc : Thread Cert.KernelDxIdeal.nD Cert.KernelDxIdeal.τ).loc Cert.KernelDxIdeal.main_arg0) = m ((c.tc : Thread Cert.KernelDxIdeal.nD Cert.KernelDxIdeal.τ).loc Cert.KernelDxIdeal.main_arg0)
      ∧ r.2.mem ((c.tc : Thread Cert.KernelDxIdeal.nD Cert.KernelDxIdeal.τ).loc Cert.KernelDxIdeal.main_arg1) = m ((c.tc : Thread Cert.KernelDxIdeal.nD Cert.KernelDxIdeal.τ).loc Cert.KernelDxIdeal.main_arg1)
      ∧ r.2.mem ((c.tc : Thread Cert.KernelDxIdeal.nD Cert.KernelDxIdeal.τ).loc Cert.KernelDxIdeal.main_arg2) = m ((c.tc : Thread Cert.KernelDxIdeal.nD Cert.KernelDxIdeal.τ).loc Cert.KernelDxIdeal.main_arg2)
      ∧ r.2.mem ((c.tc : Thread Cert.KernelDxIdeal.nD Cert.KernelDxIdeal.τ).loc Cert.KernelDxIdeal.main_arg3) = m ((c.tc : Thread Cert.KernelDxIdeal.nD Cert.KernelDxIdeal.τ).loc Cert.KernelDxIdeal.main_arg3))
      ∧ r.2.sem = fun _ => 0)

def quiescent_ReferenceDxIdeal [hReferenceDxIdeal : Cert.ReferenceDxIdeal.Facts] : Prop :=
  ∀ (m : (ℓ : Loc Cert.ReferenceDxIdeal.nD Cert.ReferenceDxIdeal.τ Cert.ReferenceDxIdeal.sig) → Buf (Elt Ideal) ℓ) (g : Dev Cert.ReferenceDxIdeal.nD → PrngReg), Pre_ReferenceDxIdeal m →
    θ_run (Cert.ReferenceDxIdeal.defs (F := Ideal)) (onTc (τ := Cert.ReferenceDxIdeal.τ) (Cert.ReferenceDxIdeal.main (F := Ideal))) ⟨m, fun _ => 0, g⟩ (fun r => (∀ c : Dev Cert.ReferenceDxIdeal.nD,
      r.2.mem ((c.tc : Thread Cert.ReferenceDxIdeal.nD Cert.ReferenceDxIdeal.τ).loc Cert.ReferenceDxIdeal.main_arg0) = m ((c.tc : Thread Cert.ReferenceDxIdeal.nD Cert.ReferenceDxIdeal.τ).loc Cert.ReferenceDxIdeal.main_arg0)
      ∧ r.2.mem ((c.tc : Thread Cert.ReferenceDxIdeal.nD Cert.ReferenceDxIdeal.τ).loc Cert.ReferenceDxIdeal.main_arg1) = m ((c.tc : Thread Cert.ReferenceDxIdeal.nD Cert.ReferenceDxIdeal.τ).loc Cert.ReferenceDxIdeal.main_arg1)
      ∧ r.2.mem ((c.tc : Thread Cert.ReferenceDxIdeal.nD Cert.ReferenceDxIdeal.τ).loc Cert.ReferenceDxIdeal.main_arg2) = m ((c.tc : Thread Cert.ReferenceDxIdeal.nD Cert.ReferenceDxIdeal.τ).loc Cert.ReferenceDxIdeal.main_arg2)
      ∧ r.2.mem ((c.tc : Thread Cert.ReferenceDxIdeal.nD Cert.ReferenceDxIdeal.τ).loc Cert.ReferenceDxIdeal.main_arg3) = m ((c.tc : Thread Cert.ReferenceDxIdeal.nD Cert.ReferenceDxIdeal.τ).loc Cert.ReferenceDxIdeal.main_arg3))
      ∧ r.2.sem = fun _ => 0)

def quiescent_KernelDw1 [hKernelDw1 : Cert.KernelDw1.Facts] : Prop :=
  ∀ (m : (ℓ : Loc Cert.KernelDw1.nD Cert.KernelDw1.τ Cert.KernelDw1.sig) → Buf (Elt Bits) ℓ) (g : Dev Cert.KernelDw1.nD → PrngReg), Pre_KernelDw1 m →
    θ_run (Cert.KernelDw1.defs (F := Bits)) (onTc (τ := Cert.KernelDw1.τ) (Cert.KernelDw1.main (F := Bits))) ⟨m, fun _ => 0, g⟩ (fun r => (∀ c : Dev Cert.KernelDw1.nD,
      r.2.mem ((c.tc : Thread Cert.KernelDw1.nD Cert.KernelDw1.τ).loc Cert.KernelDw1.main_arg0) = m ((c.tc : Thread Cert.KernelDw1.nD Cert.KernelDw1.τ).loc Cert.KernelDw1.main_arg0)
      ∧ r.2.mem ((c.tc : Thread Cert.KernelDw1.nD Cert.KernelDw1.τ).loc Cert.KernelDw1.main_arg1) = m ((c.tc : Thread Cert.KernelDw1.nD Cert.KernelDw1.τ).loc Cert.KernelDw1.main_arg1)
      ∧ r.2.mem ((c.tc : Thread Cert.KernelDw1.nD Cert.KernelDw1.τ).loc Cert.KernelDw1.main_arg2) = m ((c.tc : Thread Cert.KernelDw1.nD Cert.KernelDw1.τ).loc Cert.KernelDw1.main_arg2)
      ∧ r.2.mem ((c.tc : Thread Cert.KernelDw1.nD Cert.KernelDw1.τ).loc Cert.KernelDw1.main_arg3) = m ((c.tc : Thread Cert.KernelDw1.nD Cert.KernelDw1.τ).loc Cert.KernelDw1.main_arg3))
      ∧ r.2.sem = fun _ => 0)

def quiescent_KernelDw1Ideal [hKernelDw1Ideal : Cert.KernelDw1Ideal.Facts] : Prop :=
  ∀ (m : (ℓ : Loc Cert.KernelDw1Ideal.nD Cert.KernelDw1Ideal.τ Cert.KernelDw1Ideal.sig) → Buf (Elt Ideal) ℓ) (g : Dev Cert.KernelDw1Ideal.nD → PrngReg), Pre_KernelDw1Ideal m →
    θ_run (Cert.KernelDw1Ideal.defs (F := Ideal)) (onTc (τ := Cert.KernelDw1Ideal.τ) (Cert.KernelDw1Ideal.main (F := Ideal))) ⟨m, fun _ => 0, g⟩ (fun r => (∀ c : Dev Cert.KernelDw1Ideal.nD,
      r.2.mem ((c.tc : Thread Cert.KernelDw1Ideal.nD Cert.KernelDw1Ideal.τ).loc Cert.KernelDw1Ideal.main_arg0) = m ((c.tc : Thread Cert.KernelDw1Ideal.nD Cert.KernelDw1Ideal.τ).loc Cert.KernelDw1Ideal.main_arg0)
      ∧ r.2.mem ((c.tc : Thread Cert.KernelDw1Ideal.nD Cert.KernelDw1Ideal.τ).loc Cert.KernelDw1Ideal.main_arg1) = m ((c.tc : Thread Cert.KernelDw1Ideal.nD Cert.KernelDw1Ideal.τ).loc Cert.KernelDw1Ideal.main_arg1)
      ∧ r.2.mem ((c.tc : Thread Cert.KernelDw1Ideal.nD Cert.KernelDw1Ideal.τ).loc Cert.KernelDw1Ideal.main_arg2) = m ((c.tc : Thread Cert.KernelDw1Ideal.nD Cert.KernelDw1Ideal.τ).loc Cert.KernelDw1Ideal.main_arg2)
      ∧ r.2.mem ((c.tc : Thread Cert.KernelDw1Ideal.nD Cert.KernelDw1Ideal.τ).loc Cert.KernelDw1Ideal.main_arg3) = m ((c.tc : Thread Cert.KernelDw1Ideal.nD Cert.KernelDw1Ideal.τ).loc Cert.KernelDw1Ideal.main_arg3))
      ∧ r.2.sem = fun _ => 0)

def quiescent_ReferenceDw1Ideal [hReferenceDw1Ideal : Cert.ReferenceDw1Ideal.Facts] : Prop :=
  ∀ (m : (ℓ : Loc Cert.ReferenceDw1Ideal.nD Cert.ReferenceDw1Ideal.τ Cert.ReferenceDw1Ideal.sig) → Buf (Elt Ideal) ℓ) (g : Dev Cert.ReferenceDw1Ideal.nD → PrngReg), Pre_ReferenceDw1Ideal m →
    θ_run (Cert.ReferenceDw1Ideal.defs (F := Ideal)) (onTc (τ := Cert.ReferenceDw1Ideal.τ) (Cert.ReferenceDw1Ideal.main (F := Ideal))) ⟨m, fun _ => 0, g⟩ (fun r => (∀ c : Dev Cert.ReferenceDw1Ideal.nD,
      r.2.mem ((c.tc : Thread Cert.ReferenceDw1Ideal.nD Cert.ReferenceDw1Ideal.τ).loc Cert.ReferenceDw1Ideal.main_arg0) = m ((c.tc : Thread Cert.ReferenceDw1Ideal.nD Cert.ReferenceDw1Ideal.τ).loc Cert.ReferenceDw1Ideal.main_arg0)
      ∧ r.2.mem ((c.tc : Thread Cert.ReferenceDw1Ideal.nD Cert.ReferenceDw1Ideal.τ).loc Cert.ReferenceDw1Ideal.main_arg1) = m ((c.tc : Thread Cert.ReferenceDw1Ideal.nD Cert.ReferenceDw1Ideal.τ).loc Cert.ReferenceDw1Ideal.main_arg1)
      ∧ r.2.mem ((c.tc : Thread Cert.ReferenceDw1Ideal.nD Cert.ReferenceDw1Ideal.τ).loc Cert.ReferenceDw1Ideal.main_arg2) = m ((c.tc : Thread Cert.ReferenceDw1Ideal.nD Cert.ReferenceDw1Ideal.τ).loc Cert.ReferenceDw1Ideal.main_arg2)
      ∧ r.2.mem ((c.tc : Thread Cert.ReferenceDw1Ideal.nD Cert.ReferenceDw1Ideal.τ).loc Cert.ReferenceDw1Ideal.main_arg3) = m ((c.tc : Thread Cert.ReferenceDw1Ideal.nD Cert.ReferenceDw1Ideal.τ).loc Cert.ReferenceDw1Ideal.main_arg3))
      ∧ r.2.sem = fun _ => 0)

def quiescent_KernelDw2 [hKernelDw2 : Cert.KernelDw2.Facts] : Prop :=
  ∀ (m : (ℓ : Loc Cert.KernelDw2.nD Cert.KernelDw2.τ Cert.KernelDw2.sig) → Buf (Elt Bits) ℓ) (g : Dev Cert.KernelDw2.nD → PrngReg), Pre_KernelDw2 m →
    θ_run (Cert.KernelDw2.defs (F := Bits)) (onTc (τ := Cert.KernelDw2.τ) (Cert.KernelDw2.main (F := Bits))) ⟨m, fun _ => 0, g⟩ (fun r => (∀ c : Dev Cert.KernelDw2.nD,
      r.2.mem ((c.tc : Thread Cert.KernelDw2.nD Cert.KernelDw2.τ).loc Cert.KernelDw2.main_arg0) = m ((c.tc : Thread Cert.KernelDw2.nD Cert.KernelDw2.τ).loc Cert.KernelDw2.main_arg0)
      ∧ r.2.mem ((c.tc : Thread Cert.KernelDw2.nD Cert.KernelDw2.τ).loc Cert.KernelDw2.main_arg1) = m ((c.tc : Thread Cert.KernelDw2.nD Cert.KernelDw2.τ).loc Cert.KernelDw2.main_arg1)
      ∧ r.2.mem ((c.tc : Thread Cert.KernelDw2.nD Cert.KernelDw2.τ).loc Cert.KernelDw2.main_arg2) = m ((c.tc : Thread Cert.KernelDw2.nD Cert.KernelDw2.τ).loc Cert.KernelDw2.main_arg2)
      ∧ r.2.mem ((c.tc : Thread Cert.KernelDw2.nD Cert.KernelDw2.τ).loc Cert.KernelDw2.main_arg3) = m ((c.tc : Thread Cert.KernelDw2.nD Cert.KernelDw2.τ).loc Cert.KernelDw2.main_arg3))
      ∧ r.2.sem = fun _ => 0)

def quiescent_KernelDw2Ideal [hKernelDw2Ideal : Cert.KernelDw2Ideal.Facts] : Prop :=
  ∀ (m : (ℓ : Loc Cert.KernelDw2Ideal.nD Cert.KernelDw2Ideal.τ Cert.KernelDw2Ideal.sig) → Buf (Elt Ideal) ℓ) (g : Dev Cert.KernelDw2Ideal.nD → PrngReg), Pre_KernelDw2Ideal m →
    θ_run (Cert.KernelDw2Ideal.defs (F := Ideal)) (onTc (τ := Cert.KernelDw2Ideal.τ) (Cert.KernelDw2Ideal.main (F := Ideal))) ⟨m, fun _ => 0, g⟩ (fun r => (∀ c : Dev Cert.KernelDw2Ideal.nD,
      r.2.mem ((c.tc : Thread Cert.KernelDw2Ideal.nD Cert.KernelDw2Ideal.τ).loc Cert.KernelDw2Ideal.main_arg0) = m ((c.tc : Thread Cert.KernelDw2Ideal.nD Cert.KernelDw2Ideal.τ).loc Cert.KernelDw2Ideal.main_arg0)
      ∧ r.2.mem ((c.tc : Thread Cert.KernelDw2Ideal.nD Cert.KernelDw2Ideal.τ).loc Cert.KernelDw2Ideal.main_arg1) = m ((c.tc : Thread Cert.KernelDw2Ideal.nD Cert.KernelDw2Ideal.τ).loc Cert.KernelDw2Ideal.main_arg1)
      ∧ r.2.mem ((c.tc : Thread Cert.KernelDw2Ideal.nD Cert.KernelDw2Ideal.τ).loc Cert.KernelDw2Ideal.main_arg2) = m ((c.tc : Thread Cert.KernelDw2Ideal.nD Cert.KernelDw2Ideal.τ).loc Cert.KernelDw2Ideal.main_arg2)
      ∧ r.2.mem ((c.tc : Thread Cert.KernelDw2Ideal.nD Cert.KernelDw2Ideal.τ).loc Cert.KernelDw2Ideal.main_arg3) = m ((c.tc : Thread Cert.KernelDw2Ideal.nD Cert.KernelDw2Ideal.τ).loc Cert.KernelDw2Ideal.main_arg3))
      ∧ r.2.sem = fun _ => 0)

def quiescent_ReferenceDw2Ideal [hReferenceDw2Ideal : Cert.ReferenceDw2Ideal.Facts] : Prop :=
  ∀ (m : (ℓ : Loc Cert.ReferenceDw2Ideal.nD Cert.ReferenceDw2Ideal.τ Cert.ReferenceDw2Ideal.sig) → Buf (Elt Ideal) ℓ) (g : Dev Cert.ReferenceDw2Ideal.nD → PrngReg), Pre_ReferenceDw2Ideal m →
    θ_run (Cert.ReferenceDw2Ideal.defs (F := Ideal)) (onTc (τ := Cert.ReferenceDw2Ideal.τ) (Cert.ReferenceDw2Ideal.main (F := Ideal))) ⟨m, fun _ => 0, g⟩ (fun r => (∀ c : Dev Cert.ReferenceDw2Ideal.nD,
      r.2.mem ((c.tc : Thread Cert.ReferenceDw2Ideal.nD Cert.ReferenceDw2Ideal.τ).loc Cert.ReferenceDw2Ideal.main_arg0) = m ((c.tc : Thread Cert.ReferenceDw2Ideal.nD Cert.ReferenceDw2Ideal.τ).loc Cert.ReferenceDw2Ideal.main_arg0)
      ∧ r.2.mem ((c.tc : Thread Cert.ReferenceDw2Ideal.nD Cert.ReferenceDw2Ideal.τ).loc Cert.ReferenceDw2Ideal.main_arg1) = m ((c.tc : Thread Cert.ReferenceDw2Ideal.nD Cert.ReferenceDw2Ideal.τ).loc Cert.ReferenceDw2Ideal.main_arg1)
      ∧ r.2.mem ((c.tc : Thread Cert.ReferenceDw2Ideal.nD Cert.ReferenceDw2Ideal.τ).loc Cert.ReferenceDw2Ideal.main_arg2) = m ((c.tc : Thread Cert.ReferenceDw2Ideal.nD Cert.ReferenceDw2Ideal.τ).loc Cert.ReferenceDw2Ideal.main_arg2)
      ∧ r.2.mem ((c.tc : Thread Cert.ReferenceDw2Ideal.nD Cert.ReferenceDw2Ideal.τ).loc Cert.ReferenceDw2Ideal.main_arg3) = m ((c.tc : Thread Cert.ReferenceDw2Ideal.nD Cert.ReferenceDw2Ideal.τ).loc Cert.ReferenceDw2Ideal.main_arg3))
      ∧ r.2.sem = fun _ => 0)

def preserves_KernelRows_KernelRowsIdeal : Prop :=
  True

def algebraic_KernelRowsIdeal_ReferenceRowsIdeal [hKernelRowsIdeal : Cert.KernelRowsIdeal.Facts] [hReferenceRowsIdeal : Cert.ReferenceRowsIdeal.Facts] : Prop :=
  ∀ (m : (ℓ : Loc Cert.KernelRowsIdeal.nD Cert.KernelRowsIdeal.τ Cert.KernelRowsIdeal.sig) → Buf (Elt Ideal) ℓ) (g : Dev Cert.KernelRowsIdeal.nD → PrngReg)
    (m' : (ℓ : Loc Cert.ReferenceRowsIdeal.nD Cert.ReferenceRowsIdeal.τ Cert.ReferenceRowsIdeal.sig) → Buf (Elt Ideal) ℓ) (g' : Dev Cert.ReferenceRowsIdeal.nD → PrngReg), Pre_KernelRowsIdeal m →
    (∀ c : Dev Cert.KernelRowsIdeal.nD,
      m' ((c.tc : Thread Cert.ReferenceRowsIdeal.nD Cert.ReferenceRowsIdeal.τ).loc Cert.ReferenceRowsIdeal.main_arg0) = m ((c.tc : Thread Cert.KernelRowsIdeal.nD Cert.KernelRowsIdeal.τ).loc Cert.KernelRowsIdeal.main_arg0)
      ∧ m' ((c.tc : Thread Cert.ReferenceRowsIdeal.nD Cert.ReferenceRowsIdeal.τ).loc Cert.ReferenceRowsIdeal.main_arg1) = m ((c.tc : Thread Cert.KernelRowsIdeal.nD Cert.KernelRowsIdeal.τ).loc Cert.KernelRowsIdeal.main_arg1)
      ∧ m' ((c.tc : Thread Cert.ReferenceRowsIdeal.nD Cert.ReferenceRowsIdeal.τ).loc Cert.ReferenceRowsIdeal.main_arg2) = m ((c.tc : Thread Cert.KernelRowsIdeal.nD Cert.KernelRowsIdeal.τ).loc Cert.KernelRowsIdeal.main_arg2)
      ∧ m' ((c.tc : Thread Cert.ReferenceRowsIdeal.nD Cert.ReferenceRowsIdeal.τ).loc Cert.ReferenceRowsIdeal.main_arg3) = m ((c.tc : Thread Cert.KernelRowsIdeal.nD Cert.KernelRowsIdeal.τ).loc Cert.KernelRowsIdeal.main_arg3)) →
    ∃ (v0 : (c : Dev Cert.KernelRowsIdeal.nD) → Buf (Elt Ideal) ((c.tc : Thread Cert.KernelRowsIdeal.nD Cert.KernelRowsIdeal.τ).loc Cert.KernelRowsIdeal.main_v3_0)) (v1 : (c : Dev Cert.KernelRowsIdeal.nD) → Buf (Elt Ideal) ((c.tc : Thread Cert.KernelRowsIdeal.nD Cert.KernelRowsIdeal.τ).loc Cert.KernelRowsIdeal.main_v3_1)) (v2 : (c : Dev Cert.KernelRowsIdeal.nD) → Buf (Elt Ideal) ((c.tc : Thread Cert.KernelRowsIdeal.nD Cert.KernelRowsIdeal.τ).loc Cert.KernelRowsIdeal.main_v3_2)) (v3 : (c : Dev Cert.KernelRowsIdeal.nD) → Buf (Elt Ideal) ((c.tc : Thread Cert.KernelRowsIdeal.nD Cert.KernelRowsIdeal.τ).loc Cert.KernelRowsIdeal.main_v3_3)) (v4 : (c : Dev Cert.KernelRowsIdeal.nD) → Buf (Elt Ideal) ((c.tc : Thread Cert.KernelRowsIdeal.nD Cert.KernelRowsIdeal.τ).loc Cert.KernelRowsIdeal.main_v3_4)) (v5 : (c : Dev Cert.KernelRowsIdeal.nD) → Buf (Elt Ideal) ((c.tc : Thread Cert.KernelRowsIdeal.nD Cert.KernelRowsIdeal.τ).loc Cert.KernelRowsIdeal.main_v3_5)) (v6 : (c : Dev Cert.KernelRowsIdeal.nD) → Buf (Elt Ideal) ((c.tc : Thread Cert.KernelRowsIdeal.nD Cert.KernelRowsIdeal.τ).loc Cert.KernelRowsIdeal.main_v3_6)),
      θ_run (Cert.KernelRowsIdeal.defs (F := Ideal)) (onTc (τ := Cert.KernelRowsIdeal.τ) (Cert.KernelRowsIdeal.main (F := Ideal))) ⟨m, fun _ => 0, g⟩ (fun r => ∀ c : Dev Cert.KernelRowsIdeal.nD,
          r.2.mem ((c.tc : Thread Cert.KernelRowsIdeal.nD Cert.KernelRowsIdeal.τ).loc Cert.KernelRowsIdeal.main_v3_0) = v0 c
          ∧ r.2.mem ((c.tc : Thread Cert.KernelRowsIdeal.nD Cert.KernelRowsIdeal.τ).loc Cert.KernelRowsIdeal.main_v3_1) = v1 c
          ∧ r.2.mem ((c.tc : Thread Cert.KernelRowsIdeal.nD Cert.KernelRowsIdeal.τ).loc Cert.KernelRowsIdeal.main_v3_2) = v2 c
          ∧ r.2.mem ((c.tc : Thread Cert.KernelRowsIdeal.nD Cert.KernelRowsIdeal.τ).loc Cert.KernelRowsIdeal.main_v3_3) = v3 c
          ∧ r.2.mem ((c.tc : Thread Cert.KernelRowsIdeal.nD Cert.KernelRowsIdeal.τ).loc Cert.KernelRowsIdeal.main_v3_4) = v4 c
          ∧ r.2.mem ((c.tc : Thread Cert.KernelRowsIdeal.nD Cert.KernelRowsIdeal.τ).loc Cert.KernelRowsIdeal.main_v3_5) = v5 c
          ∧ r.2.mem ((c.tc : Thread Cert.KernelRowsIdeal.nD Cert.KernelRowsIdeal.τ).loc Cert.KernelRowsIdeal.main_v3_6) = v6 c
          ∧ r.2.mem ((c.tc : Thread Cert.KernelRowsIdeal.nD Cert.KernelRowsIdeal.τ).loc Cert.KernelRowsIdeal.main_arg0) = m ((c.tc : Thread Cert.KernelRowsIdeal.nD Cert.KernelRowsIdeal.τ).loc Cert.KernelRowsIdeal.main_arg0)
          ∧ r.2.mem ((c.tc : Thread Cert.KernelRowsIdeal.nD Cert.KernelRowsIdeal.τ).loc Cert.KernelRowsIdeal.main_arg1) = m ((c.tc : Thread Cert.KernelRowsIdeal.nD Cert.KernelRowsIdeal.τ).loc Cert.KernelRowsIdeal.main_arg1)
          ∧ r.2.mem ((c.tc : Thread Cert.KernelRowsIdeal.nD Cert.KernelRowsIdeal.τ).loc Cert.KernelRowsIdeal.main_arg2) = m ((c.tc : Thread Cert.KernelRowsIdeal.nD Cert.KernelRowsIdeal.τ).loc Cert.KernelRowsIdeal.main_arg2)
          ∧ r.2.mem ((c.tc : Thread Cert.KernelRowsIdeal.nD Cert.KernelRowsIdeal.τ).loc Cert.KernelRowsIdeal.main_arg3) = m ((c.tc : Thread Cert.KernelRowsIdeal.nD Cert.KernelRowsIdeal.τ).loc Cert.KernelRowsIdeal.main_arg3))
      ∧ θ_run (Cert.ReferenceRowsIdeal.defs (F := Ideal)) (onTc (τ := Cert.ReferenceRowsIdeal.τ) (Cert.ReferenceRowsIdeal.main (F := Ideal))) ⟨m', fun _ => 0, g'⟩ (fun r => ∀ c : Dev Cert.ReferenceRowsIdeal.nD,
          r.2.mem ((c.tc : Thread Cert.ReferenceRowsIdeal.nD Cert.ReferenceRowsIdeal.τ).loc Cert.ReferenceRowsIdeal.main_v3_0) = v0 c
          ∧ r.2.mem ((c.tc : Thread Cert.ReferenceRowsIdeal.nD Cert.ReferenceRowsIdeal.τ).loc Cert.ReferenceRowsIdeal.main_v3_1) = v1 c
          ∧ r.2.mem ((c.tc : Thread Cert.ReferenceRowsIdeal.nD Cert.ReferenceRowsIdeal.τ).loc Cert.ReferenceRowsIdeal.main_v3_2) = v2 c
          ∧ r.2.mem ((c.tc : Thread Cert.ReferenceRowsIdeal.nD Cert.ReferenceRowsIdeal.τ).loc Cert.ReferenceRowsIdeal.main_v3_3) = v3 c
          ∧ r.2.mem ((c.tc : Thread Cert.ReferenceRowsIdeal.nD Cert.ReferenceRowsIdeal.τ).loc Cert.ReferenceRowsIdeal.main_v3_4) = v4 c
          ∧ r.2.mem ((c.tc : Thread Cert.ReferenceRowsIdeal.nD Cert.ReferenceRowsIdeal.τ).loc Cert.ReferenceRowsIdeal.main_v3_5) = v5 c
          ∧ r.2.mem ((c.tc : Thread Cert.ReferenceRowsIdeal.nD Cert.ReferenceRowsIdeal.τ).loc Cert.ReferenceRowsIdeal.main_v3_6) = v6 c
          ∧ r.2.mem ((c.tc : Thread Cert.ReferenceRowsIdeal.nD Cert.ReferenceRowsIdeal.τ).loc Cert.ReferenceRowsIdeal.main_arg0) = m' ((c.tc : Thread Cert.ReferenceRowsIdeal.nD Cert.ReferenceRowsIdeal.τ).loc Cert.ReferenceRowsIdeal.main_arg0)
          ∧ r.2.mem ((c.tc : Thread Cert.ReferenceRowsIdeal.nD Cert.ReferenceRowsIdeal.τ).loc Cert.ReferenceRowsIdeal.main_arg1) = m' ((c.tc : Thread Cert.ReferenceRowsIdeal.nD Cert.ReferenceRowsIdeal.τ).loc Cert.ReferenceRowsIdeal.main_arg1)
          ∧ r.2.mem ((c.tc : Thread Cert.ReferenceRowsIdeal.nD Cert.ReferenceRowsIdeal.τ).loc Cert.ReferenceRowsIdeal.main_arg2) = m' ((c.tc : Thread Cert.ReferenceRowsIdeal.nD Cert.ReferenceRowsIdeal.τ).loc Cert.ReferenceRowsIdeal.main_arg2)
          ∧ r.2.mem ((c.tc : Thread Cert.ReferenceRowsIdeal.nD Cert.ReferenceRowsIdeal.τ).loc Cert.ReferenceRowsIdeal.main_arg3) = m' ((c.tc : Thread Cert.ReferenceRowsIdeal.nD Cert.ReferenceRowsIdeal.τ).loc Cert.ReferenceRowsIdeal.main_arg3))

def preserves_KernelDx_KernelDxIdeal : Prop :=
  True

def algebraic_KernelDxIdeal_ReferenceDxIdeal [hKernelDxIdeal : Cert.KernelDxIdeal.Facts] [hReferenceDxIdeal : Cert.ReferenceDxIdeal.Facts] : Prop :=
  ∀ (m : (ℓ : Loc Cert.KernelDxIdeal.nD Cert.KernelDxIdeal.τ Cert.KernelDxIdeal.sig) → Buf (Elt Ideal) ℓ) (g : Dev Cert.KernelDxIdeal.nD → PrngReg)
    (m' : (ℓ : Loc Cert.ReferenceDxIdeal.nD Cert.ReferenceDxIdeal.τ Cert.ReferenceDxIdeal.sig) → Buf (Elt Ideal) ℓ) (g' : Dev Cert.ReferenceDxIdeal.nD → PrngReg), Pre_KernelDxIdeal m →
    (∀ c : Dev Cert.KernelDxIdeal.nD,
      m' ((c.tc : Thread Cert.ReferenceDxIdeal.nD Cert.ReferenceDxIdeal.τ).loc Cert.ReferenceDxIdeal.main_arg0) = m ((c.tc : Thread Cert.KernelDxIdeal.nD Cert.KernelDxIdeal.τ).loc Cert.KernelDxIdeal.main_arg0)
      ∧ m' ((c.tc : Thread Cert.ReferenceDxIdeal.nD Cert.ReferenceDxIdeal.τ).loc Cert.ReferenceDxIdeal.main_arg1) = m ((c.tc : Thread Cert.KernelDxIdeal.nD Cert.KernelDxIdeal.τ).loc Cert.KernelDxIdeal.main_arg1)
      ∧ m' ((c.tc : Thread Cert.ReferenceDxIdeal.nD Cert.ReferenceDxIdeal.τ).loc Cert.ReferenceDxIdeal.main_arg2) = m ((c.tc : Thread Cert.KernelDxIdeal.nD Cert.KernelDxIdeal.τ).loc Cert.KernelDxIdeal.main_arg2)
      ∧ m' ((c.tc : Thread Cert.ReferenceDxIdeal.nD Cert.ReferenceDxIdeal.τ).loc Cert.ReferenceDxIdeal.main_arg3) = m ((c.tc : Thread Cert.KernelDxIdeal.nD Cert.KernelDxIdeal.τ).loc Cert.KernelDxIdeal.main_arg3)) →
    ∃ (v0 : (c : Dev Cert.KernelDxIdeal.nD) → Buf (Elt Ideal) ((c.tc : Thread Cert.KernelDxIdeal.nD Cert.KernelDxIdeal.τ).loc Cert.KernelDxIdeal.main_v1)),
      θ_run (Cert.KernelDxIdeal.defs (F := Ideal)) (onTc (τ := Cert.KernelDxIdeal.τ) (Cert.KernelDxIdeal.main (F := Ideal))) ⟨m, fun _ => 0, g⟩ (fun r => ∀ c : Dev Cert.KernelDxIdeal.nD,
          r.2.mem ((c.tc : Thread Cert.KernelDxIdeal.nD Cert.KernelDxIdeal.τ).loc Cert.KernelDxIdeal.main_v1) = v0 c
          ∧ r.2.mem ((c.tc : Thread Cert.KernelDxIdeal.nD Cert.KernelDxIdeal.τ).loc Cert.KernelDxIdeal.main_arg0) = m ((c.tc : Thread Cert.KernelDxIdeal.nD Cert.KernelDxIdeal.τ).loc Cert.KernelDxIdeal.main_arg0)
          ∧ r.2.mem ((c.tc : Thread Cert.KernelDxIdeal.nD Cert.KernelDxIdeal.τ).loc Cert.KernelDxIdeal.main_arg1) = m ((c.tc : Thread Cert.KernelDxIdeal.nD Cert.KernelDxIdeal.τ).loc Cert.KernelDxIdeal.main_arg1)
          ∧ r.2.mem ((c.tc : Thread Cert.KernelDxIdeal.nD Cert.KernelDxIdeal.τ).loc Cert.KernelDxIdeal.main_arg2) = m ((c.tc : Thread Cert.KernelDxIdeal.nD Cert.KernelDxIdeal.τ).loc Cert.KernelDxIdeal.main_arg2)
          ∧ r.2.mem ((c.tc : Thread Cert.KernelDxIdeal.nD Cert.KernelDxIdeal.τ).loc Cert.KernelDxIdeal.main_arg3) = m ((c.tc : Thread Cert.KernelDxIdeal.nD Cert.KernelDxIdeal.τ).loc Cert.KernelDxIdeal.main_arg3))
      ∧ θ_run (Cert.ReferenceDxIdeal.defs (F := Ideal)) (onTc (τ := Cert.ReferenceDxIdeal.τ) (Cert.ReferenceDxIdeal.main (F := Ideal))) ⟨m', fun _ => 0, g'⟩ (fun r => ∀ c : Dev Cert.ReferenceDxIdeal.nD,
          r.2.mem ((c.tc : Thread Cert.ReferenceDxIdeal.nD Cert.ReferenceDxIdeal.τ).loc Cert.ReferenceDxIdeal.main_v2) = v0 c
          ∧ r.2.mem ((c.tc : Thread Cert.ReferenceDxIdeal.nD Cert.ReferenceDxIdeal.τ).loc Cert.ReferenceDxIdeal.main_arg0) = m' ((c.tc : Thread Cert.ReferenceDxIdeal.nD Cert.ReferenceDxIdeal.τ).loc Cert.ReferenceDxIdeal.main_arg0)
          ∧ r.2.mem ((c.tc : Thread Cert.ReferenceDxIdeal.nD Cert.ReferenceDxIdeal.τ).loc Cert.ReferenceDxIdeal.main_arg1) = m' ((c.tc : Thread Cert.ReferenceDxIdeal.nD Cert.ReferenceDxIdeal.τ).loc Cert.ReferenceDxIdeal.main_arg1)
          ∧ r.2.mem ((c.tc : Thread Cert.ReferenceDxIdeal.nD Cert.ReferenceDxIdeal.τ).loc Cert.ReferenceDxIdeal.main_arg2) = m' ((c.tc : Thread Cert.ReferenceDxIdeal.nD Cert.ReferenceDxIdeal.τ).loc Cert.ReferenceDxIdeal.main_arg2)
          ∧ r.2.mem ((c.tc : Thread Cert.ReferenceDxIdeal.nD Cert.ReferenceDxIdeal.τ).loc Cert.ReferenceDxIdeal.main_arg3) = m' ((c.tc : Thread Cert.ReferenceDxIdeal.nD Cert.ReferenceDxIdeal.τ).loc Cert.ReferenceDxIdeal.main_arg3))

def preserves_KernelDw1_KernelDw1Ideal : Prop :=
  True

def algebraic_KernelDw1Ideal_ReferenceDw1Ideal [hKernelDw1Ideal : Cert.KernelDw1Ideal.Facts] [hReferenceDw1Ideal : Cert.ReferenceDw1Ideal.Facts] : Prop :=
  ∀ (m : (ℓ : Loc Cert.KernelDw1Ideal.nD Cert.KernelDw1Ideal.τ Cert.KernelDw1Ideal.sig) → Buf (Elt Ideal) ℓ) (g : Dev Cert.KernelDw1Ideal.nD → PrngReg)
    (m' : (ℓ : Loc Cert.ReferenceDw1Ideal.nD Cert.ReferenceDw1Ideal.τ Cert.ReferenceDw1Ideal.sig) → Buf (Elt Ideal) ℓ) (g' : Dev Cert.ReferenceDw1Ideal.nD → PrngReg), Pre_KernelDw1Ideal m →
    (∀ c : Dev Cert.KernelDw1Ideal.nD,
      m' ((c.tc : Thread Cert.ReferenceDw1Ideal.nD Cert.ReferenceDw1Ideal.τ).loc Cert.ReferenceDw1Ideal.main_arg0) = m ((c.tc : Thread Cert.KernelDw1Ideal.nD Cert.KernelDw1Ideal.τ).loc Cert.KernelDw1Ideal.main_arg0)
      ∧ m' ((c.tc : Thread Cert.ReferenceDw1Ideal.nD Cert.ReferenceDw1Ideal.τ).loc Cert.ReferenceDw1Ideal.main_arg1) = m ((c.tc : Thread Cert.KernelDw1Ideal.nD Cert.KernelDw1Ideal.τ).loc Cert.KernelDw1Ideal.main_arg1)
      ∧ m' ((c.tc : Thread Cert.ReferenceDw1Ideal.nD Cert.ReferenceDw1Ideal.τ).loc Cert.ReferenceDw1Ideal.main_arg2) = m ((c.tc : Thread Cert.KernelDw1Ideal.nD Cert.KernelDw1Ideal.τ).loc Cert.KernelDw1Ideal.main_arg2)
      ∧ m' ((c.tc : Thread Cert.ReferenceDw1Ideal.nD Cert.ReferenceDw1Ideal.τ).loc Cert.ReferenceDw1Ideal.main_arg3) = m ((c.tc : Thread Cert.KernelDw1Ideal.nD Cert.KernelDw1Ideal.τ).loc Cert.KernelDw1Ideal.main_arg3)) →
    ∃ (v0 : (c : Dev Cert.KernelDw1Ideal.nD) → Buf (Elt Ideal) ((c.tc : Thread Cert.KernelDw1Ideal.nD Cert.KernelDw1Ideal.τ).loc Cert.KernelDw1Ideal.main_v3_0)) (v1 : (c : Dev Cert.KernelDw1Ideal.nD) → Buf (Elt Ideal) ((c.tc : Thread Cert.KernelDw1Ideal.nD Cert.KernelDw1Ideal.τ).loc Cert.KernelDw1Ideal.main_v3_1)),
      θ_run (Cert.KernelDw1Ideal.defs (F := Ideal)) (onTc (τ := Cert.KernelDw1Ideal.τ) (Cert.KernelDw1Ideal.main (F := Ideal))) ⟨m, fun _ => 0, g⟩ (fun r => ∀ c : Dev Cert.KernelDw1Ideal.nD,
          r.2.mem ((c.tc : Thread Cert.KernelDw1Ideal.nD Cert.KernelDw1Ideal.τ).loc Cert.KernelDw1Ideal.main_v3_0) = v0 c
          ∧ r.2.mem ((c.tc : Thread Cert.KernelDw1Ideal.nD Cert.KernelDw1Ideal.τ).loc Cert.KernelDw1Ideal.main_v3_1) = v1 c
          ∧ r.2.mem ((c.tc : Thread Cert.KernelDw1Ideal.nD Cert.KernelDw1Ideal.τ).loc Cert.KernelDw1Ideal.main_arg0) = m ((c.tc : Thread Cert.KernelDw1Ideal.nD Cert.KernelDw1Ideal.τ).loc Cert.KernelDw1Ideal.main_arg0)
          ∧ r.2.mem ((c.tc : Thread Cert.KernelDw1Ideal.nD Cert.KernelDw1Ideal.τ).loc Cert.KernelDw1Ideal.main_arg1) = m ((c.tc : Thread Cert.KernelDw1Ideal.nD Cert.KernelDw1Ideal.τ).loc Cert.KernelDw1Ideal.main_arg1)
          ∧ r.2.mem ((c.tc : Thread Cert.KernelDw1Ideal.nD Cert.KernelDw1Ideal.τ).loc Cert.KernelDw1Ideal.main_arg2) = m ((c.tc : Thread Cert.KernelDw1Ideal.nD Cert.KernelDw1Ideal.τ).loc Cert.KernelDw1Ideal.main_arg2)
          ∧ r.2.mem ((c.tc : Thread Cert.KernelDw1Ideal.nD Cert.KernelDw1Ideal.τ).loc Cert.KernelDw1Ideal.main_arg3) = m ((c.tc : Thread Cert.KernelDw1Ideal.nD Cert.KernelDw1Ideal.τ).loc Cert.KernelDw1Ideal.main_arg3))
      ∧ θ_run (Cert.ReferenceDw1Ideal.defs (F := Ideal)) (onTc (τ := Cert.ReferenceDw1Ideal.τ) (Cert.ReferenceDw1Ideal.main (F := Ideal))) ⟨m', fun _ => 0, g'⟩ (fun r => ∀ c : Dev Cert.ReferenceDw1Ideal.nD,
          r.2.mem ((c.tc : Thread Cert.ReferenceDw1Ideal.nD Cert.ReferenceDw1Ideal.τ).loc Cert.ReferenceDw1Ideal.main_v2_0) = v0 c
          ∧ r.2.mem ((c.tc : Thread Cert.ReferenceDw1Ideal.nD Cert.ReferenceDw1Ideal.τ).loc Cert.ReferenceDw1Ideal.main_v2_1) = v1 c
          ∧ r.2.mem ((c.tc : Thread Cert.ReferenceDw1Ideal.nD Cert.ReferenceDw1Ideal.τ).loc Cert.ReferenceDw1Ideal.main_arg0) = m' ((c.tc : Thread Cert.ReferenceDw1Ideal.nD Cert.ReferenceDw1Ideal.τ).loc Cert.ReferenceDw1Ideal.main_arg0)
          ∧ r.2.mem ((c.tc : Thread Cert.ReferenceDw1Ideal.nD Cert.ReferenceDw1Ideal.τ).loc Cert.ReferenceDw1Ideal.main_arg1) = m' ((c.tc : Thread Cert.ReferenceDw1Ideal.nD Cert.ReferenceDw1Ideal.τ).loc Cert.ReferenceDw1Ideal.main_arg1)
          ∧ r.2.mem ((c.tc : Thread Cert.ReferenceDw1Ideal.nD Cert.ReferenceDw1Ideal.τ).loc Cert.ReferenceDw1Ideal.main_arg2) = m' ((c.tc : Thread Cert.ReferenceDw1Ideal.nD Cert.ReferenceDw1Ideal.τ).loc Cert.ReferenceDw1Ideal.main_arg2)
          ∧ r.2.mem ((c.tc : Thread Cert.ReferenceDw1Ideal.nD Cert.ReferenceDw1Ideal.τ).loc Cert.ReferenceDw1Ideal.main_arg3) = m' ((c.tc : Thread Cert.ReferenceDw1Ideal.nD Cert.ReferenceDw1Ideal.τ).loc Cert.ReferenceDw1Ideal.main_arg3))

def preserves_KernelDw2_KernelDw2Ideal : Prop :=
  True

def algebraic_KernelDw2Ideal_ReferenceDw2Ideal [hKernelDw2Ideal : Cert.KernelDw2Ideal.Facts] [hReferenceDw2Ideal : Cert.ReferenceDw2Ideal.Facts] : Prop :=
  ∀ (m : (ℓ : Loc Cert.KernelDw2Ideal.nD Cert.KernelDw2Ideal.τ Cert.KernelDw2Ideal.sig) → Buf (Elt Ideal) ℓ) (g : Dev Cert.KernelDw2Ideal.nD → PrngReg)
    (m' : (ℓ : Loc Cert.ReferenceDw2Ideal.nD Cert.ReferenceDw2Ideal.τ Cert.ReferenceDw2Ideal.sig) → Buf (Elt Ideal) ℓ) (g' : Dev Cert.ReferenceDw2Ideal.nD → PrngReg), Pre_KernelDw2Ideal m →
    (∀ c : Dev Cert.KernelDw2Ideal.nD,
      m' ((c.tc : Thread Cert.ReferenceDw2Ideal.nD Cert.ReferenceDw2Ideal.τ).loc Cert.ReferenceDw2Ideal.main_arg0) = m ((c.tc : Thread Cert.KernelDw2Ideal.nD Cert.KernelDw2Ideal.τ).loc Cert.KernelDw2Ideal.main_arg0)
      ∧ m' ((c.tc : Thread Cert.ReferenceDw2Ideal.nD Cert.ReferenceDw2Ideal.τ).loc Cert.ReferenceDw2Ideal.main_arg1) = m ((c.tc : Thread Cert.KernelDw2Ideal.nD Cert.KernelDw2Ideal.τ).loc Cert.KernelDw2Ideal.main_arg1)
      ∧ m' ((c.tc : Thread Cert.ReferenceDw2Ideal.nD Cert.ReferenceDw2Ideal.τ).loc Cert.ReferenceDw2Ideal.main_arg2) = m ((c.tc : Thread Cert.KernelDw2Ideal.nD Cert.KernelDw2Ideal.τ).loc Cert.KernelDw2Ideal.main_arg2)
      ∧ m' ((c.tc : Thread Cert.ReferenceDw2Ideal.nD Cert.ReferenceDw2Ideal.τ).loc Cert.ReferenceDw2Ideal.main_arg3) = m ((c.tc : Thread Cert.KernelDw2Ideal.nD Cert.KernelDw2Ideal.τ).loc Cert.KernelDw2Ideal.main_arg3)) →
    ∃ (v0 : (c : Dev Cert.KernelDw2Ideal.nD) → Buf (Elt Ideal) ((c.tc : Thread Cert.KernelDw2Ideal.nD Cert.KernelDw2Ideal.τ).loc Cert.KernelDw2Ideal.main_v4_0)) (v1 : (c : Dev Cert.KernelDw2Ideal.nD) → Buf (Elt Ideal) ((c.tc : Thread Cert.KernelDw2Ideal.nD Cert.KernelDw2Ideal.τ).loc Cert.KernelDw2Ideal.main_v4_1)),
      θ_run (Cert.KernelDw2Ideal.defs (F := Ideal)) (onTc (τ := Cert.KernelDw2Ideal.τ) (Cert.KernelDw2Ideal.main (F := Ideal))) ⟨m, fun _ => 0, g⟩ (fun r => ∀ c : Dev Cert.KernelDw2Ideal.nD,
          r.2.mem ((c.tc : Thread Cert.KernelDw2Ideal.nD Cert.KernelDw2Ideal.τ).loc Cert.KernelDw2Ideal.main_v4_0) = v0 c
          ∧ r.2.mem ((c.tc : Thread Cert.KernelDw2Ideal.nD Cert.KernelDw2Ideal.τ).loc Cert.KernelDw2Ideal.main_v4_1) = v1 c
          ∧ r.2.mem ((c.tc : Thread Cert.KernelDw2Ideal.nD Cert.KernelDw2Ideal.τ).loc Cert.KernelDw2Ideal.main_arg0) = m ((c.tc : Thread Cert.KernelDw2Ideal.nD Cert.KernelDw2Ideal.τ).loc Cert.KernelDw2Ideal.main_arg0)
          ∧ r.2.mem ((c.tc : Thread Cert.KernelDw2Ideal.nD Cert.KernelDw2Ideal.τ).loc Cert.KernelDw2Ideal.main_arg1) = m ((c.tc : Thread Cert.KernelDw2Ideal.nD Cert.KernelDw2Ideal.τ).loc Cert.KernelDw2Ideal.main_arg1)
          ∧ r.2.mem ((c.tc : Thread Cert.KernelDw2Ideal.nD Cert.KernelDw2Ideal.τ).loc Cert.KernelDw2Ideal.main_arg2) = m ((c.tc : Thread Cert.KernelDw2Ideal.nD Cert.KernelDw2Ideal.τ).loc Cert.KernelDw2Ideal.main_arg2)
          ∧ r.2.mem ((c.tc : Thread Cert.KernelDw2Ideal.nD Cert.KernelDw2Ideal.τ).loc Cert.KernelDw2Ideal.main_arg3) = m ((c.tc : Thread Cert.KernelDw2Ideal.nD Cert.KernelDw2Ideal.τ).loc Cert.KernelDw2Ideal.main_arg3))
      ∧ θ_run (Cert.ReferenceDw2Ideal.defs (F := Ideal)) (onTc (τ := Cert.ReferenceDw2Ideal.τ) (Cert.ReferenceDw2Ideal.main (F := Ideal))) ⟨m', fun _ => 0, g'⟩ (fun r => ∀ c : Dev Cert.ReferenceDw2Ideal.nD,
          r.2.mem ((c.tc : Thread Cert.ReferenceDw2Ideal.nD Cert.ReferenceDw2Ideal.τ).loc Cert.ReferenceDw2Ideal.main_v3_0) = v0 c
          ∧ r.2.mem ((c.tc : Thread Cert.ReferenceDw2Ideal.nD Cert.ReferenceDw2Ideal.τ).loc Cert.ReferenceDw2Ideal.main_v3_1) = v1 c
          ∧ r.2.mem ((c.tc : Thread Cert.ReferenceDw2Ideal.nD Cert.ReferenceDw2Ideal.τ).loc Cert.ReferenceDw2Ideal.main_arg0) = m' ((c.tc : Thread Cert.ReferenceDw2Ideal.nD Cert.ReferenceDw2Ideal.τ).loc Cert.ReferenceDw2Ideal.main_arg0)
          ∧ r.2.mem ((c.tc : Thread Cert.ReferenceDw2Ideal.nD Cert.ReferenceDw2Ideal.τ).loc Cert.ReferenceDw2Ideal.main_arg1) = m' ((c.tc : Thread Cert.ReferenceDw2Ideal.nD Cert.ReferenceDw2Ideal.τ).loc Cert.ReferenceDw2Ideal.main_arg1)
          ∧ r.2.mem ((c.tc : Thread Cert.ReferenceDw2Ideal.nD Cert.ReferenceDw2Ideal.τ).loc Cert.ReferenceDw2Ideal.main_arg2) = m' ((c.tc : Thread Cert.ReferenceDw2Ideal.nD Cert.ReferenceDw2Ideal.τ).loc Cert.ReferenceDw2Ideal.main_arg2)
          ∧ r.2.mem ((c.tc : Thread Cert.ReferenceDw2Ideal.nD Cert.ReferenceDw2Ideal.τ).loc Cert.ReferenceDw2Ideal.main_arg3) = m' ((c.tc : Thread Cert.ReferenceDw2Ideal.nD Cert.ReferenceDw2Ideal.τ).loc Cert.ReferenceDw2Ideal.main_arg3))

def Claim : Prop :=
  ∃ (hKernelRows : Cert.KernelRows.Facts) (hKernelRowsIdeal : Cert.KernelRowsIdeal.Facts) (hReferenceRowsIdeal : Cert.ReferenceRowsIdeal.Facts) (hKernelDx : Cert.KernelDx.Facts) (hKernelDxIdeal : Cert.KernelDxIdeal.Facts) (hReferenceDxIdeal : Cert.ReferenceDxIdeal.Facts) (hKernelDw1 : Cert.KernelDw1.Facts) (hKernelDw1Ideal : Cert.KernelDw1Ideal.Facts) (hReferenceDw1Ideal : Cert.ReferenceDw1Ideal.Facts) (hKernelDw2 : Cert.KernelDw2.Facts) (hKernelDw2Ideal : Cert.KernelDw2Ideal.Facts) (hReferenceDw2Ideal : Cert.ReferenceDw2Ideal.Facts),
    quiescent_KernelRows (hKernelRows := hKernelRows)
    ∧ quiescent_KernelRowsIdeal (hKernelRowsIdeal := hKernelRowsIdeal)
    ∧ quiescent_ReferenceRowsIdeal (hReferenceRowsIdeal := hReferenceRowsIdeal)
    ∧ quiescent_KernelDx (hKernelDx := hKernelDx)
    ∧ quiescent_KernelDxIdeal (hKernelDxIdeal := hKernelDxIdeal)
    ∧ quiescent_ReferenceDxIdeal (hReferenceDxIdeal := hReferenceDxIdeal)
    ∧ quiescent_KernelDw1 (hKernelDw1 := hKernelDw1)
    ∧ quiescent_KernelDw1Ideal (hKernelDw1Ideal := hKernelDw1Ideal)
    ∧ quiescent_ReferenceDw1Ideal (hReferenceDw1Ideal := hReferenceDw1Ideal)
    ∧ quiescent_KernelDw2 (hKernelDw2 := hKernelDw2)
    ∧ quiescent_KernelDw2Ideal (hKernelDw2Ideal := hKernelDw2Ideal)
    ∧ quiescent_ReferenceDw2Ideal (hReferenceDw2Ideal := hReferenceDw2Ideal)
    ∧ preserves_KernelRows_KernelRowsIdeal
    ∧ algebraic_KernelRowsIdeal_ReferenceRowsIdeal (hKernelRowsIdeal := hKernelRowsIdeal) (hReferenceRowsIdeal := hReferenceRowsIdeal)
    ∧ preserves_KernelDx_KernelDxIdeal
    ∧ algebraic_KernelDxIdeal_ReferenceDxIdeal (hKernelDxIdeal := hKernelDxIdeal) (hReferenceDxIdeal := hReferenceDxIdeal)
    ∧ preserves_KernelDw1_KernelDw1Ideal
    ∧ algebraic_KernelDw1Ideal_ReferenceDw1Ideal (hKernelDw1Ideal := hKernelDw1Ideal) (hReferenceDw1Ideal := hReferenceDw1Ideal)
    ∧ preserves_KernelDw2_KernelDw2Ideal
    ∧ algebraic_KernelDw2Ideal_ReferenceDw2Ideal (hKernelDw2Ideal := hKernelDw2Ideal) (hReferenceDw2Ideal := hReferenceDw2Ideal)
-- ==== KernelRows.lean ====
abbrev S1x8192x3072 : Shape := ⟨3, ![1, 8192, 3072]⟩
abbrev S1x8192x8192 : Shape := ⟨3, ![1, 8192, 8192]⟩
abbrev S4096x3072 : Shape := ⟨2, ![4096, 3072]⟩
abbrev S_ : Shape := ⟨0, ![]⟩
abbrev S8192x3072 : Shape := ⟨2, ![8192, 3072]⟩
abbrev S8192x8192 : Shape := ⟨2, ![8192, 8192]⟩
abbrev S1 : Shape := ⟨1, ![1]⟩
abbrev S1x8192 : Shape := ⟨2, ![1, 8192]⟩
abbrev S1x3072 : Shape := ⟨2, ![1, 3072]⟩
abbrev S256x3072 : Shape := ⟨2, ![256, 3072]⟩
abbrev S256x8192 : Shape := ⟨2, ![256, 8192]⟩
abbrev S1x256 : Shape := ⟨2, ![1, 256]⟩
abbrev S8x3072 : Shape := ⟨2, ![8, 3072]⟩
abbrev S8x8192 : Shape := ⟨2, ![8, 8192]⟩
abbrev S256x256 : Shape := ⟨2, ![256, 256]⟩
abbrev S256x128 : Shape := ⟨2, ![256, 128]⟩
abbrev S8x256 : Shape := ⟨2, ![8, 256]⟩
abbrev S32x8x256 : Shape := ⟨3, ![32, 8, 256]⟩
abbrev S256 : Shape := ⟨1, ![256]⟩
abbrev S256x1 : Shape := ⟨2, ![256, 1]⟩
abbrev S128x256 : Shape := ⟨2, ![128, 256]⟩
abbrev S3072 : Shape := ⟨1, ![3072]⟩
abbrev S8192 : Shape := ⟨1, ![8192]⟩

abbrev nBuf : Space → Nat
  | .hbm => 14
  | .vmem => 19
  | .smem => 1
  | _ => 0

abbrev bufTy : (tb : Table) → Fin (tcTables nBuf tb) → BufTy
  | .hbm, ⟨0, _⟩ => ⟨S1x8192x3072, .bf16⟩
  | .hbm, ⟨1, _⟩ => ⟨S1x8192x8192, .bf16⟩
  | .hbm, ⟨2, _⟩ => ⟨S4096x3072, .fp8e4m3⟩
  | .hbm, ⟨3, _⟩ => ⟨S_, .f32⟩
  | .hbm, ⟨4, _⟩ => ⟨S8192x3072, .bf16⟩
  | .hbm, ⟨5, _⟩ => ⟨S8192x8192, .bf16⟩
  | .hbm, ⟨6, _⟩ => ⟨S1, .f32⟩
  | .hbm, ⟨7, _⟩ => ⟨S8192x3072, .fp8e5m2⟩
  | .hbm, ⟨8, _⟩ => ⟨S1x8192, .f32⟩
  | .hbm, ⟨9, _⟩ => ⟨S1x3072, .f32⟩
  | .hbm, ⟨10, _⟩ => ⟨S8192x8192, .bf16⟩
  | .hbm, ⟨11, _⟩ => ⟨S8192x8192, .fp8e5m2⟩
  | .hbm, ⟨12, _⟩ => ⟨S1x8192, .f32⟩
  | .hbm, ⟨13, _⟩ => ⟨S1x8192, .f32⟩
  | .local _ .vmem, ⟨0, _⟩ => ⟨S256x3072, .bf16⟩
  | .local _ .vmem, ⟨1, _⟩ => ⟨S256x3072, .bf16⟩
  | .local _ .vmem, ⟨2, _⟩ => ⟨S256x8192, .bf16⟩
  | .local _ .vmem, ⟨3, _⟩ => ⟨S256x8192, .bf16⟩
  | .local _ .vmem, ⟨4, _⟩ => ⟨S4096x3072, .fp8e4m3⟩
  | .local _ .vmem, ⟨5, _⟩ => ⟨S256x3072, .fp8e5m2⟩
  | .local _ .vmem, ⟨6, _⟩ => ⟨S256x3072, .fp8e5m2⟩
  | .local _ .vmem, ⟨7, _⟩ => ⟨S1x256, .f32⟩
  | .local _ .vmem, ⟨8, _⟩ => ⟨S1x256, .f32⟩
  | .local _ .vmem, ⟨9, _⟩ => ⟨S1x3072, .f32⟩
  | .local _ .vmem, ⟨10, _⟩ => ⟨S256x8192, .bf16⟩
  | .local _ .vmem, ⟨11, _⟩ => ⟨S256x8192, .bf16⟩
  | .local _ .vmem, ⟨12, _⟩ => ⟨S256x8192, .fp8e5m2⟩
  | .local _ .vmem, ⟨13, _⟩ => ⟨S256x8192, .fp8e5m2⟩
  | .local _ .vmem, ⟨14, _⟩ => ⟨S1x256, .f32⟩
  | .local _ .vmem, ⟨15, _⟩ => ⟨S1x256, .f32⟩
  | .local _ .vmem, ⟨16, _⟩ => ⟨S1x8192, .f32⟩
  | .local _ .vmem, ⟨17, _⟩ => ⟨S8x3072, .f32⟩
  | .local _ .vmem, ⟨18, _⟩ => ⟨S8x8192, .f32⟩
  | .local _ .smem, ⟨0, _⟩ => ⟨S1, .f32⟩
  | _, _ => ⟨S1x8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .smem, ⟨0, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev main_v3_4 : Ref sig .tc := ⟨.hbm, 11, rfl⟩
abbrev main_v3_5 : Ref sig .tc := ⟨.hbm, 12, rfl⟩
abbrev main_v3_6 : Ref sig .tc := ⟨.hbm, 13, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_scratch0 : Ref sig .tc := ⟨.vmem, 17, rfl⟩
abbrev cc0_scratch1 : Ref sig .tc := ⟨.vmem, 18, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v2742 : BitVec 1 := Scalar.cmpi .eq arg0 c31_i32
  let v2743 : BitVec 32 := Scalar.extui v2742
  let c0_i32_1101 : BitVec 32 := 0#32
  let v2744 : BitVec 1 := Scalar.cmpi .ne v2743 c0_i32_1101
  v2744

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x8192 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4096x3072 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x3072 .fp8e5m2 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x8192 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x8192 .fp8e5m2 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x8192 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceRowsIdeal.lean ====
abbrev S1x8192x3072 : Shape := ⟨3, ![1, 8192, 3072]⟩
abbrev S1x8192x8192 : Shape := ⟨3, ![1, 8192, 8192]⟩
abbrev S4096x3072 : Shape := ⟨2, ![4096, 3072]⟩
abbrev S_ : Shape := ⟨0, ![]⟩
abbrev S8192x3072 : Shape := ⟨2, ![8192, 3072]⟩
abbrev S8192x8192 : Shape := ⟨2, ![8192, 8192]⟩
abbrev S1x1 : Shape := ⟨2, ![1, 1]⟩
abbrev S1x8192 : Shape := ⟨2, ![1, 8192]⟩
abbrev S1x3072 : Shape := ⟨2, ![1, 3072]⟩
abbrev S8192 : Shape := ⟨1, ![8192]⟩
abbrev S8192x1 : Shape := ⟨2, ![8192, 1]⟩
abbrev S1x239 : Shape := ⟨2, ![1, 239]⟩
abbrev S8192x239 : Shape := ⟨2, ![8192, 239]⟩
abbrev S3072 : Shape := ⟨1, ![3072]⟩
abbrev S239x1 : Shape := ⟨2, ![239, 1]⟩
abbrev S239x3072 : Shape := ⟨2, ![239, 3072]⟩
abbrev S8192x4096 : Shape := ⟨2, ![8192, 4096]⟩
abbrev S239x8192 : Shape := ⟨2, ![239, 8192]⟩

abbrev nBuf : Space → Nat
  | .hbm => 14
  | .vmem => 11
  | .smem => 0
  | _ => 0

abbrev bufTy : (tb : Table) → Fin (tcTables nBuf tb) → BufTy
  | .hbm, ⟨0, _⟩ => ⟨S1x8192x3072, .bf16⟩
  | .hbm, ⟨1, _⟩ => ⟨S1x8192x8192, .bf16⟩
  | .hbm, ⟨2, _⟩ => ⟨S4096x3072, .fp8e4m3⟩
  | .hbm, ⟨3, _⟩ => ⟨S_, .f32⟩
  | .hbm, ⟨4, _⟩ => ⟨S8192x3072, .bf16⟩
  | .hbm, ⟨5, _⟩ => ⟨S8192x8192, .bf16⟩
  | .hbm, ⟨6, _⟩ => ⟨S1x1, .f32⟩
  | .hbm, ⟨7, _⟩ => ⟨S8192x3072, .fp8e5m2⟩
  | .hbm, ⟨8, _⟩ => ⟨S1x8192, .f32⟩
  | .hbm, ⟨9, _⟩ => ⟨S1x3072, .f32⟩
  | .hbm, ⟨10, _⟩ => ⟨S8192x8192, .bf16⟩
  | .hbm, ⟨11, _⟩ => ⟨S8192x8192, .fp8e5m2⟩
  | .hbm, ⟨12, _⟩ => ⟨S1x8192, .f32⟩
  | .hbm, ⟨13, _⟩ => ⟨S1x8192, .f32⟩
  | .local _ .vmem, ⟨0, _⟩ => ⟨S8192x3072, .bf16⟩
  | .local _ .vmem, ⟨1, _⟩ => ⟨S8192x8192, .bf16⟩
  | .local _ .vmem, ⟨2, _⟩ => ⟨S4096x3072, .fp8e4m3⟩
  | .local _ .vmem, ⟨3, _⟩ => ⟨S1x1, .f32⟩
  | .local _ .vmem, ⟨4, _⟩ => ⟨S8192x3072, .fp8e5m2⟩
  | .local _ .vmem, ⟨5, _⟩ => ⟨S1x8192, .f32⟩
  | .local _ .vmem, ⟨6, _⟩ => ⟨S1x3072, .f32⟩
  | .local _ .vmem, ⟨7, _⟩ => ⟨S8192x8192, .bf16⟩
  | .local _ .vmem, ⟨8, _⟩ => ⟨S8192x8192, .fp8e5m2⟩
  | .local _ .vmem, ⟨9, _⟩ => ⟨S1x8192, .f32⟩
  | .local _ .vmem, ⟨10, _⟩ => ⟨S1x8192, .f32⟩
  | _, _ => ⟨S1x8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev main_v3_4 : Ref sig .tc := ⟨.hbm, 11, rfl⟩
abbrev main_v3_5 : Ref sig .tc := ⟨.hbm, 12, rfl⟩
abbrev main_v3_6 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S8192x3072 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x8192 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x3072 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8192x3072 .fp8e5m2 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x8192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8192x8192 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8192x8192 .fp8e5m2 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x8192 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x8192 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== KernelDx.lean ====
abbrev S8192x8192 : Shape := ⟨2, ![8192, 8192]⟩
abbrev S1x8192 : Shape := ⟨2, ![1, 8192]⟩
abbrev S3072x8192 : Shape := ⟨2, ![3072, 8192]⟩
abbrev S_ : Shape := ⟨0, ![]⟩
abbrev S1 : Shape := ⟨1, ![1]⟩
abbrev S8192x3072 : Shape := ⟨2, ![8192, 3072]⟩
abbrev S512x8192 : Shape := ⟨2, ![512, 8192]⟩
abbrev S1x512 : Shape := ⟨2, ![1, 512]⟩
abbrev S512x3072 : Shape := ⟨2, ![512, 3072]⟩
abbrev S128x512 : Shape := ⟨2, ![128, 512]⟩
abbrev S512x128 : Shape := ⟨2, ![512, 128]⟩
abbrev S512x256 : Shape := ⟨2, ![512, 256]⟩
abbrev S256x8192 : Shape := ⟨2, ![256, 8192]⟩

abbrev nBuf : Space → Nat
  | .hbm => 6
  | .vmem => 7
  | .smem => 1
  | _ => 0

abbrev bufTy : (tb : Table) → Fin (tcTables nBuf tb) → BufTy
  | .hbm, ⟨0, _⟩ => ⟨S8192x8192, .fp8e5m2⟩
  | .hbm, ⟨1, _⟩ => ⟨S1x8192, .f32⟩
  | .hbm, ⟨2, _⟩ => ⟨S3072x8192, .fp8e4m3⟩
  | .hbm, ⟨3, _⟩ => ⟨S_, .f32⟩
  | .hbm, ⟨4, _⟩ => ⟨S1, .f32⟩
  | .hbm, ⟨5, _⟩ => ⟨S8192x3072, .bf16⟩
  | .local _ .vmem, ⟨0, _⟩ => ⟨S512x8192, .fp8e5m2⟩
  | .local _ .vmem, ⟨1, _⟩ => ⟨S512x8192, .fp8e5m2⟩
  | .local _ .vmem, ⟨2, _⟩ => ⟨S1x512, .f32⟩
  | .local _ .vmem, ⟨3, _⟩ => ⟨S1x512, .f32⟩
  | .local _ .vmem, ⟨4, _⟩ => ⟨S3072x8192, .fp8e4m3⟩
  | .local _ .vmem, ⟨5, _⟩ => ⟨S512x3072, .bf16⟩
  | .local _ .vmem, ⟨6, _⟩ => ⟨S512x3072, .bf16⟩
  | .local _ .smem, ⟨0, _⟩ => ⟨S1, .f32⟩
  | _, _ => ⟨S8192x8192, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x8192 .fp8e5m2 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3072x8192 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceDxIdeal.lean ====
abbrev S8192x8192 : Shape := ⟨2, ![8192, 8192]⟩
abbrev S1x8192 : Shape := ⟨2, ![1, 8192]⟩
abbrev S3072x8192 : Shape := ⟨2, ![3072, 8192]⟩
abbrev S_ : Shape := ⟨0, ![]⟩
abbrev S8192x1 : Shape := ⟨2, ![8192, 1]⟩
abbrev S1x1 : Shape := ⟨2, ![1, 1]⟩
abbrev S8192x3072 : Shape := ⟨2, ![8192, 3072]⟩

abbrev nBuf : Space → Nat
  | .hbm => 7
  | .vmem => 5
  | .smem => 0
  | _ => 0

abbrev bufTy : (tb : Table) → Fin (tcTables nBuf tb) → BufTy
  | .hbm, ⟨0, _⟩ => ⟨S8192x8192, .fp8e5m2⟩
  | .hbm, ⟨1, _⟩ => ⟨S1x8192, .f32⟩
  | .hbm, ⟨2, _⟩ => ⟨S3072x8192, .fp8e4m3⟩
  | .hbm, ⟨3, _⟩ => ⟨S_, .f32⟩
  | .hbm, ⟨4, _⟩ => ⟨S8192x1, .f32⟩
  | .hbm, ⟨5, _⟩ => ⟨S1x1, .f32⟩
  | .hbm, ⟨6, _⟩ => ⟨S8192x3072, .bf16⟩
  | .local _ .vmem, ⟨0, _⟩ => ⟨S8192x8192, .fp8e5m2⟩
  | .local _ .vmem, ⟨1, _⟩ => ⟨S8192x1, .f32⟩
  | .local _ .vmem, ⟨2, _⟩ => ⟨S3072x8192, .fp8e4m3⟩
  | .local _ .vmem, ⟨3, _⟩ => ⟨S1x1, .f32⟩
  | .local _ .vmem, ⟨4, _⟩ => ⟨S8192x3072, .bf16⟩
  | _, _ => ⟨S8192x8192, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S8192x8192 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3072x8192 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8192x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== KernelDw1.lean ====
abbrev S1x8192x3072 : Shape := ⟨3, ![1, 8192, 3072]⟩
abbrev S3072 : Shape := ⟨1, ![3072]⟩
abbrev S8192x8192 : Shape := ⟨2, ![8192, 8192]⟩
abbrev S1x8192 : Shape := ⟨2, ![1, 8192]⟩
abbrev S8192x3072 : Shape := ⟨2, ![8192, 3072]⟩
abbrev S3072x8192 : Shape := ⟨2, ![3072, 8192]⟩
abbrev S1x3072 : Shape := ⟨2, ![1, 3072]⟩
abbrev S8192x512 : Shape := ⟨2, ![8192, 512]⟩
abbrev S1x512 : Shape := ⟨2, ![1, 512]⟩
abbrev S3072x512 : Shape := ⟨2, ![3072, 512]⟩
abbrev S16x512 : Shape := ⟨2, ![16, 512]⟩
abbrev S256x512 : Shape := ⟨2, ![256, 512]⟩
abbrev S512x8192 : Shape := ⟨2, ![512, 8192]⟩
abbrev S512x512 : Shape := ⟨2, ![512, 512]⟩
abbrev S128x512 : Shape := ⟨2, ![128, 512]⟩
abbrev S512x128 : Shape := ⟨2, ![512, 128]⟩

abbrev nBuf : Space → Nat
  | .hbm => 9
  | .vmem => 10
  | .smem => 0
  | _ => 0

abbrev bufTy : (tb : Table) → Fin (tcTables nBuf tb) → BufTy
  | .hbm, ⟨0, _⟩ => ⟨S1x8192x3072, .fp8e4m3⟩
  | .hbm, ⟨1, _⟩ => ⟨S3072, .f32⟩
  | .hbm, ⟨2, _⟩ => ⟨S8192x8192, .bf16⟩
  | .hbm, ⟨3, _⟩ => ⟨S1x8192, .f32⟩
  | .hbm, ⟨4, _⟩ => ⟨S8192x3072, .fp8e4m3⟩
  | .hbm, ⟨5, _⟩ => ⟨S3072x8192, .fp8e4m3⟩
  | .hbm, ⟨6, _⟩ => ⟨S1x3072, .f32⟩
  | .hbm, ⟨7, _⟩ => ⟨S8192x8192, .fp8e5m2⟩
  | .hbm, ⟨8, _⟩ => ⟨S3072x8192, .bf16⟩
  | .local _ .vmem, ⟨0, _⟩ => ⟨S3072x8192, .fp8e4m3⟩
  | .local _ .vmem, ⟨1, _⟩ => ⟨S1x3072, .f32⟩
  | .local _ .vmem, ⟨2, _⟩ => ⟨S8192x512, .bf16⟩
  | .local _ .vmem, ⟨3, _⟩ => ⟨S8192x512, .bf16⟩
  | .local _ .vmem, ⟨4, _⟩ => ⟨S1x512, .f32⟩
  | .local _ .vmem, ⟨5, _⟩ => ⟨S1x512, .f32⟩
  | .local _ .vmem, ⟨6, _⟩ => ⟨S8192x512, .fp8e5m2⟩
  | .local _ .vmem, ⟨7, _⟩ => ⟨S8192x512, .fp8e5m2⟩
  | .local _ .vmem, ⟨8, _⟩ => ⟨S3072x512, .bf16⟩
  | .local _ .vmem, ⟨9, _⟩ => ⟨S3072x512, .bf16⟩
  | _, _ => ⟨S1x8192x3072, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S3072x8192 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8192x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8192x512 .fp8e5m2 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S3072x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceDw1Ideal.lean ====
abbrev S1x8192x3072 : Shape := ⟨3, ![1, 8192, 3072]⟩
abbrev S3072 : Shape := ⟨1, ![3072]⟩
abbrev S8192x8192 : Shape := ⟨2, ![8192, 8192]⟩
abbrev S1x8192 : Shape := ⟨2, ![1, 8192]⟩
abbrev S8192x3072 : Shape := ⟨2, ![8192, 3072]⟩
abbrev S3072x1 : Shape := ⟨2, ![3072, 1]⟩
abbrev S3072x8192 : Shape := ⟨2, ![3072, 8192]⟩

abbrev nBuf : Space → Nat
  | .hbm => 8
  | .vmem => 6
  | .smem => 0
  | _ => 0

abbrev bufTy : (tb : Table) → Fin (tcTables nBuf tb) → BufTy
  | .hbm, ⟨0, _⟩ => ⟨S1x8192x3072, .fp8e4m3⟩
  | .hbm, ⟨1, _⟩ => ⟨S3072, .f32⟩
  | .hbm, ⟨2, _⟩ => ⟨S8192x8192, .bf16⟩
  | .hbm, ⟨3, _⟩ => ⟨S1x8192, .f32⟩
  | .hbm, ⟨4, _⟩ => ⟨S8192x3072, .fp8e4m3⟩
  | .hbm, ⟨5, _⟩ => ⟨S3072x1, .f32⟩
  | .hbm, ⟨6, _⟩ => ⟨S8192x8192, .fp8e5m2⟩
  | .hbm, ⟨7, _⟩ => ⟨S3072x8192, .bf16⟩
  | .local _ .vmem, ⟨0, _⟩ => ⟨S8192x3072, .fp8e4m3⟩
  | .local _ .vmem, ⟨1, _⟩ => ⟨S3072x1, .f32⟩
  | .local _ .vmem, ⟨2, _⟩ => ⟨S8192x8192, .bf16⟩
  | .local _ .vmem, ⟨3, _⟩ => ⟨S1x8192, .f32⟩
  | .local _ .vmem, ⟨4, _⟩ => ⟨S8192x8192, .fp8e5m2⟩
  | .local _ .vmem, ⟨5, _⟩ => ⟨S3072x8192, .bf16⟩
  | _, _ => ⟨S1x8192x3072, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S8192x3072 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3072x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192x8192 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8192x8192 .fp8e5m2 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3072x8192 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelDw2.lean ====
abbrev S1x8192x4096 : Shape := ⟨3, ![1, 8192, 4096]⟩
abbrev S4096 : Shape := ⟨1, ![4096]⟩
abbrev S1x8192x3072 : Shape := ⟨3, ![1, 8192, 3072]⟩
abbrev S1x3072 : Shape := ⟨2, ![1, 3072]⟩
abbrev S8192x4096 : Shape := ⟨2, ![8192, 4096]⟩
abbrev S4096x8192 : Shape := ⟨2, ![4096, 8192]⟩
abbrev S1x4096 : Shape := ⟨2, ![1, 4096]⟩
abbrev S8192x3072 : Shape := ⟨2, ![8192, 3072]⟩
abbrev S4096x3072 : Shape := ⟨2, ![4096, 3072]⟩
abbrev S8192x256 : Shape := ⟨2, ![8192, 256]⟩
abbrev S1x256 : Shape := ⟨2, ![1, 256]⟩
abbrev S4096x256 : Shape := ⟨2, ![4096, 256]⟩
abbrev S16x256 : Shape := ⟨2, ![16, 256]⟩
abbrev S256x256 : Shape := ⟨2, ![256, 256]⟩
abbrev S512x8192 : Shape := ⟨2, ![512, 8192]⟩
abbrev S512x256 : Shape := ⟨2, ![512, 256]⟩
abbrev S1x512 : Shape := ⟨2, ![1, 512]⟩
abbrev S128x512 : Shape := ⟨2, ![128, 512]⟩
abbrev S512x128 : Shape := ⟨2, ![512, 128]⟩

abbrev nBuf : Space → Nat
  | .hbm => 10
  | .vmem => 10
  | .smem => 0
  | _ => 0

abbrev bufTy : (tb : Table) → Fin (tcTables nBuf tb) → BufTy
  | .hbm, ⟨0, _⟩ => ⟨S1x8192x4096, .fp8e4m3⟩
  | .hbm, ⟨1, _⟩ => ⟨S4096, .f32⟩
  | .hbm, ⟨2, _⟩ => ⟨S1x8192x3072, .bf16⟩
  | .hbm, ⟨3, _⟩ => ⟨S1x3072, .f32⟩
  | .hbm, ⟨4, _⟩ => ⟨S8192x4096, .fp8e4m3⟩
  | .hbm, ⟨5, _⟩ => ⟨S4096x8192, .fp8e4m3⟩
  | .hbm, ⟨6, _⟩ => ⟨S1x4096, .f32⟩
  | .hbm, ⟨7, _⟩ => ⟨S8192x3072, .bf16⟩
  | .hbm, ⟨8, _⟩ => ⟨S8192x3072, .fp8e5m2⟩
  | .hbm, ⟨9, _⟩ => ⟨S4096x3072, .bf16⟩
  | .local _ .vmem, ⟨0, _⟩ => ⟨S4096x8192, .fp8e4m3⟩
  | .local _ .vmem, ⟨1, _⟩ => ⟨S1x4096, .f32⟩
  | .local _ .vmem, ⟨2, _⟩ => ⟨S8192x256, .bf16⟩
  | .local _ .vmem, ⟨3, _⟩ => ⟨S8192x256, .bf16⟩
  | .local _ .vmem, ⟨4, _⟩ => ⟨S1x256, .f32⟩
  | .local _ .vmem, ⟨5, _⟩ => ⟨S1x256, .f32⟩
  | .local _ .vmem, ⟨6, _⟩ => ⟨S8192x256, .fp8e5m2⟩
  | .local _ .vmem, ⟨7, _⟩ => ⟨S8192x256, .fp8e5m2⟩
  | .local _ .vmem, ⟨8, _⟩ => ⟨S4096x256, .bf16⟩
  | .local _ .vmem, ⟨9, _⟩ => ⟨S4096x256, .bf16⟩
  | _, _ => ⟨S1x8192x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S4096x8192 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8192x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8192x256 .fp8e5m2 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceDw2Ideal.lean ====
abbrev S1x8192x4096 : Shape := ⟨3, ![1, 8192, 4096]⟩
abbrev S4096 : Shape := ⟨1, ![4096]⟩
abbrev S1x8192x3072 : Shape := ⟨3, ![1, 8192, 3072]⟩
abbrev S1x3072 : Shape := ⟨2, ![1, 3072]⟩
abbrev S8192x4096 : Shape := ⟨2, ![8192, 4096]⟩
abbrev S8192x3072 : Shape := ⟨2, ![8192, 3072]⟩
abbrev S4096x1 : Shape := ⟨2, ![4096, 1]⟩
abbrev S4096x3072 : Shape := ⟨2, ![4096, 3072]⟩

abbrev nBuf : Space → Nat
  | .hbm => 9
  | .vmem => 6
  | .smem => 0
  | _ => 0

abbrev bufTy : (tb : Table) → Fin (tcTables nBuf tb) → BufTy
  | .hbm, ⟨0, _⟩ => ⟨S1x8192x4096, .fp8e4m3⟩
  | .hbm, ⟨1, _⟩ => ⟨S4096, .f32⟩
  | .hbm, ⟨2, _⟩ => ⟨S1x8192x3072, .bf16⟩
  | .hbm, ⟨3, _⟩ => ⟨S1x3072, .f32⟩
  | .hbm, ⟨4, _⟩ => ⟨S8192x4096, .fp8e4m3⟩
  | .hbm, ⟨5, _⟩ => ⟨S8192x3072, .bf16⟩
  | .hbm, ⟨6, _⟩ => ⟨S4096x1, .f32⟩
  | .hbm, ⟨7, _⟩ => ⟨S8192x3072, .fp8e5m2⟩
  | .hbm, ⟨8, _⟩ => ⟨S4096x3072, .bf16⟩
  | .local _ .vmem, ⟨0, _⟩ => ⟨S8192x4096, .fp8e4m3⟩
  | .local _ .vmem, ⟨1, _⟩ => ⟨S4096x1, .f32⟩
  | .local _ .vmem, ⟨2, _⟩ => ⟨S8192x3072, .bf16⟩
  | .local _ .vmem, ⟨3, _⟩ => ⟨S1x3072, .f32⟩
  | .local _ .vmem, ⟨4, _⟩ => ⟨S8192x3072, .fp8e5m2⟩
  | .local _ .vmem, ⟨5, _⟩ => ⟨S4096x3072, .bf16⟩
  | _, _ => ⟨S1x8192x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S8192x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8192x3072 .fp8e5m2 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4096x3072 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.RowsOps.lean ====
/-
  The vector operations that one block of the rows kernel is made of, for any reading of the floats: a strip of 256 columns
  of dy or of the pre-activations, its largest magnitudes along rows and columns, the power-of-two scale of a column of
  maxima, the codes of a strip under a scale, and the two strips of dH that one strip of the pre-activations gives.
-/
module

public import proofs.«01_k».proof.Proof.Gen.KernelRowsIdeal.Frame.RunC

@[expose] public section

set_option maxRecDepth 16384

noncomputable section

namespace Cert.KernelRowsIdeal.Block

open Cert.KernelRowsIdeal Cert.KernelRowsIdeal.Gen Idealize.ShloMosaic Idealize.ShloMosaic.TcCoe Idealize.SL.Sem

variable {F : FTy → Type} [FloatOps F]

/-- A strip of 16-bit numbers, widened. -/
def wide (v : Vec F S256x256 .bf16) : FVec F S256x256 .f32 :=
  extf .f32 (shapeCast S256x256 v shapeCasts_S256x256_S256x256) bitsLt_bf16_f32

/-- The larger of the two halves of a strip. -/
def lane (a : FVec F S256x256 .f32) : FVec F S256x128 .f32 :=
  maximumf (extractStridedSlice S256x128 ![0, 0] a slices_S256x256_o0_0_S256x128)
    (extractStridedSlice S256x128 ![0, 128] a slices_S256x256_o0_128_S256x128)

/-- The largest of strips `0 … n`. -/
def foldMax (f : ℕ → FVec F S256x128 .f32) : ℕ → FVec F S256x128 .f32
  | 0 => f 0
  | n + 1 => maximumf (foldMax f n) (f (n + 1))

/-- The largest number of each row, over the largest code. -/
def ratio (a : FVec F S256x128 .f32) : FVec F S256x1 .f32 :=
  mulf (shapeCast S256x1 (multiReduction .maximumf [1] S256 a 0xFF800000#32 reduces_S256x128_S256 (.inl rfl) rfl) shapeCasts_S256_S256x1)
    (broadcast S256x1 (Scalar.ofBits .f32 0x37924925#32))

/-- The column maxima of a strip, joined to those of the rows before. -/
def joinMax (old : Vec F S8x256 .f32) (a : FVec F S256x256 .f32) : FVec F S8x256 .f32 :=
  shapeCast S8x256 (maximumf old (multiReduction .maximumf [0] S8x256 (shapeCast S32x8x256 a shapeCasts_S256x256_S32x8x256) 0xFF800000#32
    reduces_S32x8x256_S8x256 (.inl rfl) rfl)) shapeCasts_S8x256_S8x256

/-- The bisection for the exponent field. -/
def stepV {S : Shape} (p : FVec F S .f32) (k : BitVec 32) (n : IVec S 32) : IVec S 32 :=
  select (cmpf .oge p (bitcastToFloat .f32 (shli (addi n (broadcast S k)) (broadcast S 23#32)))) (addi n (broadcast S k)) n

def expoV {S : Shape} (p : FVec F S .f32) : IVec S 32 :=
  let n := minsi (stepV p 1#32 (stepV p 2#32 (stepV p 4#32 (stepV p 8#32 (stepV p 16#32 (stepV p 32#32 (stepV p 64#32
    (stepV p 128#32 (broadcast S 0#32))))))))) (broadcast S 239#32)
  select (cmpi .eq n (broadcast S 0#32)) (broadcast S 0#32) (subi n (broadcast S 126#32))

def scaleV {S : Shape} (p : FVec F S .f32) : FVec F S .f32 :=
  bitcastToFloat .f32 (shli (addi (expoV p) (broadcast S 127#32)) (broadcast S 23#32))

def invV {S : Shape} (p : FVec F S .f32) : FVec F S .f32 :=
  bitcastToFloat .f32 (shli (subi (broadcast S 127#32) (expoV p)) (broadcast S 23#32))

/-- A column of scales laid out as a row. -/
def asRow (s : FVec F S256x1 .f32) : FVec F S1x256 .f32 :=
  extractStridedSlice S1x256 ![0, 0] (transpose S128x256 [1, 0] (broadcastTo S256x128 (shapeCast S256x1 s shapeCasts_S256x1_S256x1)
    broadcasts_S256x1_S256x128) transposes_S256x128_p1_0_S128x256) slices_S128x256_o0_0_S1x256

/-- A column repeated over a strip. -/
def across (s : FVec F S256x1 .f32) : FVec F S256x256 .f32 :=
  broadcastTo S256x256 (shapeCast S256x1 s shapeCasts_S256x1_S256x1) broadcasts_S256x1_S256x256

/-- The codes of a strip under the inverse scales `i`. -/
def quant (i : FVec F S256x256 .bf16) (v : Vec F S256x256 .bf16) : FVec F S256x256 .fp8e5m2 :=
  truncf .fp8e5m2 (minimumf (broadcast S256x256 (Scalar.ofBits .bf16 0x4760#16)) (maximumf (broadcast S256x256 (Scalar.ofBits .bf16 0xC760#16))
    (mulf (shapeCast S256x256 v shapeCasts_S256x256_S256x256) i))) bitsLt_fp8e5m2_bf16

/-- The sigmoid. -/
def sigmoid (g : FVec F S256x256 .f32) : FVec F S256x256 .f32 :=
  divf (broadcast S256x256 (Scalar.ofBits .f32 0x3F800000#32)) (addf (broadcast S256x256 (Scalar.ofBits .f32 0x3F800000#32))
    (exp (subf (broadcast S256x256 (Scalar.ofBits .f32 0x00000000#32)) g)))

/-- The gradient of the second pre-activation … -/
def du (da g : FVec F S256x256 .f32) : FVec F S256x256 .f32 := mulf (mulf da (sigmoid g)) g

/-- … and of the gate. -/
def dg (da g u : FVec F S256x256 .f32) : FVec F S256x256 .f32 :=
  mulf (mulf (mulf da (sigmoid g)) u) (addf (broadcast S256x256 (Scalar.ofBits .f32 0x3F800000#32))
    (mulf g (subf (broadcast S256x256 (Scalar.ofBits .f32 0x3F800000#32)) (sigmoid g))))

def clipB (v : FVec F S256x256 .f32) : FVec F S256x256 .f32 :=
  minimumf (broadcast S256x256 (Scalar.ofBits .f32 0x7F7F0000#32)) (maximumf (broadcast S256x256 (Scalar.ofBits .f32 0xFF7F0000#32)) v)

def near (v : FVec F S256x256 .f32) : FVec F S256x256 .f32 := extf .f32 (truncf .bf16 v bitsLt_bf16_f32) bitsLt_bf16_f32

/-- The rounding to odd. -/
def odd (v : FVec F S256x256 .f32) : FVec F S256x256 .bf16 :=
  let a := clipB (near v)
  let b := clipB (near (mulf a (select (cmpf .ogt (absf v) (absf a)) (broadcast S256x256 (Scalar.ofBits .f32 0x3F80A000#32))
    (broadcast S256x256 (Scalar.ofBits .f32 0x3F7EC000#32)))))
  let h := select (cmpf .ogt (absf a) (broadcast S256x256 (Scalar.ofBits .f32 0x3F800000#32))) (broadcast S256x256 (Scalar.ofBits .f32 0x3F000000#32))
    (broadcast S256x256 (Scalar.ofBits .f32 0x3F800000#32))
  let even := mulf (near (addf (mulf h a) (mulf h b))) (divf (broadcast S256x256 (Scalar.ofBits .f32 0x3F000000#32)) h)
  truncf .bf16 (select (cmpf .oeq v (near v)) (near v) (select (cmpf .oeq even a) b a)) bitsLt_bf16_f32

/-! What one block computes, from its strips: `d` of dy, `w` of the weights, `g` and `u` of the pre-activations, the
    weights' scale `s`, and the codes `q` of dy. -/

section Block

variable (d g u : ℕ → Vec F S256x256 .bf16) (w : ℕ → Vec F S256x3072 .fp8e4m3) (s : Elt F .f32) (q : Vec F S256x3072 .fp8e5m2)

/-- The ratio that fixes the scale of each row of dy. -/
def dyRatio : FVec F S256x1 .f32 := ratio (foldMax (fun k => lane (absf (wide (d k)))) 11)

def dyInv : FVec F S256x256 .bf16 := truncf .bf16 (across (invV (dyRatio d))) bitsLt_bf16_f32

/-- Strip `k` of the gradient of the hidden layer. -/
def da (k : ℕ) : FVec F S256x256 .f32 :=
  mulf (matmul dot_S256x3072_S256x3072_S256x256_1_1_0_0_n_n none (shapeCast S256x3072 q shapeCasts_S256x3072_S256x3072) (w k)
    (constant S256x256 .f32 0x00000000#32)) (across (mulf (scaleV (dyRatio d)) (broadcast S256x1 s)))

def dgS (k : ℕ) : FVec F S256x256 .f32 := dg (da d w s q k) (wide (g k)) (wide (u k))
def duS (k : ℕ) : FVec F S256x256 .f32 := du (da d w s q k) (wide (g k))

/-- The ratio that fixes the scale of each row of dH. -/
def dhRatio : FVec F S256x1 .f32 :=
  ratio (foldMax (fun k => lane (maximumf (absf (dgS d g u w s q k)) (absf (duS d g w s q k)))) 15)

def dhInv : FVec F S256x256 .bf16 := truncf .bf16 (across (invV (dhRatio d g u w s q))) bitsLt_bf16_f32

end Block

/-! The strips, as they are read from the windows. -/

theorem inb_dy (k : ℕ) : ∀ b, (![0, 256 * (k % 12)] : Fin 2 → ℕ) b + S256x256.size b ≤ S256x3072.size b := by
  intro b
  have : k % 12 < 12 := Nat.mod_lt _ (by omega)
  fin_cases b
  · show 0 + 256 ≤ 256; omega
  · show 256 * (k % 12) + 256 ≤ 3072; omega

theorem inb_gu (k : ℕ) : ∀ b, (![0, 256 * (k % 32)] : Fin 2 → ℕ) b + S256x256.size b ≤ S256x8192.size b := by
  intro b
  have : k % 32 < 32 := Nat.mod_lt _ (by omega)
  fin_cases b
  · show 0 + 256 ≤ 256; omega
  · show 256 * (k % 32) + 256 ≤ 8192; omega

theorem inb_w (k : ℕ) : ∀ b, (![256 * (k % 16), 0] : Fin 2 → ℕ) b + S256x3072.size b ≤ S4096x3072.size b := by
  intro b
  have : k % 16 < 16 := Nat.mod_lt _ (by omega)
  fin_cases b
  · show 256 * (k % 16) + 256 ≤ 4096; omega
  · show 0 + 3072 ≤ 3072; omega

section Strips

variable (a1 : Memref sig .tc .smem S1 .f32) (h1 : a1.IsWhole) (a2 : Memref sig .tc .vmem S256x3072 .bf16) (h2 : a2.IsWhole)
  (a3 : Memref sig .tc .vmem S256x8192 .bf16) (h3 : a3.IsWhole) (a4 : Memref sig .tc .vmem S4096x3072 .fp8e4m3) (h4 : a4.IsWhole)
  (x0 : Vec F S1 .f32) (x1 : Vec F S256x3072 .bf16) (x2 : Vec F S256x8192 .bf16) (x3 : Vec F S4096x3072 .fp8e4m3)

def rdS : Elt F .f32 := View.readAt (Elt F) a1.view (Rect.unit (s := S1) ![0] S1.size inb_S1_S1_0).toLoadRect (h1.unread x0) (Shape.Idx.first (s := S1) (by decide))
def rdD (k : ℕ) : Vec F S256x256 .bf16 := View.readAt (Elt F) a2.view (Rect.unit (s := S256x3072) ![0, 256 * (k % 12)] S256x256.size (inb_dy k)).toLoadRect (h2.unread x1)
def rdG (k : ℕ) : Vec F S256x256 .bf16 := View.readAt (Elt F) a3.view (Rect.unit (s := S256x8192) ![0, 256 * (k % 32)] S256x256.size (inb_gu k)).toLoadRect (h3.unread x2)
def rdW (k : ℕ) : Vec F S256x3072 .fp8e4m3 := View.readAt (Elt F) a4.view (Rect.unit (s := S4096x3072) ![256 * (k % 16), 0] S256x3072.size (inb_w k)).toLoadRect (h4.unread x3)

end Strips

/-! The stores, strip by strip, the last first. -/

theorem inb_s0 (k : ℕ) : ∀ b, (![0, 256 * (k % 12)] : Fin 2 → ℕ) b + S8x256.size b ≤ S8x3072.size b := by
  intro b
  have : k % 12 < 12 := Nat.mod_lt _ (by omega)
  fin_cases b
  · show 0 + 8 ≤ 8; omega
  · show 256 * (k % 12) + 256 ≤ 3072; omega

theorem inb_s1 (k : ℕ) : ∀ b, (![0, 256 * (k % 32)] : Fin 2 → ℕ) b + S8x256.size b ≤ S8x8192.size b := by
  intro b
  have : k % 32 < 32 := Nat.mod_lt _ (by omega)
  fin_cases b
  · show 0 + 8 ≤ 8; omega
  · show 256 * (k % 32) + 256 ≤ 8192; omega

abbrev rectD (k : ℕ) : Rect S256x3072 := Rect.unit (s := S256x3072) ![0, 256 * (k % 12)] S256x256.size (inb_dy k)
abbrev rectG (k : ℕ) : Rect S256x8192 := Rect.unit (s := S256x8192) ![0, 256 * (k % 32)] S256x256.size (inb_gu k)
abbrev rectS (k : ℕ) : Rect S8x3072 := Rect.unit (s := S8x3072) ![0, 256 * (k % 12)] S8x256.size (inb_s0 k)
abbrev rectT (k : ℕ) : Rect S8x8192 := Rect.unit (s := S8x8192) ![0, 256 * (k % 32)] S8x256.size (inb_s1 k)

/-- Strips `0 … n - 1` of a block as wide as dy. -/
def putD {e : EltTy} (f : ℕ → Vec F S256x256 e) : ℕ → List (View.Piece (Elt F) S256x3072 e)
  | 0 => []
  | n + 1 => ⟨rectD n, f n⟩ :: putD f n

/-- Strips `0 … n - 1` of a block as wide as dH. -/
def putG {e : EltTy} (f : ℕ → Vec F S256x256 e) : ℕ → List (View.Piece (Elt F) S256x8192 e)
  | 0 => []
  | n + 1 => ⟨rectG n, f n⟩ :: putG f n

/-- Strips `0 … n - 1` of both halves of a block as wide as dH. -/
def putP {e : EltTy} (f g : ℕ → Vec F S256x256 e) : ℕ → List (View.Piece (Elt F) S256x8192 e)
  | 0 => []
  | n + 1 => ⟨rectG (n + 16), g n⟩ :: ⟨rectG n, f n⟩ :: putP f g n

/-- The column maxima of strips `0 … n - 1`, joined to those found by `old` over the stores before, which start at `L`. -/
def joinD (L : List (View.Piece (Elt F) S8x3072 .f32)) (old : List (View.Piece (Elt F) S8x3072 .f32) → ℕ → Vec F S8x256 .f32)
    (f : ℕ → FVec F S256x256 .f32) : ℕ → List (View.Piece (Elt F) S8x3072 .f32)
  | 0 => L
  | n + 1 => ⟨rectS n, joinMax (old (joinD L old f n) n) (absf (f n))⟩ :: joinD L old f n

def joinG (L : List (View.Piece (Elt F) S8x8192 .f32)) (old : List (View.Piece (Elt F) S8x8192 .f32) → ℕ → Vec F S8x256 .f32)
    (f g : ℕ → FVec F S256x256 .f32) : ℕ → List (View.Piece (Elt F) S8x8192 .f32)
  | 0 => L
  | n + 1 =>
    let M := ⟨rectT n, joinMax (old (joinG L old f g n) n) (absf (f n))⟩ :: joinG L old f g n
    ⟨rectT (n + 16), joinMax (old M (n + 16)) (absf (g n))⟩ :: M

end Cert.KernelRowsIdeal.Block

end
-- ==== Proof.RowsRun.lean ====
/-
  What one grid point of the rows kernel stores, as lists of strips. At the first point the running column maxima start at
  zero; at the last one the column scales are written besides. All else is one text.
-/
module

public import proofs.«01_k».proof.Proof.RowsOps

@[expose] public section

set_option maxRecDepth 16384

noncomputable section

namespace Cert.KernelRowsIdeal.Block

open Cert.KernelRowsIdeal Cert.KernelRowsIdeal.Gen Idealize.ShloMosaic Idealize.ShloMosaic.TcCoe Idealize.SL.Sem

variable {F : FTy → Type} [FloatOps F]
variable (c : Dev nD) (i : grid0.Coords) (a1 : Memref sig .tc .smem S1 .f32) (h1 : a1.IsWhole)
  (a2 : Memref sig .tc .vmem S256x3072 .bf16) (h2 : a2.IsWhole)
  (a3 : Memref sig .tc .vmem S256x8192 .bf16) (h3 : a3.IsWhole)
  (a4 : Memref sig .tc .vmem S4096x3072 .fp8e4m3) (h4 : a4.IsWhole)
  (a5 : Memref sig .tc .vmem S256x3072 .fp8e5m2) (h5 : a5.IsWhole)
  (a6 : Memref sig .tc .vmem S1x256 .f32) (h6 : a6.IsWhole)
  (a7 : Memref sig .tc .vmem S1x3072 .f32) (h7 : a7.IsWhole)
  (a8 : Memref sig .tc .vmem S256x8192 .bf16) (h8 : a8.IsWhole)
  (a9 : Memref sig .tc .vmem S256x8192 .fp8e5m2) (h9 : a9.IsWhole)
  (a10 : Memref sig .tc .vmem S1x256 .f32) (h10 : a10.IsWhole)
  (a11 : Memref sig .tc .vmem S1x8192 .f32) (h11 : a11.IsWhole)
  (a12 : Memref sig .tc .vmem S8x3072 .f32) (h12 : a12.IsWhole)
  (a13 : Memref sig .tc .vmem S8x8192 .f32) (h13 : a13.IsWhole)
  (x0 : Vec F S1 .f32) (x1 : Vec F S256x3072 .bf16) (x2 : Vec F S256x8192 .bf16) (x3 : Vec F S4096x3072 .fp8e4m3)
  (xs0 : Vec F S8x3072 .f32) (xs1 : Vec F S8x8192 .f32)

/-! The lists. -/

def dyCodes : List (View.Piece (Elt F) S256x3072 .fp8e5m2) :=
  putD (fun k => quant (dyInv (rdD a2 h2 x1)) (rdD a2 h2 x1 k)) 12

def dyRow : List (View.Piece (Elt F) S1x256 .f32) :=
  [⟨Rect.unit (s := S1x256) ![0, 0] S1x256.size inb_S1x256_S1x256_0_0, asRow (scaleV (dyRatio (rdD a2 h2 x1)))⟩]

/-- The codes of dy, read back whole. -/
def dyBack : Vec F S256x3072 .fp8e5m2 :=
  a5.view.readCov (dyCodes a2 h2 x1) (Rect.unit (s := S256x3072) ![0, 0] S256x3072.size inb_S256x3072_S256x3072_0_0).toLoadRect

def gateS (k : ℕ) : FVec F S256x256 .f32 :=
  dgS (rdD a2 h2 x1) (rdG a3 h3 x2) (fun k => rdG a3 h3 x2 (k + 16)) (rdW a4 h4 x3) (rdS a1 h1 x0) (dyBack a2 h2 a5 x1) k

def upS (k : ℕ) : FVec F S256x256 .f32 :=
  duS (rdD a2 h2 x1) (rdG a3 h3 x2) (rdW a4 h4 x3) (rdS a1 h1 x0) (dyBack a2 h2 a5 x1) k

def dhStores : List (View.Piece (Elt F) S256x8192 .bf16) :=
  putP (fun k => odd (gateS a1 h1 a2 h2 a3 h3 a4 h4 a5 x0 x1 x2 x3 k)) (fun k => odd (upS a1 h1 a2 h2 a3 h3 a4 h4 a5 x0 x1 x2 x3 k)) 16

/-- A strip of dH, read back. -/
def dhBack (k : ℕ) : Vec F S256x256 .bf16 :=
  a8.view.readCov (dhStores a1 h1 a2 h2 a3 h3 a4 h4 a5 x0 x1 x2 x3) (rectG k).toLoadRect

def rowRatio : FVec F S256x1 .f32 :=
  dhRatio (rdD a2 h2 x1) (rdG a3 h3 x2) (fun k => rdG a3 h3 x2 (k + 16)) (rdW a4 h4 x3) (rdS a1 h1 x0) (dyBack a2 h2 a5 x1)

def dhCodes : List (View.Piece (Elt F) S256x8192 .fp8e5m2) :=
  putG (fun k => quant (truncf .bf16 (across (invV (rowRatio a1 h1 a2 h2 a3 h3 a4 h4 a5 x0 x1 x2 x3))) bitsLt_bf16_f32)
    (dhBack a1 h1 a2 h2 a3 h3 a4 h4 a5 a8 x0 x1 x2 x3 k)) 32

def dhRow : List (View.Piece (Elt F) S1x256 .f32) :=
  [⟨Rect.unit (s := S1x256) ![0, 0] S1x256.size inb_S1x256_S1x256_0_0, asRow (scaleV (rowRatio a1 h1 a2 h2 a3 h3 a4 h4 a5 x0 x1 x2 x3))⟩]

/-- The running column maxima at the first point … -/
def dyMaxFirst : List (View.Piece (Elt F) S8x3072 .f32) :=
  joinD [⟨Rect.unit (s := S8x3072) ![0, 0] S8x3072.size inb_S8x3072_S8x3072_0_0, k0_pay10⟩] (fun L k => a12.view.readCov L (rectS k).toLoadRect)
    (fun k => wide (rdD a2 h2 x1 k)) 12

def dhMaxFirst : List (View.Piece (Elt F) S8x8192 .f32) :=
  joinG [⟨Rect.unit (s := S8x8192) ![0, 0] S8x8192.size inb_S8x8192_S8x8192_0_0, k0_pay11⟩] (fun L k => a13.view.readCov L (rectT k).toLoadRect)
    (gateS a1 h1 a2 h2 a3 h3 a4 h4 a5 x0 x1 x2 x3) (upS a1 h1 a2 h2 a3 h3 a4 h4 a5 x0 x1 x2 x3) 16

/-- … and at a later one. -/
def dyMaxNext : List (View.Piece (Elt F) S8x3072 .f32) :=
  joinD [] (fun _ k => View.readAt (Elt F) a12.view (rectS k).toLoadRect (h12.unread xs0)) (fun k => wide (rdD a2 h2 x1 k)) 12

def dhMaxNext : List (View.Piece (Elt F) S8x8192 .f32) :=
  joinG [] (fun _ k => View.readAt (Elt F) a13.view (rectT k).toLoadRect (h13.unread xs1))
    (gateS a1 h1 a2 h2 a3 h3 a4 h4 a5 x0 x1 x2 x3) (upS a1 h1 a2 h2 a3 h3 a4 h4 a5 x0 x1 x2 x3) 16

/-- The column scales from the running maxima. -/
def dyCol : List (View.Piece (Elt F) S1x3072 .f32) :=
  [⟨Rect.unit (s := S1x3072) ![0, 0] S1x3072.size inb_S1x3072_S1x3072_0_0,
    scaleV (k0_pay2 (a12.view.readCov (dyMaxNext a2 h2 a12 h12 x1 xs0) (Rect.unit (s := S8x3072) ![0, 0] S8x3072.size inb_S8x3072_S8x3072_0_0).toLoadRect))⟩]

def dhCol : List (View.Piece (Elt F) S1x8192 .f32) :=
  [⟨Rect.unit (s := S1x8192) ![0, 0] S1x8192.size inb_S1x8192_S1x8192_0_0,
    scaleV (k0_pay6 (a13.view.readCov (dhMaxNext a1 h1 a2 h2 a3 h3 a4 h4 a5 a13 h13 x0 x1 x2 x3 xs1)
      (Rect.unit (s := S8x8192) ![0, 0] S8x8192.size inb_S8x8192_S8x8192_0_0).toLoadRect))⟩]

/-! The first point. -/

theorem dyCodes_A (p : cond0_0 i) (q : ¬cond0_1 i) :
    (kernelRun0_A c i a1 h1 a2 h2 a3 h3 a4 h4 a5 h5 a6 h6 a7 h7 a8 h8 a9 h9 a10 h10 a11 h11 a12 h12 a13 h13 p q x0 x1 x2 x3).1
      = dyCodes a2 h2 x1 := rfl

theorem dyRow_A (p : cond0_0 i) (q : ¬cond0_1 i) :
    (kernelRun0_A c i a1 h1 a2 h2 a3 h3 a4 h4 a5 h5 a6 h6 a7 h7 a8 h8 a9 h9 a10 h10 a11 h11 a12 h12 a13 h13 p q x0 x1 x2 x3).2.1
      = dyRow a2 h2 x1 := rfl

theorem dh_A (p : cond0_0 i) (q : ¬cond0_1 i) :
    (kernelRun0_A c i a1 h1 a2 h2 a3 h3 a4 h4 a5 h5 a6 h6 a7 h7 a8 h8 a9 h9 a10 h10 a11 h11 a12 h12 a13 h13 p q x0 x1 x2 x3).2.2.2.1
      = dhStores a1 h1 a2 h2 a3 h3 a4 h4 a5 x0 x1 x2 x3 := rfl

theorem dhCodes_A (p : cond0_0 i) (q : ¬cond0_1 i) :
    (kernelRun0_A c i a1 h1 a2 h2 a3 h3 a4 h4 a5 h5 a6 h6 a7 h7 a8 h8 a9 h9 a10 h10 a11 h11 a12 h12 a13 h13 p q x0 x1 x2 x3).2.2.2.2.1
      = dhCodes a1 h1 a2 h2 a3 h3 a4 h4 a5 a8 x0 x1 x2 x3 := rfl

theorem dhRow_A (p : cond0_0 i) (q : ¬cond0_1 i) :
    (kernelRun0_A c i a1 h1 a2 h2 a3 h3 a4 h4 a5 h5 a6 h6 a7 h7 a8 h8 a9 h9 a10 h10 a11 h11 a12 h12 a13 h13 p q x0 x1 x2 x3).2.2.2.2.2.1
      = dhRow a1 h1 a2 h2 a3 h3 a4 h4 a5 x0 x1 x2 x3 := rfl

theorem dyMax_A (p : cond0_0 i) (q : ¬cond0_1 i) :
    (kernelRun0_A c i a1 h1 a2 h2 a3 h3 a4 h4 a5 h5 a6 h6 a7 h7 a8 h8 a9 h9 a10 h10 a11 h11 a12 h12 a13 h13 p q x0 x1 x2 x3).2.2.2.2.2.2.2.1
      = dyMaxFirst a2 h2 a12 x1 := rfl

theorem dhMax_A (p : cond0_0 i) (q : ¬cond0_1 i) :
    (kernelRun0_A c i a1 h1 a2 h2 a3 h3 a4 h4 a5 h5 a6 h6 a7 h7 a8 h8 a9 h9 a10 h10 a11 h11 a12 h12 a13 h13 p q x0 x1 x2 x3).2.2.2.2.2.2.2.2.1
      = dhMaxFirst a1 h1 a2 h2 a3 h3 a4 h4 a5 a13 x0 x1 x2 x3 := rfl

/-! A point between. -/

theorem dyCodes_B (p : ¬cond0_0 i) (q : ¬cond0_1 i) :
    (kernelRun0_B c i a1 h1 a2 h2 a3 h3 a4 h4 a5 h5 a6 h6 a7 h7 a8 h8 a9 h9 a10 h10 a11 h11 a12 h12 a13 h13 p q x0 x1 x2 x3 xs0 xs1).1
      = dyCodes a2 h2 x1 := rfl

theorem dyRow_B (p : ¬cond0_0 i) (q : ¬cond0_1 i) :
    (kernelRun0_B c i a1 h1 a2 h2 a3 h3 a4 h4 a5 h5 a6 h6 a7 h7 a8 h8 a9 h9 a10 h10 a11 h11 a12 h12 a13 h13 p q x0 x1 x2 x3 xs0 xs1).2.1
      = dyRow a2 h2 x1 := rfl

theorem dh_B (p : ¬cond0_0 i) (q : ¬cond0_1 i) :
    (kernelRun0_B c i a1 h1 a2 h2 a3 h3 a4 h4 a5 h5 a6 h6 a7 h7 a8 h8 a9 h9 a10 h10 a11 h11 a12 h12 a13 h13 p q x0 x1 x2 x3 xs0 xs1).2.2.2.1
      = dhStores a1 h1 a2 h2 a3 h3 a4 h4 a5 x0 x1 x2 x3 := rfl

theorem dhCodes_B (p : ¬cond0_0 i) (q : ¬cond0_1 i) :
    (kernelRun0_B c i a1 h1 a2 h2 a3 h3 a4 h4 a5 h5 a6 h6 a7 h7 a8 h8 a9 h9 a10 h10 a11 h11 a12 h12 a13 h13 p q x0 x1 x2 x3 xs0 xs1).2.2.2.2.1
      = dhCodes a1 h1 a2 h2 a3 h3 a4 h4 a5 a8 x0 x1 x2 x3 := rfl

theorem dhRow_B (p : ¬cond0_0 i) (q : ¬cond0_1 i) :
    (kernelRun0_B c i a1 h1 a2 h2 a3 h3 a4 h4 a5 h5 a6 h6 a7 h7 a8 h8 a9 h9 a10 h10 a11 h11 a12 h12 a13 h13 p q x0 x1 x2 x3 xs0 xs1).2.2.2.2.2.1
      = dhRow a1 h1 a2 h2 a3 h3 a4 h4 a5 x0 x1 x2 x3 := rfl

theorem dyMax_B (p : ¬cond0_0 i) (q : ¬cond0_1 i) :
    (kernelRun0_B c i a1 h1 a2 h2 a3 h3 a4 h4 a5 h5 a6 h6 a7 h7 a8 h8 a9 h9 a10 h10 a11 h11 a12 h12 a13 h13 p q x0 x1 x2 x3 xs0 xs1).2.2.2.2.2.2.2.1
      = dyMaxNext a2 h2 a12 h12 x1 xs0 := rfl

theorem dhMax_B (p : ¬cond0_0 i) (q : ¬cond0_1 i) :
    (kernelRun0_B c i a1 h1 a2 h2 a3 h3 a4 h4 a5 h5 a6 h6 a7 h7 a8 h8 a9 h9 a10 h10 a11 h11 a12 h12 a13 h13 p q x0 x1 x2 x3 xs0 xs1).2.2.2.2.2.2.2.2.1
      = dhMaxNext a1 h1 a2 h2 a3 h3 a4 h4 a5 a13 h13 x0 x1 x2 x3 xs1 := rfl

/-! The last point. -/

theorem dyCodes_C (p : ¬cond0_0 i) (q : cond0_1 i) :
    (kernelRun0_C c i a1 h1 a2 h2 a3 h3 a4 h4 a5 h5 a6 h6 a7 h7 a8 h8 a9 h9 a10 h10 a11 h11 a12 h12 a13 h13 p q x0 x1 x2 x3 xs0 xs1).1
      = dyCodes a2 h2 x1 := rfl

theorem dyRow_C (p : ¬cond0_0 i) (q : cond0_1 i) :
    (kernelRun0_C c i a1 h1 a2 h2 a3 h3 a4 h4 a5 h5 a6 h6 a7 h7 a8 h8 a9 h9 a10 h10 a11 h11 a12 h12 a13 h13 p q x0 x1 x2 x3 xs0 xs1).2.1
      = dyRow a2 h2 x1 := rfl

theorem dh_C (p : ¬cond0_0 i) (q : cond0_1 i) :
    (kernelRun0_C c i a1 h1 a2 h2 a3 h3 a4 h4 a5 h5 a6 h6 a7 h7 a8 h8 a9 h9 a10 h10 a11 h11 a12 h12 a13 h13 p q x0 x1 x2 x3 xs0 xs1).2.2.2.1
      = dhStores a1 h1 a2 h2 a3 h3 a4 h4 a5 x0 x1 x2 x3 := rfl

theorem dhCodes_C (p : ¬cond0_0 i) (q : cond0_1 i) :
    (kernelRun0_C c i a1 h1 a2 h2 a3 h3 a4 h4 a5 h5 a6 h6 a7 h7 a8 h8 a9 h9 a10 h10 a11 h11 a12 h12 a13 h13 p q x0 x1 x2 x3 xs0 xs1).2.2.2.2.1
      = dhCodes a1 h1 a2 h2 a3 h3 a4 h4 a5 a8 x0 x1 x2 x3 := rfl

theorem dhRow_C (p : ¬cond0_0 i) (q : cond0_1 i) :
    (kernelRun0_C c i a1 h1 a2 h2 a3 h3 a4 h4 a5 h5 a6 h6 a7 h7 a8 h8 a9 h9 a10 h10 a11 h11 a12 h12 a13 h13 p q x0 x1 x2 x3 xs0 xs1).2.2.2.2.2.1
      = dhRow a1 h1 a2 h2 a3 h3 a4 h4 a5 x0 x1 x2 x3 := rfl

theorem dyMax_C (p : ¬cond0_0 i) (q : cond0_1 i) :
    (kernelRun0_C c i a1 h1 a2 h2 a3 h3 a4 h4 a5 h5 a6 h6 a7 h7 a8 h8 a9 h9 a10 h10 a11 h11 a12 h12 a13 h13 p q x0 x1 x2 x3 xs0 xs1).2.2.2.2.2.2.2.1
      = dyMaxNext a2 h2 a12 h12 x1 xs0 := rfl

theorem dhMax_C (p : ¬cond0_0 i) (q : cond0_1 i) :
    (kernelRun0_C c i a1 h1 a2 h2 a3 h3 a4 h4 a5 h5 a6 h6 a7 h7 a8 h8 a9 h9 a10 h10 a11 h11 a12 h12 a13 h13 p q x0 x1 x2 x3 xs0 xs1).2.2.2.2.2.2.2.2.1
      = dhMaxNext a1 h1 a2 h2 a3 h3 a4 h4 a5 a13 h13 x0 x1 x2 x3 xs1 := rfl

theorem dyCol_C (p : ¬cond0_0 i) (q : cond0_1 i) :
    (kernelRun0_C c i a1 h1 a2 h2 a3 h3 a4 h4 a5 h5 a6 h6 a7 h7 a8 h8 a9 h9 a10 h10 a11 h11 a12 h12 a13 h13 p q x0 x1 x2 x3 xs0 xs1).2.2.1
      = dyCol a2 h2 a12 h12 x1 xs0 := rfl

theorem dhCol_C (p : ¬cond0_0 i) (q : cond0_1 i) :
    (kernelRun0_C c i a1 h1 a2 h2 a3 h3 a4 h4 a5 h5 a6 h6 a7 h7 a8 h8 a9 h9 a10 h10 a11 h11 a12 h12 a13 h13 p q x0 x1 x2 x3 xs0 xs1).2.2.2.2.2.2.1
      = dhCol a1 h1 a2 h2 a3 h3 a4 h4 a5 a13 h13 x0 x1 x2 x3 xs1 := rfl

end Cert.KernelRowsIdeal.Block

end
-- ==== Proof.Dot.lean ====
/-
  The functions that this problem's products are made of, over the extended reals and for any sizes: a dot product with
  its scales, in the two layouts that occur, and the code of a value under a scale. Both sides of every claim are read as
  these. Then the index arithmetic of a block of rows or columns, once for every size.
-/
module

public import Idealize.ShloMosaic.Lib.Pointwise
public import Idealize.ShloMosaic.Lib.Pipeline.Value

@[expose] public section

noncomputable section

namespace Cert.Math

open Idealize.ShloMosaic

/-- Rows against rows: `∑ k, a r k · w j k`, times a scale of the row and one scale of the whole. -/
def scaledDot {M N K : ℕ} (a : (⟨2, ![M, K]⟩ : Shape).Idx → EReal) (w : (⟨2, ![N, K]⟩ : Shape).Idx → EReal)
    (s : Fin M → EReal) (q : EReal) (r : Fin M) (j : Fin N) : EReal :=
  (∑ k : Fin K, a (ix2 r k) * w (ix2 j k)) * s r * q

/-- Columns against columns, summed over time: `∑ k, x k d · q k j`, times the scale of column `d` and that of column `j`. -/
def gradDot {T D N : ℕ} (x : Fin T → Fin D → EReal) (t : Fin D → EReal) (q : Fin T → Fin N → EReal) (s : Fin N → EReal)
    (d : Fin D) (j : Fin N) : EReal :=
  (∑ k : Fin T, x k d * q k j) * t d * s j

/-- The code of `v` under the scale `s`: `v / s`, clipped to the range of the eight-bit format. -/
def code (v s : EReal) : EReal := min ((57344 : ℝ) : EReal) (max ((-57344 : ℝ) : EReal) (v * Ideal.div 1 s))

/-- The range's two ends, as the programs write them in either format. -/
theorem hi_bf16 : Ideal.ofBits .bf16 18272#16 = ((57344 : ℝ) : EReal) := by
  simp [Ideal.ofBits, Ideal.ieee, -EReal.coe_mul, -EReal.coe_neg]; norm_num
theorem lo_bf16 : Ideal.ofBits .bf16 51040#16 = ((-57344 : ℝ) : EReal) := by
  simp [Ideal.ofBits, Ideal.ieee, -EReal.coe_mul, -EReal.coe_neg]; norm_num
theorem hi_f32 : Ideal.ofBits .f32 1197473792#32 = ((57344 : ℝ) : EReal) := by
  simp [Ideal.ofBits, Ideal.ieee, -EReal.coe_mul, -EReal.coe_neg]; norm_num
theorem lo_f32 : Ideal.ofBits .f32 3344957440#32 = ((-57344 : ℝ) : EReal) := by
  simp [Ideal.ofBits, Ideal.ieee, -EReal.coe_mul, -EReal.coe_neg]; norm_num

/-- Row `r` of the block of `m` rows that starts at row `o` is row `o + r`. -/
theorem emb_rows {M N m : ℕ} (o : ℕ) (h : ∀ b, (![o, 0] : Fin 2 → ℕ) b + (![m, N] : Fin 2 → ℕ) b ≤ (![M, N] : Fin 2 → ℕ) b)
    (r : Fin m) (l : Fin N) (R : Fin M) (hR : R.val = o + r.val) :
    (Rect.unit (s := ⟨2, ![M, N]⟩) ![o, 0] ![m, N] h).emb (ix2 r l) = ix2 R l := by
  refine Shape.idx_ext₂ ?_ ?_
  · show o + 1 * r.val = R.val
    omega
  · show 0 + 1 * l.val = l.val
    omega

/-- Column `l` of the block of `n` columns that starts at column `o` is column `o + l`. -/
theorem emb_cols {M N n : ℕ} (o : ℕ) (h : ∀ b, (![0, o] : Fin 2 → ℕ) b + (![M, n] : Fin 2 → ℕ) b ≤ (![M, N] : Fin 2 → ℕ) b)
    (r : Fin M) (l : Fin n) (L : Fin N) (hL : L.val = o + l.val) :
    (Rect.unit (s := ⟨2, ![M, N]⟩) ![0, o] ![M, n] h).emb (ix2 r l) = ix2 r L := by
  refine Shape.idx_ext₂ ?_ ?_
  · show 0 + 1 * r.val = r.val
    omega
  · show o + 1 * l.val = L.val
    omega

theorem hz2 : (![0, 0] : Fin 2 → ℕ) = fun _ => 0 := funext fun a => by fin_cases a <;> rfl

end Cert.Math

end
-- ==== Proof.Scale.lean ====
/-
  The power-of-two scale of the quantiser. For `p` the largest magnitude over the largest code, the scale is `2 ^ e` with
  `2 ^ (e - 1) ≤ p < 2 ^ e`; and `1` when `p` is below the least normal number.
  The kernel finds the exponent field of `p` by bisection on the words of the powers of two (`field`); the reference counts
  the powers of two that `p` reaches (`expo`). Both give one scale (`kscale_eq`) and one inverse (`kinv_eq`).
-/
module

public import proofs.«01_k».proof.Proof.Dot
public import Idealize.ShloMosaic.Lib.Pointwise

@[expose] public section

set_option maxRecDepth 16384

noncomputable section

namespace Cert.Math

open Idealize.ShloMosaic

/-- The number whose word holds the exponent field `m` and nothing else. -/
def power (m : BitVec 32) : EReal := Ideal.ofBits .f32 (m <<< (23 : ℕ))

/-- One step of the bisection: the field gains `k` if `p` reaches that power. -/
def step (p : EReal) (k n : BitVec 32) : BitVec 32 := if power (n + k) ≤ p then n + k else n

/-- The exponent field of `p`, at most that of `2 ^ 112`. -/
def field (p : EReal) : BitVec 32 :=
  let n := step p 1#32 (step p 2#32 (step p 4#32 (step p 8#32 (step p 16#32 (step p 32#32 (step p 64#32 (step p 128#32 0#32)))))))
  if n.slt 239#32 then n else 239#32

/-- The exponent of the scale. -/
def expoWord (p : EReal) : BitVec 32 := if field p = 0#32 then 0#32 else field p - 126#32

/-- The kernel's scale and its inverse. -/
def kscale (p : EReal) : EReal := power (expoWord p + 127#32)
def kinv (p : EReal) : EReal := power (127#32 - expoWord p)

/-- The reference's exponent. -/
def expo (p : EReal) : EReal :=
  let c := (∑ k : Fin 239, if Ideal.exp2 ((((k.val : ℤ) - 126 : ℤ) : ℝ) : EReal) ≤ p then (1 : EReal) else 0) - ((126 : ℝ) : EReal)
  if c = ((-126 : ℝ) : EReal) then 0 else c

theorem power_field : ∀ m : Fin 255, m.val ≠ 0 →
    (BitVec.extractLsb' 31 1 (BitVec.ofNat 32 m.val <<< 23) = 0#1 ∧ (BitVec.extractLsb' 23 8 (BitVec.ofNat 32 m.val <<< 23)).toNat = m.val
      ∧ (BitVec.extractLsb' 0 23 (BitVec.ofNat 32 m.val <<< 23)).toNat = 0) := by decide +kernel

theorem power_eq (m : ℕ) (h1 : 1 ≤ m) (h2 : m ≤ 254) : power (BitVec.ofNat 32 m) = (((2 : ℝ) ^ ((m : ℤ) - 127) : ℝ) : EReal) := by
  obtain ⟨a, b, c⟩ := power_field ⟨m, by omega⟩ (by show m ≠ 0; omega)
  unfold power
  show Ideal.ieee 8 23 (BitVec.ofNat 32 m <<< 23) = _
  unfold Ideal.ieee
  simp only [show (8 + 23 : ℕ) = 31 from rfl] at *
  rw [a, b, c]
  rw [if_neg (by omega), if_neg (by omega)]
  refine congrArg _ ?_
  have e : (2 : ℝ) ^ ((m : ℤ) - 127) = (2 : ℝ) ^ (23 : ℤ) * (2 : ℝ) ^ ((m : ℤ) - 127 - 23) := by
    rw [← zpow_add₀ (by norm_num)]
    exact congrArg (fun z : ℤ => (2 : ℝ) ^ z) (by ring)
  rw [e]
  norm_num

theorem power_top : power 255#32 = ⊤ := by
  unfold power
  show Ideal.ieee 8 23 (255#32 <<< 23) = _
  unfold Ideal.ieee
  have a : BitVec.extractLsb' (8 + 23) 1 (255#32 <<< 23) = 0#1 := by decide
  have b : (BitVec.extractLsb' 23 8 (255#32 <<< 23)).toNat = 255 := by decide
  have c : (BitVec.extractLsb' 0 23 (255#32 <<< 23)).toNat = 0 := by decide
  rw [a, b, c]
  simp

/-- `p` reaches the power with field `m`. -/
def Reaches (p : EReal) (m : ℕ) : Prop := m ≤ 255 ∧ power (BitVec.ofNat 32 m) ≤ p

theorem reaches_mono (p : EReal) (a b : ℕ) (ha : 1 ≤ a) (hab : a ≤ b) (hb : Reaches p b) : Reaches p a := by
  obtain ⟨h, hb⟩ := hb
  refine ⟨by omega, le_trans ?_ hb⟩
  rcases Nat.lt_or_ge b 255 with hb' | hb'
  · rw [power_eq a ha (by omega), power_eq b (by omega) (by omega)]
    exact EReal.coe_le_coe_iff.mpr (zpow_le_zpow_right₀ (by norm_num) (by omega))
  · rw [show b = 255 by omega]
    exact (le_top : _ ≤ (⊤ : EReal)).trans power_top.ge

/-- What the bisection knows: the field so far is reached, and the next power of the step is not. -/
def Known (p : EReal) (k : ℕ) (n : BitVec 32) : Prop :=
  ∃ N : ℕ, n = BitVec.ofNat 32 N ∧ N + k ≤ 256 ∧ (N = 0 ∨ Reaches p N) ∧ ¬ Reaches p (N + k)

theorem known_step (p : EReal) (k : ℕ) (hk : 0 < k) (n : BitVec 32) (h : Known p (2 * k) n) : Known p k (step p (BitVec.ofNat 32 k) n) := by
  obtain ⟨N, rfl, hN, h0, h1⟩ := h
  unfold step
  rw [← BitVec.ofNat_add]
  by_cases hp : power (BitVec.ofNat 32 (N + k)) ≤ p
  · rw [if_pos hp]
    exact ⟨N + k, rfl, by omega, Or.inr ⟨by omega, hp⟩, by rwa [show N + k + k = N + 2 * k by ring]⟩
  · rw [if_neg hp]
    exact ⟨N, rfl, by omega, h0, fun hr => hp hr.2⟩

/-- The field is the number of powers of two reached, from the least normal number to `2 ^ 112`. -/
theorem field_spec (p : EReal) : ∃ N : ℕ, N ≤ 239 ∧ field p = BitVec.ofNat 32 N ∧ ∀ m : ℕ, 1 ≤ m → m ≤ 239 → (Reaches p m ↔ m ≤ N) := by
  have h : Known p 256 0#32 := ⟨0, rfl, by omega, Or.inl rfl, fun hr => by have := hr.1; omega⟩
  have h := known_step p 1 (by omega) _ (known_step p 2 (by omega) _ (known_step p 4 (by omega) _ (known_step p 8 (by omega) _
    (known_step p 16 (by omega) _ (known_step p 32 (by omega) _ (known_step p 64 (by omega) _ (known_step p 128 (by omega) _ h)))))))
  obtain ⟨N, hn, hN, h0, h1⟩ := h
  unfold field
  dsimp only
  rw [hn]
  have hs : (BitVec.ofNat 32 N).slt 239#32 = decide (N < 239) := by
    have : ∀ N : Fin 256, (BitVec.ofNat 32 N.val).slt 239#32 = decide (N.val < 239) := by decide +kernel
    exact this ⟨N, by omega⟩
  rw [hs]
  by_cases hlt : N < 239
  · refine ⟨N, by omega, by simp [hlt], fun m hm hm' => ⟨fun hr => ?_, fun hle => ?_⟩⟩
    · by_contra hc
      exact h1 (reaches_mono p (N + 1) m (by omega) (by omega) hr)
    · rcases h0 with h0 | h0
      · omega
      · exact reaches_mono p m N hm hle h0
  · refine ⟨239, le_refl _, by simp [hlt], fun m hm hm' => ⟨fun _ => hm', fun _ => ?_⟩⟩
    rcases h0 with h0 | h0
    · omega
    · exact reaches_mono p m N hm (by omega) h0

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem count_eq (N : ℕ) (hN : N ≤ 239) : (∑ k : Fin 239, if k.val + 1 ≤ N then (1 : EReal) else 0) = ((N : ℝ) : EReal) := by
  have : ∀ k : Fin 239, (if k.val + 1 ≤ N then (1 : EReal) else 0) = (((if k.val + 1 ≤ N then 1 else 0 : ℝ)) : EReal) := by
    intro k; split <;> simp
  simp only [this]
  rw [← coe_sum]
  refine congrArg _ ?_
  rw [Finset.sum_boole]
  congr 1
  have : (Finset.univ.filter fun k : Fin 239 => k.val + 1 ≤ N) = Finset.univ.filter fun k : Fin 239 => k.val < N := by
    ext k; simp [Nat.succ_le_iff]
  rw [this, Fin.card_filter_val_lt]
  omega

/-- The reference's exponent, from the same number. -/
theorem expo_eq (p : EReal) (N : ℕ) (hN : N ≤ 239) (h : ∀ m : ℕ, 1 ≤ m → m ≤ 239 → (Reaches p m ↔ m ≤ N)) :
    expo p = (((if N = 0 then 0 else (N : ℝ) - 126) : ℝ) : EReal) := by
  have hk : ∀ k : Fin 239, (Ideal.exp2 ((((k.val : ℤ) - 126 : ℤ) : ℝ) : EReal) ≤ p) ↔ k.val + 1 ≤ N := by
    intro k
    rw [← h (k.val + 1) (by omega) (by omega)]
    have e : Ideal.exp2 ((((k.val : ℤ) - 126 : ℤ) : ℝ) : EReal) = power (BitVec.ofNat 32 (k.val + 1)) := by
      rw [power_eq _ (by omega) (by omega), Ideal.exp2_coe]
      refine congrArg _ ?_
      show (2 : ℝ) ^ (((k.val : ℤ) - 126 : ℤ) : ℝ) = _
      rw [Real.rpow_intCast]
      congr 1
      push_cast
      ring
    rw [e]
    exact ⟨fun h => ⟨by omega, h⟩, fun h => h.2⟩
  unfold expo
  simp only [hk]
  rw [count_eq N hN, ← EReal.coe_sub]
  by_cases h0 : N = 0
  · simp [h0]
  · rw [if_neg, if_neg h0]
    intro hc
    have := EReal.coe_eq_coe_iff.mp hc
    have : (N : ℝ) = 0 := by linarith
    exact h0 (by exact_mod_cast this)

theorem expoWord_eq (p : EReal) (N : ℕ) (hf : field p = BitVec.ofNat 32 N) :
    expoWord p = if N % 2 ^ 32 = 0 then 0#32 else BitVec.ofNat 32 N - 126#32 := by
  unfold expoWord
  rw [hf]
  refine if_congr ?_ rfl rfl
  rw [← BitVec.toNat_inj]
  simp

theorem scale_words : ∀ N : Fin 240, (((if N.val % 2 ^ 32 = 0 then 0#32 else BitVec.ofNat 32 N.val - 126#32) + 127#32 =
      BitVec.ofNat 32 (if N.val = 0 then 127 else N.val + 1))
    ∧ (127#32 - (if N.val % 2 ^ 32 = 0 then 0#32 else BitVec.ofNat 32 N.val - 126#32) =
      BitVec.ofNat 32 (if N.val = 0 then 127 else 253 - N.val))) := by decide +kernel

theorem kscale_eq (p : EReal) : kscale p = Ideal.exp2 (expo p) := by
  obtain ⟨N, hN, hf, h⟩ := field_spec p
  unfold kscale
  rw [expo_eq p N hN h, expoWord_eq p N hf, (scale_words ⟨N, by omega⟩).1, power_eq _ (by dsimp only; split <;> omega) (by dsimp only; split <;> omega),
    Ideal.exp2_coe]
  refine congrArg _ ?_
  show _ = (2 : ℝ) ^ (_ : ℝ)
  rw [← Real.rpow_intCast]
  congr 1
  dsimp only
  split <;> push_cast <;> ring

theorem kinv_eq (p : EReal) : kinv p = Ideal.exp2 (0 - expo p) := by
  obtain ⟨N, hN, hf, h⟩ := field_spec p
  unfold kinv
  rw [expo_eq p N hN h, expoWord_eq p N hf, (scale_words ⟨N, by omega⟩).2, power_eq _ (by dsimp only; split <;> omega) (by dsimp only; split <;> omega),
    show (0 : EReal) = ((0 : ℝ) : EReal) from rfl, ← EReal.coe_sub, Ideal.exp2_coe]
  refine congrArg _ ?_
  show _ = (2 : ℝ) ^ (_ : ℝ)
  rw [← Real.rpow_intCast]
  congr 1
  dsimp only
  split
  · push_cast; ring
  · rw [Nat.cast_sub (by omega)]; push_cast; ring

end Cert.Math

end
-- ==== Proof.RowsMath.lean ====
/-
  What the rows call computes, one row or one column at a time: the largest magnitude of a family of numbers, the ratio that
  fixes its power-of-two scale, the codes under that scale, and from the codes of one row of dy the gradients of the hidden
  layer and of the two halves of its pre-activations.
-/
module

public import proofs.«01_k».proof.Proof.Scale

@[expose] public section

set_option maxRecDepth 16384

noncomputable section

namespace Cert.Math

open Idealize.ShloMosaic

/-- The magnitude. -/
def mag (x : EReal) : EReal := max x (-x)

theorem mag_nonneg (x : EReal) : 0 ≤ mag x := by
  unfold mag
  rcases le_total 0 x with h | h
  · exact le_max_of_le_left h
  · exact le_max_of_le_right (by simpa using EReal.neg_le_neg_iff.mpr h)

/-- The largest of a family, at least the number that a maximum starts from. -/
def top {n : ℕ} (f : Fin n → EReal) : EReal := Finset.univ.fold max (Ideal.ofBits .f32 0xFF800000#32) f

theorem start_eq : Ideal.ofBits .f32 0xFF800000#32 = ⊥ := by
  simp [Ideal.ofBits, Ideal.ieee]

theorem top_le {n : ℕ} (f : Fin n → EReal) (b : EReal) : top f ≤ b ↔ ∀ k, f k ≤ b := by
  unfold top
  rw [Finset.fold_max_le, start_eq]
  simp

/-- The ratio that fixes the scale: the largest magnitude over the largest code. -/
def ratioOf {n : ℕ} (f : Fin n → EReal) : EReal := top (fun k => mag (f k)) * Ideal.ofBits .f32 0x37924925#32

/-- The scale that goes with a ratio. -/
def scaleOf (p : EReal) : EReal := Ideal.exp2 (expo p)

/-- The code of `x` under it. -/
def codeOf (x p : EReal) : EReal := min ((57344 : ℝ) : EReal) (max ((-57344 : ℝ) : EReal) (x * Ideal.exp2 (0 - expo p)))

/-- The sigmoid. -/
def sigm (g : EReal) : EReal := Ideal.div 1 (1 + Ideal.exp (0 - g))

section Row

variable (d : Fin 3072 → EReal) (g : Fin 8192 → EReal) (W : Fin 4096 → Fin 3072 → EReal) (s : EReal)

/-- The gradient of the hidden layer at `f`, from the codes of a row of dy. -/
def hidden (f : Fin 4096) : EReal := (∑ j : Fin 3072, codeOf (d j) (ratioOf d) * W f j) * scaleOf (ratioOf d) * s

/-- The gate's and the second half's pre-activation. -/
def gateIn (f : Fin 4096) : EReal := g ⟨f.val, by omega⟩
def upIn (f : Fin 4096) : EReal := g ⟨4096 + f.val, by omega⟩

/-- Their gradients. -/
def gateGrad (f : Fin 4096) : EReal :=
  hidden d W s f * upIn g f * sigm (gateIn g f) * (1 + gateIn g f * (1 - sigm (gateIn g f)))
def upGrad (f : Fin 4096) : EReal := hidden d W s f * gateIn g f * sigm (gateIn g f)

/-- One row of dH: the gate's gradients, then the second half's. -/
def dhOf (l : Fin 8192) : EReal :=
  if h : l.val < 4096 then gateGrad d g W s ⟨l.val, h⟩ else upGrad d g W s ⟨l.val - 4096, by omega⟩

end Row

/-- Two numbers with the same upper bounds are equal. -/
theorem eq_of_bounds {a b : EReal} (h : ∀ c, a ≤ c ↔ b ≤ c) : a = b := le_antisymm ((h b).mpr le_rfl) ((h a).mp le_rfl)

/-- The running maxima of eight sublanes over thirty-two blocks of 256 rows, that start at zero, hold in the end the largest
    magnitude of all rows: magnitudes are not negative, so the zero does not count. -/
theorem running (o : (n : ℕ) → n < 32 → Fin 8 → EReal) (x : Fin 8192 → EReal)
    (h0 : ∀ s, o 0 (by omega) s = max 0 (top fun q : Fin 32 => mag (x ⟨q.val * 8 + s.val, by omega⟩)))
    (hn : ∀ (n : ℕ) (h : n + 1 < 32) (s : Fin 8), o (n + 1) h s
      = max (o n (by omega) s) (top fun q : Fin 32 => mag (x ⟨256 * (n + 1) + (q.val * 8 + s.val), by omega⟩))) :
    top (fun s => o 31 (by omega) s) = top fun r => mag (x r) := by
  have key : ∀ (n : ℕ) (h : n < 32) (s : Fin 8) (b : EReal), o n h s ≤ b
      ↔ 0 ≤ b ∧ ∀ r : Fin 8192, r.val < 256 * (n + 1) → r.val % 8 = s.val → mag (x r) ≤ b := by
    intro n
    induction n with
    | zero =>
      intro h s b
      rw [h0, max_le_iff, top_le]
      refine and_congr Iff.rfl ⟨fun hq r hr hs => ?_, fun hr q => hr _ (by show q.val * 8 + s.val < _; omega) (by show (q.val * 8 + s.val) % 8 = _; omega)⟩
      have := hq ⟨r.val / 8, by omega⟩
      rwa [show (⟨(⟨r.val / 8, by omega⟩ : Fin 32).val * 8 + s.val, by show r.val / 8 * 8 + s.val < 8192; omega⟩ : Fin 8192) = r
        from Fin.ext (by show r.val / 8 * 8 + s.val = r.val; omega)] at this
    | succ n ih =>
      intro h s b
      rw [hn n h, max_le_iff, top_le, ih (by omega)]
      refine ⟨fun hq => ⟨hq.1.1, fun r hr hs => ?_⟩, fun hr => ⟨⟨hr.1, fun r h' hs => hr.2 r (by omega) hs⟩,
        fun q => hr.2 _ (by show 256 * (n + 1) + (q.val * 8 + s.val) < _; omega) (by show (256 * (n + 1) + (q.val * 8 + s.val)) % 8 = _; omega)⟩⟩
      rcases Nat.lt_or_ge r.val (256 * (n + 1)) with h' | h'
      · exact hq.1.2 r h' hs
      · have := hq.2 ⟨(r.val - 256 * (n + 1)) / 8, by omega⟩
        rwa [show (⟨256 * (n + 1) + ((⟨(r.val - 256 * (n + 1)) / 8, by omega⟩ : Fin 32).val * 8 + s.val), by
            show 256 * (n + 1) + ((r.val - 256 * (n + 1)) / 8 * 8 + s.val) < 8192; omega⟩ : Fin 8192) = r
          from Fin.ext (by show 256 * (n + 1) + ((r.val - 256 * (n + 1)) / 8 * 8 + s.val) = r.val; omega)] at this
  refine eq_of_bounds fun b => ?_
  rw [top_le, top_le]
  simp only [key]
  refine ⟨fun h r => (h ⟨r.val % 8, by omega⟩).2 r (by omega) rfl, fun h s => ⟨(mag_nonneg _).trans (h 0), fun r _ _ => h r⟩⟩

end Cert.Math

end
-- ==== Proof.RowsEntry.lean ====
/-
  The vector operations of one block, entry by entry, at the ideal values. Rounding is the identity there, so the rounding to
  odd returns what it is given.
-/
module

public import proofs.«01_k».proof.Proof.RowsRun
public import proofs.«01_k».proof.Proof.RowsMath
public import Idealize.ShloMosaic.Lib.Tactic

@[expose] public section

set_option maxRecDepth 16384

noncomputable section

namespace Cert.KernelRowsIdeal.Block

open Cert.KernelRowsIdeal Cert.KernelRowsIdeal.Gen Idealize.ShloMosaic Idealize.ShloMosaic.TcCoe Idealize.SL.Sem
open Cert.Math

theorem stepV_apply {S : Shape} (p : FVec Ideal S .f32) (k : BitVec 32) (n : IVec S 32) (y : S.Idx) :
    stepV p k n y = step (p y) k (n y) := by
  unfold stepV step power
  pointwise []
  rfl

theorem expoV_apply {S : Shape} (p : FVec Ideal S .f32) (y : S.Idx) : expoV p y = expoWord (p y) := by
  unfold expoV expoWord field
  pointwise [stepV_apply]
  generalize (step (p y) 1#32 _) = n
  have h : IntOp.minsi n 239#32 = if n.slt 239#32 then n else 239#32 := rfl
  rw [← h]
  generalize IntOp.minsi n 239#32 = m
  by_cases e : m = 0#32
  · rw [if_pos e]; subst e; rfl
  · rw [if_neg e]
    have : IntOp.cmpi .eq m 0#32 = 0#1 := by
      show BitVec.ofBool (m == 0#32) = 0#1
      rw [beq_eq_false_iff_ne.mpr e]
      rfl
    rw [this]
    rfl

theorem scaleV_apply {S : Shape} (p : FVec Ideal S .f32) (y : S.Idx) : scaleV p y = scaleOf (p y) := by
  rw [scaleOf, ← kscale_eq]
  unfold scaleV kscale
  pointwise [expoV_apply]
  rfl

theorem invV_apply {S : Shape} (p : FVec Ideal S .f32) (y : S.Idx) : invV p y = Ideal.exp2 (0 - expo (p y)) := by
  rw [← kinv_eq]
  unfold invV kinv
  pointwise [expoV_apply]
  rfl

theorem wide_apply (v : Vec Ideal S256x256 .bf16) (r j : Fin 256) : wide v (ix2 r j) = v (ix2 r j) := by
  unfold wide
  pointwise []

theorem lane_apply (v : FVec Ideal S256x256 .f32) (r : Fin 256) (j : Fin 128) :
    lane v (ix2 r j) = max (v (ix2 r ⟨j.val, by omega⟩)) (v (ix2 r ⟨128 + j.val, by omega⟩)) := by
  unfold lane
  pointwise []

theorem ratio_apply (a : FVec Ideal S256x128 .f32) (r : Fin 256) :
    ratio a (ix2 r 0) = top (fun x : Fin 128 => a (ix2 r x)) * Ideal.ofBits .f32 0x37924925#32 := by
  unfold ratio top
  pointwise []

theorem joinMax_apply (old : Vec Ideal S8x256 .f32) (a : FVec Ideal S256x256 .f32) (r : Fin 8) (j : Fin 256) :
    joinMax old a (ix2 r j) = max (old (ix2 r j)) (top (fun x : Fin 32 => a (ix2 ⟨x.val * 8 + r.val, by omega⟩ j))) := by
  unfold joinMax top
  pointwise []

theorem absf_apply {S : Shape} (a : FVec Ideal S .f32) (y : S.Idx) : absf a y = mag (a y) := rfl

theorem asRow_apply (a : FVec Ideal S256x1 .f32) (r : Fin 256) : asRow a (ix2 0 r) = a (ix2 r 0) := by
  unfold asRow
  pointwise []

theorem across_apply (a : FVec Ideal S256x1 .f32) (r j : Fin 256) : across a (ix2 r j) = a (ix2 r 0) := by
  unfold across
  pointwise []

theorem quant_apply (i : FVec Ideal S256x256 .bf16) (v : Vec Ideal S256x256 .bf16) (r j : Fin 256) :
    quant i v (ix2 r j) = min ((57344 : ℝ) : EReal) (max ((-57344 : ℝ) : EReal) (v (ix2 r j) * i (ix2 r j))) := by
  rw [← hi_bf16, ← lo_bf16]
  unfold quant
  pointwise []

theorem sigmoid_apply (g : FVec Ideal S256x256 .f32) (r j : Fin 256) : sigmoid g (ix2 r j) = sigm (g (ix2 r j)) := by
  unfold sigmoid sigm
  pointwise []

theorem du_apply (a g : FVec Ideal S256x256 .f32) (r j : Fin 256) :
    du a g (ix2 r j) = a (ix2 r j) * sigm (g (ix2 r j)) * g (ix2 r j) := by
  unfold du
  pointwise [sigmoid_apply]

theorem dg_apply (a g u : FVec Ideal S256x256 .f32) (r j : Fin 256) :
    dg a g u (ix2 r j) = a (ix2 r j) * sigm (g (ix2 r j)) * u (ix2 r j) * (1 + g (ix2 r j) * (1 - sigm (g (ix2 r j)))) := by
  unfold dg
  pointwise [sigmoid_apply]

theorem near_apply (g : FVec Ideal S256x256 .f32) (y : S256x256.Idx) : near g y = g y := by
  unfold near
  pointwise []

theorem odd_apply (v : FVec Ideal S256x256 .f32) (y : S256x256.Idx) : odd v y = v y := by
  unfold odd
  pointwise [near_apply]

theorem da_apply (d : ℕ → Vec Ideal S256x256 .bf16) (w : ℕ → Vec Ideal S256x3072 .fp8e4m3) (s : Elt Ideal .f32)
    (q : Vec Ideal S256x3072 .fp8e5m2) (k : ℕ) (r j : Fin 256) :
    da d w s q k (ix2 r j) = (∑ x : Fin 3072, q (ix2 r x) * w k (ix2 j x)) * (scaleOf (dyRatio d (ix2 r 0)) * s) := by
  unfold da
  pointwise [across_apply, scaleV_apply]

end Cert.KernelRowsIdeal.Block

end
-- ==== Proof.RowsStrips.lean ====
/-
  Blocks written strip by strip, 256 columns at a time. Where every strip written is the strip of one block, the stores leave
  that block (`putD_at`, `putG_at`, `putP_at`). Where each store joins new maxima to what is read of the strip before
  it, a column holds the join of what it held at the start (`joinD_at`, `joinG_at`, `joinD_past`, `joinG_past`).
-/
module

public import proofs.«01_k».proof.Proof.RowsEntry

@[expose] public section

set_option maxRecDepth 16384

noncomputable section

namespace Cert.KernelRowsIdeal.Block

open Cert.KernelRowsIdeal Cert.KernelRowsIdeal.Gen Idealize.ShloMosaic Idealize.ShloMosaic.TcCoe Idealize.SL.Sem
open Cert.Math

/-! One strip of columns. -/

theorem not_mem_cols {M N n : ℕ} (o : ℕ) (h : ∀ b, (![0, o] : Fin 2 → ℕ) b + (![M, n] : Fin 2 → ℕ) b ≤ (![M, N] : Fin 2 → ℕ) b)
    (r : Fin M) (c : Fin N) (hc : c.val < o ∨ o + n ≤ c.val) :
    (ix2 r c : (⟨2, ![M, N]⟩ : Shape).Idx) ∉ (Rect.unit (s := ⟨2, ![M, N]⟩) ![0, o] ![M, n] h).set := by
  intro hm
  obtain ⟨x, hx⟩ := LoadRect.exists_idx_of_mem (Rect.unit (s := ⟨2, ![M, N]⟩) ![0, o] ![M, n] h).toLoadRect hm
  have e : o + 1 * (x 1).val = c.val := congrArg (fun y : (⟨2, ![M, N]⟩ : Shape).Idx => (y 1).val) hx
  have := (x 1).isLt
  have : (x 1).val < n := this
  omega

theorem canon_in {e : EltTy} {M N n : ℕ} (o : ℕ) (h : ∀ b, (![0, o] : Fin 2 → ℕ) b + (![M, n] : Fin 2 → ℕ) b ≤ (![M, N] : Fin 2 → ℕ) b)
    (w : (⟨2, ![M, n]⟩ : Shape).Idx → Elt Ideal e) (L : List (View.Piece (Elt Ideal) ⟨2, ![M, N]⟩ e))
    (r : Fin M) (l : Fin n) (c : Fin N) (hc : c.val = o + l.val) :
    View.canon (⟨Rect.unit (s := ⟨2, ![M, N]⟩) ![0, o] ![M, n] h, w⟩ :: L) (ix2 r c) = w (ix2 r l) := by
  rw [← emb_cols o h r l c hc]
  exact View.canon_cons_emb (Rect.unit (s := ⟨2, ![M, N]⟩) ![0, o] ![M, n] h) w L (ix2 r l)

theorem canon_out {e : EltTy} {M N n : ℕ} (o : ℕ) (h : ∀ b, (![0, o] : Fin 2 → ℕ) b + (![M, n] : Fin 2 → ℕ) b ≤ (![M, N] : Fin 2 → ℕ) b)
    (w : (⟨2, ![M, n]⟩ : Shape).Idx → Elt Ideal e) (L : List (View.Piece (Elt Ideal) ⟨2, ![M, N]⟩ e))
    (r : Fin M) (c : Fin N) (hc : c.val < o ∨ o + n ≤ c.val) :
    View.canon (⟨Rect.unit (s := ⟨2, ![M, N]⟩) ![0, o] ![M, n] h, w⟩ :: L) (ix2 r c) = View.canon L (ix2 r c) :=
  View.canon_cons_of_not_mem _ L (not_mem_cols o h r c hc)

/-! Strips of one block. -/

section Put

variable {e : EltTy}

theorem putD_at (f : ℕ → Vec Ideal S256x256 e) (r : Fin 256) (c : Fin 3072) :
    ∀ n ≤ 12, c.val < 256 * n → View.canon (putD f n) (ix2 r c) = f (c.val / 256) (ix2 r ⟨c.val % 256, Nat.mod_lt _ (by omega)⟩)
  | 0, _, hc => by omega
  | n + 1, hn, hc => by
    have hm : n % 12 = n := Nat.mod_eq_of_lt (by omega)
    by_cases h : c.val < 256 * n
    · rw [← putD_at f r c n (by omega) h]
      exact canon_out _ (inb_dy n) _ _ r c (.inl (by omega))
    · have : c.val / 256 = n := by omega
      rw [this]
      exact canon_in _ (inb_dy n) (f n) _ r ⟨c.val % 256, Nat.mod_lt _ (by omega)⟩ c (by show c.val = 256 * (n % 12) + c.val % 256; omega)

theorem putG_at (f : ℕ → Vec Ideal S256x256 e) (r : Fin 256) (c : Fin 8192) :
    ∀ n ≤ 32, c.val < 256 * n → View.canon (putG f n) (ix2 r c) = f (c.val / 256) (ix2 r ⟨c.val % 256, Nat.mod_lt _ (by omega)⟩)
  | 0, _, hc => by omega
  | n + 1, hn, hc => by
    have hm : n % 32 = n := Nat.mod_eq_of_lt (by omega)
    by_cases h : c.val < 256 * n
    · rw [← putG_at f r c n (by omega) h]
      exact canon_out _ (inb_gu n) _ _ r c (.inl (by omega))
    · have : c.val / 256 = n := by omega
      rw [this]
      exact canon_in _ (inb_gu n) (f n) _ r ⟨c.val % 256, Nat.mod_lt _ (by omega)⟩ c (by show c.val = 256 * (n % 32) + c.val % 256; omega)

theorem putP_at (f g : ℕ → Vec Ideal S256x256 e) (r : Fin 256) (c : Fin 4096) :
    ∀ n ≤ 16, c.val < 256 * n →
      View.canon (putP f g n) (ix2 r ⟨c.val, by omega⟩) = f (c.val / 256) (ix2 r ⟨c.val % 256, Nat.mod_lt _ (by omega)⟩)
      ∧ View.canon (putP f g n) (ix2 r ⟨4096 + c.val, by omega⟩) = g (c.val / 256) (ix2 r ⟨c.val % 256, Nat.mod_lt _ (by omega)⟩)
  | 0, _, hc => by omega
  | n + 1, hn, hc => by
    have hm : n % 32 = n := Nat.mod_eq_of_lt (by omega)
    have hm' : (n + 16) % 32 = n + 16 := Nat.mod_eq_of_lt (by omega)
    have e1 : View.canon (putP f g (n + 1)) (ix2 r ⟨c.val, by omega⟩) = View.canon (⟨rectG n, f n⟩ :: putP f g n) (ix2 r ⟨c.val, by omega⟩) :=
      canon_out _ (inb_gu (n + 16)) (g n) _ r _ (.inl (by show c.val < _; omega))
    by_cases h : c.val < 256 * n
    · obtain ⟨i1, i2⟩ := putP_at f g r c n (by omega) h
      refine ⟨?_, ?_⟩
      · rw [e1, ← i1]
        exact canon_out _ (inb_gu n) (f n) _ r _ (.inl (by show c.val < _; omega))
      · rw [← i2]
        refine (canon_out _ (inb_gu (n + 16)) (g n) _ r _ (.inl (by show 4096 + c.val < _; omega))).trans ?_
        exact canon_out _ (inb_gu n) (f n) _ r _ (.inr (by show _ ≤ 4096 + c.val; omega))
    · have : c.val / 256 = n := by omega
      rw [this]
      refine ⟨?_, ?_⟩
      · rw [e1]
        exact canon_in _ (inb_gu n) (f n) _ r ⟨c.val % 256, Nat.mod_lt _ (by omega)⟩ _ (by show c.val = 256 * (n % 32) + c.val % 256; omega)
      · exact canon_in _ (inb_gu (n + 16)) (g n) _ r ⟨c.val % 256, Nat.mod_lt _ (by omega)⟩ _
          (by show 4096 + c.val = 256 * ((n + 16) % 32) + c.val % 256; omega)

end Put

/-! Joined maxima. -/

section Join

theorem joinD_past (L : List (View.Piece (Elt Ideal) S8x3072 .f32)) (old : List (View.Piece (Elt Ideal) S8x3072 .f32) → ℕ → Vec Ideal S8x256 .f32)
    (f : ℕ → FVec Ideal S256x256 .f32) (r : Fin 8) (c : Fin 3072) :
    ∀ n ≤ 12, 256 * n ≤ c.val → View.canon (joinD L old f n) (ix2 r c) = View.canon L (ix2 r c)
  | 0, _, _ => rfl
  | n + 1, hn, hc => by
    have hm : n % 12 = n := Nat.mod_eq_of_lt (by omega)
    rw [← joinD_past L old f r c n (by omega) (by omega)]
    exact canon_out _ (inb_s0 n) _ _ r c (.inr (by omega))

theorem joinD_at (L : List (View.Piece (Elt Ideal) S8x3072 .f32)) (old : List (View.Piece (Elt Ideal) S8x3072 .f32) → ℕ → Vec Ideal S8x256 .f32)
    (f : ℕ → FVec Ideal S256x256 .f32) (r : Fin 8) (c : Fin 3072) :
    ∀ n ≤ 12, c.val < 256 * n → View.canon (joinD L old f n) (ix2 r c)
      = joinMax (old (joinD L old f (c.val / 256)) (c.val / 256)) (absf (f (c.val / 256))) (ix2 r ⟨c.val % 256, Nat.mod_lt _ (by omega)⟩)
  | 0, _, hc => by omega
  | n + 1, hn, hc => by
    have hm : n % 12 = n := Nat.mod_eq_of_lt (by omega)
    by_cases h : c.val < 256 * n
    · rw [← joinD_at L old f r c n (by omega) h]
      exact canon_out _ (inb_s0 n) _ _ r c (.inl (by omega))
    · have : c.val / 256 = n := by omega
      rw [this]
      exact canon_in _ (inb_s0 n) _ _ r ⟨c.val % 256, Nat.mod_lt _ (by omega)⟩ c (by show c.val = 256 * (n % 12) + c.val % 256; omega)

variable (L : List (View.Piece (Elt Ideal) S8x8192 .f32)) (old : List (View.Piece (Elt Ideal) S8x8192 .f32) → ℕ → Vec Ideal S8x256 .f32)
  (f g : ℕ → FVec Ideal S256x256 .f32)

/-- The stores up to the gate's strip `n`. -/
def joinM (n : ℕ) : List (View.Piece (Elt Ideal) S8x8192 .f32) :=
  ⟨rectT n, joinMax (old (joinG L old f g n) n) (absf (f n))⟩ :: joinG L old f g n

theorem joinG_succ (n : ℕ) :
    joinG L old f g (n + 1) = ⟨rectT (n + 16), joinMax (old (joinM L old f g n) (n + 16)) (absf (g n))⟩ :: joinM L old f g n := rfl

theorem joinG_past (r : Fin 8) (c : Fin 4096) : ∀ n ≤ 16, 256 * n ≤ c.val →
    View.canon (joinG L old f g n) (ix2 r ⟨c.val, by omega⟩) = View.canon L (ix2 r ⟨c.val, by omega⟩)
    ∧ View.canon (joinG L old f g n) (ix2 r ⟨4096 + c.val, by omega⟩) = View.canon L (ix2 r ⟨4096 + c.val, by omega⟩)
  | 0, _, _ => ⟨rfl, rfl⟩
  | n + 1, hn, hc => by
    have hm : n % 32 = n := Nat.mod_eq_of_lt (by omega)
    have hm' : (n + 16) % 32 = n + 16 := Nat.mod_eq_of_lt (by omega)
    obtain ⟨i1, i2⟩ := joinG_past r c n (by omega) (by omega)
    rw [← i1, ← i2]
    refine ⟨?_, ?_⟩
    · refine (canon_out _ (inb_s1 (n + 16)) _ _ r _ (.inl (by show c.val < _; omega))).trans ?_
      exact canon_out _ (inb_s1 n) _ _ r _ (.inr (by show _ ≤ c.val; omega))
    · refine (canon_out _ (inb_s1 (n + 16)) _ _ r _ (.inr (by show _ ≤ 4096 + c.val; omega))).trans ?_
      exact canon_out _ (inb_s1 n) _ _ r _ (.inr (by show _ ≤ 4096 + c.val; omega))

/-- Before strip `n` of the second half is stored, the half's columns from there on are as at the start. -/
theorem joinM_past (r : Fin 8) (c : Fin 4096) (n : ℕ) (hn : n < 16) (hc : 256 * n ≤ c.val) :
    View.canon (joinM L old f g n) (ix2 r ⟨4096 + c.val, by omega⟩) = View.canon L (ix2 r ⟨4096 + c.val, by omega⟩) := by
  have hm : n % 32 = n := Nat.mod_eq_of_lt (by omega)
  rw [← (joinG_past L old f g r c n (by omega) hc).2]
  exact canon_out _ (inb_s1 n) _ _ r _ (.inr (by show _ ≤ 4096 + c.val; omega))

theorem joinG_at (r : Fin 8) (c : Fin 4096) : ∀ n ≤ 16, c.val < 256 * n →
    View.canon (joinG L old f g n) (ix2 r ⟨c.val, by omega⟩)
      = joinMax (old (joinG L old f g (c.val / 256)) (c.val / 256)) (absf (f (c.val / 256))) (ix2 r ⟨c.val % 256, Nat.mod_lt _ (by omega)⟩)
    ∧ View.canon (joinG L old f g n) (ix2 r ⟨4096 + c.val, by omega⟩)
      = joinMax (old (joinM L old f g (c.val / 256)) (c.val / 256 + 16)) (absf (g (c.val / 256))) (ix2 r ⟨c.val % 256, Nat.mod_lt _ (by omega)⟩)
  | 0, _, hc => by omega
  | n + 1, hn, hc => by
    have hm : n % 32 = n := Nat.mod_eq_of_lt (by omega)
    have hm' : (n + 16) % 32 = n + 16 := Nat.mod_eq_of_lt (by omega)
    rw [joinG_succ]
    have e1 := canon_out (e := .f32) _ (inb_s1 (n + 16)) (joinMax (old (joinM L old f g n) (n + 16)) (absf (g n))) (joinM L old f g n) r
      (⟨c.val, by omega⟩ : Fin 8192) (.inl (by show c.val < _; omega))
    by_cases h : c.val < 256 * n
    · obtain ⟨i1, i2⟩ := joinG_at r c n (by omega) h
      rw [← i1, ← i2]
      refine ⟨e1.trans ?_, ?_⟩
      · exact canon_out _ (inb_s1 n) _ _ r _ (.inl (by show c.val < _; omega))
      · refine (canon_out _ (inb_s1 (n + 16)) _ _ r _ (.inl (by show 4096 + c.val < _; omega))).trans ?_
        exact canon_out _ (inb_s1 n) _ _ r _ (.inr (by show _ ≤ 4096 + c.val; omega))
    · have : c.val / 256 = n := by omega
      rw [this]
      refine ⟨e1.trans ?_, ?_⟩
      · exact canon_in _ (inb_s1 n) _ _ r ⟨c.val % 256, Nat.mod_lt _ (by omega)⟩ _ (by show c.val = 256 * (n % 32) + c.val % 256; omega)
      · exact canon_in _ (inb_s1 (n + 16)) _ _ r ⟨c.val % 256, Nat.mod_lt _ (by omega)⟩ _
          (by show 4096 + c.val = 256 * ((n + 16) % 32) + c.val % 256; omega)

end Join

end Cert.KernelRowsIdeal.Block

end
-- ==== Proof.RowsBlock.lean ====
/-
  What ONE BLOCK of the rows kernel computes, at the ideal values: of 256 rows of dy and of the pre-activations, their codes
  and row scales, dH, and its codes and row scales, as `Cert.Math` writes them for one row.
-/
module

public import proofs.«01_k».proof.Proof.RowsStrips

@[expose] public section

set_option maxRecDepth 16384

noncomputable section

namespace Cert.KernelRowsIdeal.Block

open Cert.KernelRowsIdeal Cert.KernelRowsIdeal.Gen Idealize.ShloMosaic Idealize.ShloMosaic.TcCoe Idealize.SL.Sem
open Cert.Math

/-! The largest magnitude of a row, from its strips. -/

theorem foldMax_le (f : ℕ → FVec Ideal S256x128 .f32) (y : S256x128.Idx) (b : EReal) :
    ∀ n, foldMax f n y ≤ b ↔ ∀ k ≤ n, f k y ≤ b
  | 0 => ⟨fun h k hk => by obtain rfl : k = 0 := by omega
                           exact h, fun h => h 0 le_rfl⟩
  | n + 1 => by
    show max (foldMax f n y) (f (n + 1) y) ≤ b ↔ _
    rw [max_le_iff, foldMax_le f y b n]
    refine ⟨fun h k hk => ?_, fun h => ⟨fun k hk => h k (by omega), h (n + 1) le_rfl⟩⟩
    rcases Nat.lt_or_ge n k with h' | h'
    · obtain rfl : k = n + 1 := by omega
      exact h.2
    · exact h.1 k h'

theorem strips_le (a : ℕ → FVec Ideal S256x256 .f32) (n : ℕ) (r : Fin 256) (b : EReal) :
    top (fun x : Fin 128 => foldMax (fun k => lane (a k)) n (ix2 r x)) ≤ b ↔ ∀ k ≤ n, ∀ j : Fin 256, a k (ix2 r j) ≤ b := by
  rw [top_le]
  simp only [foldMax_le, lane_apply, max_le_iff]
  refine ⟨fun h k hk j => ?_, fun h x k hk => ⟨h k hk _, h k hk _⟩⟩
  rcases Nat.lt_or_ge j.val 128 with h' | h'
  · exact (h ⟨j.val, h'⟩ k hk).1
  · have := (h ⟨j.val - 128, by omega⟩ k hk).2
    rwa [show (⟨128 + (j.val - 128), by omega⟩ : Fin 256) = j from Fin.ext (by show 128 + (j.val - 128) = j.val; omega)] at this

section Strips

variable (a1 : Memref sig .tc .smem S1 .f32) (h1 : a1.IsWhole) (a2 : Memref sig .tc .vmem S256x3072 .bf16) (h2 : a2.IsWhole)
  (a3 : Memref sig .tc .vmem S256x8192 .bf16) (h3 : a3.IsWhole) (a4 : Memref sig .tc .vmem S4096x3072 .fp8e4m3) (h4 : a4.IsWhole)
  (a5 : Memref sig .tc .vmem S256x3072 .fp8e5m2) (a8 : Memref sig .tc .vmem S256x8192 .bf16)
  (x0 : Vec Ideal S1 .f32) (x1 : Vec Ideal S256x3072 .bf16) (x2 : Vec Ideal S256x8192 .bf16) (x3 : Vec Ideal S4096x3072 .fp8e4m3)

theorem rdS_eq : rdS a1 h1 x0 = x0 (ix1 0) := by
  unfold rdS
  rw [View.readAt_eq_ld, h1.read_unread]
  refine congrArg x0 ?_
  funext b
  fin_cases b
  rfl

theorem rdD_apply (k : ℕ) (r j : Fin 256) (c : Fin 3072) (hc : c.val = 256 * (k % 12) + j.val) :
    rdD a2 h2 x1 k (ix2 r j) = x1 (ix2 r c) := by
  unfold rdD
  rw [View.readAt_eq_ld, h2.read_unread]
  exact congrArg x1 (emb_cols _ (inb_dy k) r j c hc)

theorem rdG_apply (k : ℕ) (r j : Fin 256) (c : Fin 8192) (hc : c.val = 256 * (k % 32) + j.val) :
    rdG a3 h3 x2 k (ix2 r j) = x2 (ix2 r c) := by
  unfold rdG
  rw [View.readAt_eq_ld, h3.read_unread]
  exact congrArg x2 (emb_cols _ (inb_gu k) r j c hc)

theorem rdW_apply (k : ℕ) (r : Fin 256) (j : Fin 3072) (f : Fin 4096) (hf : f.val = 256 * (k % 16) + r.val) :
    rdW a4 h4 x3 k (ix2 r j) = x3 (ix2 f j) := by
  unfold rdW
  rw [View.readAt_eq_ld, h4.read_unread]
  exact congrArg x3 (emb_rows _ (inb_w k) r j f hf)

/-! The block, row by row. -/

/-- The ratio of a row of dy. -/
def dyP (r : Fin 256) : EReal := ratioOf (fun j : Fin 3072 => x1 (ix2 r j))

/-- A row of dH and its ratio. -/
def dhV (r : Fin 256) (l : Fin 8192) : EReal :=
  dhOf (fun j => x1 (ix2 r j)) (fun l => x2 (ix2 r l)) (fun f j => x3 (ix2 f j)) (x0 (ix1 0)) l
def dhP (r : Fin 256) : EReal := ratioOf (dhV x0 x1 x2 x3 r)

def dyCodeBlock : Vec Ideal S256x3072 .fp8e5m2 := fun y => codeOf (x1 (ix2 (y 0) (y 1))) (dyP x1 (y 0))
def dyScaleBlock : Vec Ideal S1x256 .f32 := fun y => scaleOf (dyP x1 (y 1))
def dhBlock : Vec Ideal S256x8192 .bf16 := fun y => dhV x0 x1 x2 x3 (y 0) (y 1)
def dhCodeBlock : Vec Ideal S256x8192 .fp8e5m2 := fun y => codeOf (dhV x0 x1 x2 x3 (y 0) (y 1)) (dhP x0 x1 x2 x3 (y 0))
def dhScaleBlock : Vec Ideal S1x256 .f32 := fun y => scaleOf (dhP x0 x1 x2 x3 (y 1))

theorem dyRatio_eq (r : Fin 256) : dyRatio (rdD a2 h2 x1) (ix2 r 0) = dyP x1 r := by
  unfold dyRatio dyP ratioOf
  rw [ratio_apply]
  refine congrArg (· * _) (eq_of_bounds fun b => ?_)
  rw [strips_le (fun k => absf (wide (rdD a2 h2 x1 k))), top_le]
  refine ⟨fun h c => ?_, fun h k hk j => ?_⟩
  · have := h (c.val / 256) (by omega) ⟨c.val % 256, Nat.mod_lt _ (by omega)⟩
    rw [absf_apply, wide_apply, rdD_apply a2 h2 x1 _ _ _ c (by
      have : c.val / 256 % 12 = c.val / 256 := Nat.mod_eq_of_lt (by omega)
      show c.val = 256 * (c.val / 256 % 12) + c.val % 256
      omega)] at this
    exact this
  · have hm : k % 12 = k := Nat.mod_eq_of_lt (by omega)
    rw [absf_apply, wide_apply, rdD_apply a2 h2 x1 _ _ _ ⟨256 * k + j.val, by omega⟩ (by show _ = 256 * (k % 12) + j.val; rw [hm])]
    exact h _

theorem dyCodes_canon : View.canon (dyCodes (F := Ideal) a2 h2 x1) = dyCodeBlock x1 := by
  funext y
  obtain ⟨r, c, rfl⟩ : ∃ (r : Fin 256) (c : Fin 3072), y = ix2 r c := ⟨y 0, y 1, eq_ix2 y⟩
  unfold dyCodes
  rw [putD_at _ r c 12 le_rfl c.isLt, quant_apply, rdD_apply a2 h2 x1 _ _ _ c (by
      have : c.val / 256 % 12 = c.val / 256 := Nat.mod_eq_of_lt (by omega)
      show c.val = 256 * (c.val / 256 % 12) + c.val % 256
      omega)]
  have e : dyInv (rdD a2 h2 x1) (ix2 r ⟨c.val % 256, Nat.mod_lt _ (by omega)⟩) = Ideal.exp2 (0 - expo (dyP x1 r)) := by
    unfold dyInv
    show across (invV (dyRatio (rdD a2 h2 x1))) _ = _
    rw [across_apply, invV_apply, dyRatio_eq]
  rw [e]
  rfl

theorem dyBack_eq : dyBack (F := Ideal) a2 h2 a5 x1 = dyCodeBlock x1 := by
  unfold dyBack
  rw [View.readCov_eq_canon', dyCodes_canon]
  exact View.ld_unit_zero (S := S256x3072) hz2 _ _

theorem dyRow_canon : View.canon (dyRow (F := Ideal) a2 h2 x1) = dyScaleBlock x1 := by
  unfold dyRow
  rw [View.canon_unit_zero hz2]
  funext y
  obtain ⟨r, c, rfl⟩ : ∃ (r : Fin 1) (c : Fin 256), y = ix2 r c := ⟨y 0, y 1, eq_ix2 y⟩
  obtain rfl : r = 0 := Subsingleton.elim _ _
  rw [asRow_apply, scaleV_apply, dyRatio_eq]
  rfl

theorem da_eq (k : ℕ) (hk : k < 16) (r j : Fin 256) :
    da (rdD a2 h2 x1) (rdW a4 h4 x3) (rdS a1 h1 x0) (dyBack a2 h2 a5 x1) k (ix2 r j)
      = hidden (fun j => x1 (ix2 r j)) (fun f j => x3 (ix2 f j)) (x0 (ix1 0)) ⟨256 * k + j.val, by omega⟩ := by
  have hm : k % 16 = k := Nat.mod_eq_of_lt hk
  rw [da_apply, dyRatio_eq, rdS_eq, dyBack_eq]
  simp only [rdW_apply a4 h4 x3 k j _ ⟨256 * k + j.val, by omega⟩ (by show _ = 256 * (k % 16) + j.val; rw [hm])]
  exact (mul_assoc _ _ _).symm

theorem gateS_eq (k : ℕ) (hk : k < 16) (r j : Fin 256) :
    gateS a1 h1 a2 h2 a3 h3 a4 h4 a5 x0 x1 x2 x3 k (ix2 r j) = dhV x0 x1 x2 x3 r ⟨256 * k + j.val, by omega⟩ := by
  have hm : k % 32 = k := Nat.mod_eq_of_lt (by omega)
  have hm' : (k + 16) % 32 = k + 16 := Nat.mod_eq_of_lt (by omega)
  unfold gateS dgS dhV dhOf
  rw [dg_apply, wide_apply, wide_apply, da_eq (hk := hk), dif_pos (by show 256 * k + j.val < 4096; omega),
    rdG_apply a3 h3 x2 k r j ⟨256 * k + j.val, by omega⟩ (by show _ = 256 * (k % 32) + j.val; rw [hm])]
  beta_reduce
  rw [rdG_apply a3 h3 x2 (k + 16) r j ⟨4096 + (256 * k + j.val), by omega⟩ (by show 4096 + (256 * k + j.val) = 256 * ((k + 16) % 32) + j.val; omega)]
  unfold gateGrad
  exact congrArg (· * _) (mul_right_comm _ _ _)

theorem upS_eq (k : ℕ) (hk : k < 16) (r j : Fin 256) :
    upS a1 h1 a2 h2 a3 h3 a4 h4 a5 x0 x1 x2 x3 k (ix2 r j) = dhV x0 x1 x2 x3 r ⟨4096 + (256 * k + j.val), by omega⟩ := by
  have hm : k % 32 = k := Nat.mod_eq_of_lt (by omega)
  unfold upS duS dhV dhOf
  rw [du_apply, wide_apply, da_eq (hk := hk), dif_neg (by show ¬(4096 + (256 * k + j.val) < 4096); omega),
    rdG_apply a3 h3 x2 k r j ⟨256 * k + j.val, by omega⟩ (by show _ = 256 * (k % 32) + j.val; rw [hm])]
  have e : (⟨4096 + (256 * k + j.val) - 4096, by omega⟩ : Fin 4096) = ⟨256 * k + j.val, by omega⟩ := Fin.ext (by show 4096 + (256 * k + j.val) - 4096 = 256 * k + j.val; omega)
  show _ = upGrad _ _ _ _ (⟨4096 + (256 * k + j.val) - 4096, _⟩ : Fin 4096)
  rw [e]
  unfold upGrad
  exact mul_right_comm _ _ _

theorem rowRatio_eq (r : Fin 256) : rowRatio a1 h1 a2 h2 a3 h3 a4 h4 a5 x0 x1 x2 x3 (ix2 r 0) = dhP x0 x1 x2 x3 r := by
  have e : rowRatio a1 h1 a2 h2 a3 h3 a4 h4 a5 x0 x1 x2 x3 = ratio (foldMax (fun k => lane (maximumf
      (absf (gateS a1 h1 a2 h2 a3 h3 a4 h4 a5 x0 x1 x2 x3 k)) (absf (upS a1 h1 a2 h2 a3 h3 a4 h4 a5 x0 x1 x2 x3 k)))) 15) := rfl
  rw [e, ratio_apply]
  unfold dhP ratioOf
  refine congrArg (· * _) (eq_of_bounds fun b => ?_)
  rw [strips_le (fun k => maximumf (absf (gateS a1 h1 a2 h2 a3 h3 a4 h4 a5 x0 x1 x2 x3 k)) (absf (upS a1 h1 a2 h2 a3 h3 a4 h4 a5 x0 x1 x2 x3 k))), top_le]
  have em : ∀ k < 16, ∀ j : Fin 256, maximumf (absf (gateS a1 h1 a2 h2 a3 h3 a4 h4 a5 x0 x1 x2 x3 k)) (absf (upS a1 h1 a2 h2 a3 h3 a4 h4 a5 x0 x1 x2 x3 k)) (ix2 r j)
      = max (mag (gateS a1 h1 a2 h2 a3 h3 a4 h4 a5 x0 x1 x2 x3 k (ix2 r j))) (mag (upS a1 h1 a2 h2 a3 h3 a4 h4 a5 x0 x1 x2 x3 k (ix2 r j))) := fun _ _ _ => rfl
  refine ⟨fun h c => ?_, fun h k hk j => ?_⟩
  · rcases Nat.lt_or_ge c.val 4096 with hc | hc
    · have := h (c.val / 256) (by omega) ⟨c.val % 256, Nat.mod_lt _ (by omega)⟩
      rw [em _ (by omega), max_le_iff, gateS_eq (hk := by omega)] at this
      have e : (⟨256 * (c.val / 256) + c.val % 256, by omega⟩ : Fin 8192) = c := Fin.ext (by show 256 * (c.val / 256) + c.val % 256 = c.val; omega)
      rw [← e]
      exact this.1
    · have := h ((c.val - 4096) / 256) (by omega) ⟨c.val % 256, Nat.mod_lt _ (by omega)⟩
      rw [em _ (by omega), max_le_iff, upS_eq (hk := by omega)] at this
      have e : (⟨4096 + (256 * ((c.val - 4096) / 256) + c.val % 256), by omega⟩ : Fin 8192) = c :=
        Fin.ext (by show 4096 + (256 * ((c.val - 4096) / 256) + c.val % 256) = c.val; omega)
      rw [← e]
      exact this.2
  · rw [em _ (by omega), gateS_eq (hk := by omega), upS_eq (hk := by omega)]
    exact max_le (h _) (h _)

theorem dh_canon : View.canon (dhStores (F := Ideal) a1 h1 a2 h2 a3 h3 a4 h4 a5 x0 x1 x2 x3) = dhBlock x0 x1 x2 x3 := by
  funext y
  obtain ⟨r, c, rfl⟩ : ∃ (r : Fin 256) (c : Fin 8192), y = ix2 r c := ⟨y 0, y 1, eq_ix2 y⟩
  unfold dhStores
  rcases Nat.lt_or_ge c.val 4096 with hc | hc
  · have := (putP_at (e := .bf16) (fun k => odd (gateS a1 h1 a2 h2 a3 h3 a4 h4 a5 x0 x1 x2 x3 k)) (fun k => odd (upS a1 h1 a2 h2 a3 h3 a4 h4 a5 x0 x1 x2 x3 k))
      r ⟨c.val, hc⟩ 16 le_rfl hc).1
    refine this.trans ?_
    rw [odd_apply]
    show gateS a1 h1 a2 h2 a3 h3 a4 h4 a5 x0 x1 x2 x3 (c.val / 256) (ix2 r ⟨c.val % 256, _⟩) = _
    rw [gateS_eq (hk := by omega)]
    exact congrArg (dhV x0 x1 x2 x3 r) (Fin.ext (by show 256 * (c.val / 256) + c.val % 256 = c.val; omega))
  · have := (putP_at (e := .bf16) (fun k => odd (gateS a1 h1 a2 h2 a3 h3 a4 h4 a5 x0 x1 x2 x3 k)) (fun k => odd (upS a1 h1 a2 h2 a3 h3 a4 h4 a5 x0 x1 x2 x3 k))
      r ⟨c.val - 4096, by omega⟩ 16 le_rfl (by show c.val - 4096 < _; omega)).2
    rw [show (⟨4096 + (⟨c.val - 4096, by omega⟩ : Fin 4096).val, by show 4096 + (c.val - 4096) < 8192; omega⟩ : Fin 8192) = c
      from Fin.ext (by show 4096 + (c.val - 4096) = c.val; omega)] at this
    refine this.trans ?_
    rw [odd_apply]
    show upS a1 h1 a2 h2 a3 h3 a4 h4 a5 x0 x1 x2 x3 ((c.val - 4096) / 256) (ix2 r ⟨(c.val - 4096) % 256, _⟩) = _
    rw [upS_eq (hk := by omega)]
    exact congrArg (dhV x0 x1 x2 x3 r) (Fin.ext (by show 4096 + (256 * ((c.val - 4096) / 256) + (c.val - 4096) % 256) = c.val; omega))

theorem dhBack_apply (k : ℕ) (r j : Fin 256) (c : Fin 8192) (hc : c.val = 256 * (k % 32) + j.val) :
    dhBack (F := Ideal) a1 h1 a2 h2 a3 h3 a4 h4 a5 a8 x0 x1 x2 x3 k (ix2 r j) = dhV x0 x1 x2 x3 r c := by
  unfold dhBack
  rw [View.readCov_eq_canon', dh_canon]
  exact congrArg (dhBlock x0 x1 x2 x3) (emb_cols _ (inb_gu k) r j c hc)

theorem dhCodes_canon : View.canon (dhCodes (F := Ideal) a1 h1 a2 h2 a3 h3 a4 h4 a5 a8 x0 x1 x2 x3) = dhCodeBlock x0 x1 x2 x3 := by
  funext y
  obtain ⟨r, c, rfl⟩ : ∃ (r : Fin 256) (c : Fin 8192), y = ix2 r c := ⟨y 0, y 1, eq_ix2 y⟩
  unfold dhCodes
  rw [putG_at _ r c 32 le_rfl c.isLt, quant_apply, dhBack_apply (c := c) (hc := by
      have : c.val / 256 % 32 = c.val / 256 := Nat.mod_eq_of_lt (by omega)
      show c.val = 256 * (c.val / 256 % 32) + c.val % 256
      omega)]
  have e : truncf (F := Ideal) .bf16 (across (invV (rowRatio a1 h1 a2 h2 a3 h3 a4 h4 a5 x0 x1 x2 x3))) bitsLt_bf16_f32
      (ix2 r ⟨c.val % 256, Nat.mod_lt _ (by omega)⟩) = Ideal.exp2 (0 - expo (dhP x0 x1 x2 x3 r)) := by
    show across (invV (rowRatio a1 h1 a2 h2 a3 h3 a4 h4 a5 x0 x1 x2 x3)) _ = _
    rw [across_apply, invV_apply, rowRatio_eq]
  rw [e]
  rfl

theorem dhRow_canon : View.canon (dhRow (F := Ideal) a1 h1 a2 h2 a3 h3 a4 h4 a5 x0 x1 x2 x3) = dhScaleBlock x0 x1 x2 x3 := by
  unfold dhRow
  rw [View.canon_unit_zero hz2]
  funext y
  obtain ⟨r, c, rfl⟩ : ∃ (r : Fin 1) (c : Fin 256), y = ix2 r c := ⟨y 0, y 1, eq_ix2 y⟩
  obtain rfl : r = 0 := Subsingleton.elim _ _
  rw [asRow_apply, scaleV_apply, rowRatio_eq]
  rfl

end Strips

end Cert.KernelRowsIdeal.Block

end
-- ==== Proof.RowsMax.lean ====
/-
  The running column maxima of the rows kernel, kept for eight sublanes: a block joins to sublane `s` the largest magnitude
  of its rows `s, s + 8, …`. The first block joins to zero. The last block then takes the largest of the eight sublanes and
  its scale.
-/
module

public import proofs.«01_k».proof.Proof.RowsBlock

@[expose] public section

set_option maxRecDepth 16384

noncomputable section

namespace Cert.KernelRowsIdeal.Block

open Cert.KernelRowsIdeal Cert.KernelRowsIdeal.Gen Idealize.ShloMosaic Idealize.ShloMosaic.TcCoe Idealize.SL.Sem
open Cert.Math

theorem zero_dy (y : S8x3072.Idx) : k0_pay10 (F := Ideal) y = 0 := by
  obtain ⟨r, c, rfl⟩ : ∃ (r : Fin 8) (c : Fin 3072), y = ix2 r c := ⟨y 0, y 1, eq_ix2 y⟩
  pointwise [k0_pay10]

theorem zero_dh (y : S8x8192.Idx) : k0_pay11 (F := Ideal) y = 0 := by
  obtain ⟨r, c, rfl⟩ : ∃ (r : Fin 8) (c : Fin 8192), y = ix2 r c := ⟨y 0, y 1, eq_ix2 y⟩
  pointwise [k0_pay11]

theorem pay2_apply (v : Vec Ideal S8x3072 .f32) (c : Fin 3072) :
    k0_pay2 v (ix2 0 c) = top (fun s : Fin 8 => v (ix2 s c)) * Ideal.ofBits .f32 0x37924925#32 := by
  unfold top
  pointwise [k0_pay2]

theorem pay6_apply (v : Vec Ideal S8x8192 .f32) (c : Fin 8192) :
    k0_pay6 v (ix2 0 c) = top (fun s : Fin 8 => v (ix2 s c)) * Ideal.ofBits .f32 0x37924925#32 := by
  unfold top
  pointwise [k0_pay6]

section Strips

variable (a1 : Memref sig .tc .smem S1 .f32) (h1 : a1.IsWhole) (a2 : Memref sig .tc .vmem S256x3072 .bf16) (h2 : a2.IsWhole)
  (a3 : Memref sig .tc .vmem S256x8192 .bf16) (h3 : a3.IsWhole) (a4 : Memref sig .tc .vmem S4096x3072 .fp8e4m3) (h4 : a4.IsWhole)
  (a5 : Memref sig .tc .vmem S256x3072 .fp8e5m2)
  (a12 : Memref sig .tc .vmem S8x3072 .f32) (h12 : a12.IsWhole) (a13 : Memref sig .tc .vmem S8x8192 .f32) (h13 : a13.IsWhole)
  (x0 : Vec Ideal S1 .f32) (x1 : Vec Ideal S256x3072 .bf16) (x2 : Vec Ideal S256x8192 .bf16) (x3 : Vec Ideal S4096x3072 .fp8e4m3)
  (xs0 : Vec Ideal S8x3072 .f32) (xs1 : Vec Ideal S8x8192 .f32)

theorem lo (c : Fin 4096) : c.val < 8192 := by omega
theorem hi (c : Fin 4096) : 4096 + c.val < 8192 := by omega

/-- Row `q` of sublane `s` in a block. -/
def lineOf (s : Fin 8) (q : Fin 32) : Fin 256 := ⟨q.val * 8 + s.val, by omega⟩

/-- The maxima after a block, from those before. -/
def dyJoin (o : Vec Ideal S8x3072 .f32) : Vec Ideal S8x3072 .f32 :=
  fun y => max (o y) (top (fun q : Fin 32 => mag (x1 (ix2 (lineOf (y 0) q) (y 1)))))
def dhJoin (o : Vec Ideal S8x8192 .f32) : Vec Ideal S8x8192 .f32 :=
  fun y => max (o y) (top (fun q : Fin 32 => mag (dhV x0 x1 x2 x3 (lineOf (y 0) q) (y 1))))

theorem dy_join (L : List (View.Piece (Elt Ideal) S8x3072 .f32)) (old : List (View.Piece (Elt Ideal) S8x3072 .f32) → ℕ → Vec Ideal S8x256 .f32)
    (o : Vec Ideal S8x3072 .f32)
    (ho : ∀ (s : Fin 8) (c : Fin 3072), old (joinD L old (fun k => wide (rdD a2 h2 x1 k)) (c.val / 256)) (c.val / 256) (ix2 s ⟨c.val % 256, Nat.mod_lt _ (by omega)⟩) = o (ix2 s c)) :
    View.canon (joinD L old (fun k => wide (rdD a2 h2 x1 k)) 12) = dyJoin x1 o := by
  funext y
  obtain ⟨s, c, rfl⟩ : ∃ (s : Fin 8) (c : Fin 3072), y = ix2 s c := ⟨y 0, y 1, eq_ix2 y⟩
  rw [joinD_at _ _ _ s c 12 le_rfl c.isLt, joinMax_apply, ho]
  simp only [absf_apply, wide_apply]
  have hm : c.val / 256 % 12 = c.val / 256 := Nat.mod_eq_of_lt (by omega)
  have hq : ∀ r, rdD a2 h2 x1 (c.val / 256) (ix2 r ⟨c.val % 256, Nat.mod_lt _ (by omega)⟩) = x1 (ix2 r c) := fun r =>
    rdD_apply a2 h2 x1 _ r _ c (by show c.val = 256 * (c.val / 256 % 12) + c.val % 256; omega)
  simp only [hq]
  rfl

theorem dh_join (L : List (View.Piece (Elt Ideal) S8x8192 .f32)) (old : List (View.Piece (Elt Ideal) S8x8192 .f32) → ℕ → Vec Ideal S8x256 .f32)
    (o : Vec Ideal S8x8192 .f32) (f g : ℕ → FVec Ideal S256x256 .f32)
    (hf : f = gateS a1 h1 a2 h2 a3 h3 a4 h4 a5 x0 x1 x2 x3) (hg : g = upS a1 h1 a2 h2 a3 h3 a4 h4 a5 x0 x1 x2 x3)
    (hg' : ∀ (s : Fin 8) (c : Fin 4096), old (joinG L old f g (c.val / 256)) (c.val / 256) (ix2 s ⟨c.val % 256, Nat.mod_lt _ (by omega)⟩) = o (ix2 s ⟨c.val, by omega⟩))
    (hu' : ∀ (s : Fin 8) (c : Fin 4096), old (joinM L old f g (c.val / 256)) (c.val / 256 + 16) (ix2 s ⟨c.val % 256, Nat.mod_lt _ (by omega)⟩) = o (ix2 s ⟨4096 + c.val, by omega⟩)) :
    View.canon (joinG L old f g 16) = dhJoin x0 x1 x2 x3 o := by
  funext y
  obtain ⟨s, l, rfl⟩ : ∃ (s : Fin 8) (l : Fin 8192), y = ix2 s l := ⟨y 0, y 1, eq_ix2 y⟩
  rcases Nat.lt_or_ge l.val 4096 with hl | hl
  · obtain ⟨c, hc⟩ : ∃ c : Fin 4096, c.val = l.val := ⟨⟨l.val, hl⟩, rfl⟩
    obtain rfl : (⟨c.val, lo c⟩ : Fin 8192) = l := Fin.ext hc
    rw [(joinG_at L old f g s c 16 le_rfl c.isLt).1, joinMax_apply, hg', hf]
    simp only [absf_apply, gateS_eq (hk := show c.val / 256 < 16 by omega)]
    have e : (⟨256 * (c.val / 256) + c.val % 256, by omega⟩ : Fin 8192) = ⟨c.val, by omega⟩ := Fin.ext (by show 256 * (c.val / 256) + c.val % 256 = c.val; omega)
    simp only [e]
    rfl
  · obtain ⟨c, hc⟩ : ∃ c : Fin 4096, 4096 + c.val = l.val := ⟨⟨l.val - 4096, by omega⟩, by show 4096 + (l.val - 4096) = l.val; omega⟩
    obtain rfl : (⟨4096 + c.val, hi c⟩ : Fin 8192) = l := Fin.ext hc
    rw [(joinG_at L old f g s c 16 le_rfl c.isLt).2, joinMax_apply, hu', hg]
    simp only [absf_apply, upS_eq (hk := show c.val / 256 < 16 by omega)]
    have e : (⟨4096 + (256 * (c.val / 256) + c.val % 256), by omega⟩ : Fin 8192) = ⟨4096 + c.val, by omega⟩ :=
      Fin.ext (by show 4096 + (256 * (c.val / 256) + c.val % 256) = 4096 + c.val; omega)
    simp only [e]
    rfl

theorem dyMaxFirst_canon : View.canon (dyMaxFirst (F := Ideal) a2 h2 a12 x1) = dyJoin x1 (fun _ => 0) := by
  refine dy_join a2 h2 x1 _ _ _ fun s c => ?_
  have hm : c.val / 256 % 12 = c.val / 256 := Nat.mod_eq_of_lt (by omega)
  rw [View.readCov_eq_canon']
  have e := emb_cols _ (inb_s0 (c.val / 256)) s ⟨c.val % 256, Nat.mod_lt _ (by omega)⟩ c (by show c.val = 256 * (c.val / 256 % 12) + c.val % 256; omega)
  refine (congrArg (View.canon _) e).trans ?_
  rw [joinD_past _ _ _ s c _ (by omega) (by omega), View.canon_unit_zero hz2]
  exact zero_dy _

theorem dyMaxNext_canon : View.canon (dyMaxNext (F := Ideal) a2 h2 a12 h12 x1 xs0) = dyJoin x1 xs0 := by
  refine dy_join a2 h2 x1 _ _ _ fun s c => ?_
  have hm : c.val / 256 % 12 = c.val / 256 := Nat.mod_eq_of_lt (by omega)
  rw [View.readAt_eq_ld, h12.read_unread]
  exact congrArg xs0 (emb_cols _ (inb_s0 (c.val / 256)) s ⟨c.val % 256, Nat.mod_lt _ (by omega)⟩ c
    (by show c.val = 256 * (c.val / 256 % 12) + c.val % 256; omega))

theorem dhMaxFirst_canon : View.canon (dhMaxFirst (F := Ideal) a1 h1 a2 h2 a3 h3 a4 h4 a5 a13 x0 x1 x2 x3) = dhJoin x0 x1 x2 x3 (fun _ => 0) := by
  refine dh_join a1 h1 a2 h2 a3 h3 a4 h4 a5 x0 x1 x2 x3 _ _ _ _ _ rfl rfl (fun s c => ?_) fun s c => ?_
  · have hm : c.val / 256 % 32 = c.val / 256 := Nat.mod_eq_of_lt (by omega)
    rw [View.readCov_eq_canon']
    have e := emb_cols _ (inb_s1 (c.val / 256)) s ⟨c.val % 256, Nat.mod_lt _ (by omega)⟩ (⟨c.val, by omega⟩ : Fin 8192)
      (by show c.val = 256 * (c.val / 256 % 32) + c.val % 256; omega)
    refine (congrArg (View.canon _) e).trans ?_
    rw [(joinG_past _ _ _ _ s c _ (by omega) (by omega)).1, View.canon_unit_zero hz2]
    exact zero_dh _
  · have hm : (c.val / 256 + 16) % 32 = c.val / 256 + 16 := Nat.mod_eq_of_lt (by omega)
    rw [View.readCov_eq_canon']
    have e := emb_cols _ (inb_s1 (c.val / 256 + 16)) s ⟨c.val % 256, Nat.mod_lt _ (by omega)⟩ (⟨4096 + c.val, by omega⟩ : Fin 8192)
      (by show 4096 + c.val = 256 * ((c.val / 256 + 16) % 32) + c.val % 256; omega)
    refine (congrArg (View.canon _) e).trans ?_
    rw [joinM_past _ _ _ _ s c _ (by omega) (by omega), View.canon_unit_zero hz2]
    exact zero_dh _

theorem dhMaxNext_canon : View.canon (dhMaxNext (F := Ideal) a1 h1 a2 h2 a3 h3 a4 h4 a5 a13 h13 x0 x1 x2 x3 xs1) = dhJoin x0 x1 x2 x3 xs1 := by
  refine dh_join a1 h1 a2 h2 a3 h3 a4 h4 a5 x0 x1 x2 x3 _ _ _ _ _ rfl rfl (fun s c => ?_) fun s c => ?_
  · have hm : c.val / 256 % 32 = c.val / 256 := Nat.mod_eq_of_lt (by omega)
    rw [View.readAt_eq_ld, h13.read_unread]
    exact congrArg xs1 (emb_cols _ (inb_s1 (c.val / 256)) s ⟨c.val % 256, Nat.mod_lt _ (by omega)⟩ _
      (by show c.val = 256 * (c.val / 256 % 32) + c.val % 256; omega))
  · have hm : (c.val / 256 + 16) % 32 = c.val / 256 + 16 := Nat.mod_eq_of_lt (by omega)
    rw [View.readAt_eq_ld, h13.read_unread]
    exact congrArg xs1 (emb_cols _ (inb_s1 (c.val / 256 + 16)) s ⟨c.val % 256, Nat.mod_lt _ (by omega)⟩ _
      (by show 4096 + c.val = 256 * ((c.val / 256 + 16) % 32) + c.val % 256; omega))

/-- The column scales that the last block writes, from the maxima it leaves. -/
def dyColBlock (o : Vec Ideal S8x3072 .f32) : Vec Ideal S1x3072 .f32 :=
  fun y => scaleOf (top (fun s : Fin 8 => o (ix2 s (y 1))) * Ideal.ofBits .f32 0x37924925#32)
def dhColBlock (o : Vec Ideal S8x8192 .f32) : Vec Ideal S1x8192 .f32 :=
  fun y => scaleOf (top (fun s : Fin 8 => o (ix2 s (y 1))) * Ideal.ofBits .f32 0x37924925#32)

theorem dyCol_canon : View.canon (dyCol (F := Ideal) a2 h2 a12 h12 x1 xs0) = dyColBlock (dyJoin x1 xs0) := by
  unfold dyCol
  rw [View.canon_unit_zero hz2, View.readCov_eq_canon', dyMaxNext_canon]
  have e : (fun j => dyJoin x1 xs0 ((Rect.unit (s := S8x3072) ![0, 0] S8x3072.size inb_S8x3072_S8x3072_0_0).toLoadRect.idx j)) = dyJoin x1 xs0 :=
    View.ld_unit_zero (S := S8x3072) hz2 _ _
  rw [e]
  funext y
  obtain ⟨r, c, rfl⟩ : ∃ (r : Fin 1) (c : Fin 3072), y = ix2 r c := ⟨y 0, y 1, eq_ix2 y⟩
  obtain rfl : r = 0 := Subsingleton.elim _ _
  rw [scaleV_apply, pay2_apply]
  rfl

theorem dhCol_canon : View.canon (dhCol (F := Ideal) a1 h1 a2 h2 a3 h3 a4 h4 a5 a13 h13 x0 x1 x2 x3 xs1) = dhColBlock (dhJoin x0 x1 x2 x3 xs1) := by
  unfold dhCol
  rw [View.canon_unit_zero hz2, View.readCov_eq_canon', dhMaxNext_canon]
  have e : (fun j => dhJoin x0 x1 x2 x3 xs1 ((Rect.unit (s := S8x8192) ![0, 0] S8x8192.size inb_S8x8192_S8x8192_0_0).toLoadRect.idx j)) = dhJoin x0 x1 x2 x3 xs1 :=
    View.ld_unit_zero (S := S8x8192) hz2 _ _
  rw [e]
  funext y
  obtain ⟨r, c, rfl⟩ : ∃ (r : Fin 1) (c : Fin 8192), y = ix2 r c := ⟨y 0, y 1, eq_ix2 y⟩
  obtain rfl : r = 0 := Subsingleton.elim _ _
  rw [scaleV_apply, pay6_apply]
  rfl

end Strips

end Cert.KernelRowsIdeal.Block

end
-- ==== Proof.RowsState.lean ====
/-
  What each grid point of the rows kernel leaves, whichever of the three cases it is: its blocks of codes, row scales and dH,
  and the running column maxima, joined to those that the point before left. The last point leaves the column scales.
-/
module

public import proofs.«01_k».proof.Proof.RowsMax
public import proofs.«01_k».proof.Proof.Gen.KernelRowsIdeal.Value

@[expose] public section

set_option maxRecDepth 16384

noncomputable section

namespace Cert.KernelRowsIdeal.Block

open Cert.KernelRowsIdeal Cert.KernelRowsIdeal.Gen Idealize.ShloMosaic Idealize.ShloMosaic.TcCoe Idealize.SL.Sem
open Cert.Math

/-- Stores that are the list `L'` leave what it leaves. -/
theorem left_eq {sg : RefSig} {κ : Kind} {sp : Space} {S : Shape} {e : EltTy} (v : View sg κ sp S e) {L L' : List (View.Piece (Elt Ideal) S e)}
    {G : S.Idx → Elt Ideal e} (h : L = L') (h' : View.canon L' = G) : v.read (Elt Ideal) (v.writes (Elt Ideal) v.junk L) = G := by
  rw [View.read_writes_junk_eq_canon, h, h']

section Cases

variable (c : Dev nD) (i : grid0.Coords) (a1 : Memref sig .tc .smem S1 .f32) (h1 : a1.IsWhole)
  (a2 : Memref sig .tc .vmem S256x3072 .bf16) (h2 : a2.IsWhole)
  (a3 : Memref sig .tc .vmem S256x8192 .bf16) (h3 : a3.IsWhole)
  (a4 : Memref sig .tc .vmem S4096x3072 .fp8e4m3) (h4 : a4.IsWhole)
  (a5 : Memref sig .tc .vmem S256x3072 .fp8e5m2) (h5 : a5.IsWhole)
  (a6 : Memref sig .tc .vmem S1x256 .f32) (h6 : a6.IsWhole)
  (a7 : Memref sig .tc .vmem S1x3072 .f32) (h7 : a7.IsWhole)
  (a8 : Memref sig .tc .vmem S256x8192 .bf16) (h8 : a8.IsWhole)
  (a9 : Memref sig .tc .vmem S256x8192 .fp8e5m2) (h9 : a9.IsWhole)
  (a10 : Memref sig .tc .vmem S1x256 .f32) (h10 : a10.IsWhole)
  (a11 : Memref sig .tc .vmem S1x8192 .f32) (h11 : a11.IsWhole)
  (a12 : Memref sig .tc .vmem S8x3072 .f32) (h12 : a12.IsWhole)
  (a13 : Memref sig .tc .vmem S8x8192 .f32) (h13 : a13.IsWhole)
  (x0 : Vec Ideal S1 .f32) (x1 : Vec Ideal S256x3072 .bf16) (x2 : Vec Ideal S256x8192 .bf16) (x3 : Vec Ideal S4096x3072 .fp8e4m3)
  (xs0 : Vec Ideal S8x3072 .f32) (xs1 : Vec Ideal S8x8192 .f32)

/-! The first point. -/

theorem dyCodes_left_A (p : cond0_0 i) (q : ¬cond0_1 i) :
    out0_A_4 (F := Ideal) c i a1 h1 a2 h2 a3 h3 a4 h4 a5 h5 a6 h6 a7 h7 a8 h8 a9 h9 a10 h10 a11 h11 a12 h12 a13 h13 p q x0 x1 x2 x3 = dyCodeBlock x1 :=
  left_eq VO0_4 (dyCodes_A c i a1 h1 a2 h2 a3 h3 a4 h4 a5 h5 a6 h6 a7 h7 a8 h8 a9 h9 a10 h10 a11 h11 a12 h12 a13 h13 x0 x1 x2 x3 p q) (dyCodes_canon a2 h2 x1)

theorem dyRow_left_A (p : cond0_0 i) (q : ¬cond0_1 i) :
    out0_A_5 (F := Ideal) c i a1 h1 a2 h2 a3 h3 a4 h4 a5 h5 a6 h6 a7 h7 a8 h8 a9 h9 a10 h10 a11 h11 a12 h12 a13 h13 p q x0 x1 x2 x3 = dyScaleBlock x1 :=
  left_eq VO0_5 (dyRow_A c i a1 h1 a2 h2 a3 h3 a4 h4 a5 h5 a6 h6 a7 h7 a8 h8 a9 h9 a10 h10 a11 h11 a12 h12 a13 h13 x0 x1 x2 x3 p q) (dyRow_canon a2 h2 x1)

theorem dh_left_A (p : cond0_0 i) (q : ¬cond0_1 i) :
    out0_A_7 (F := Ideal) c i a1 h1 a2 h2 a3 h3 a4 h4 a5 h5 a6 h6 a7 h7 a8 h8 a9 h9 a10 h10 a11 h11 a12 h12 a13 h13 p q x0 x1 x2 x3 = dhBlock x0 x1 x2 x3 :=
  left_eq VO0_7 (dh_A c i a1 h1 a2 h2 a3 h3 a4 h4 a5 h5 a6 h6 a7 h7 a8 h8 a9 h9 a10 h10 a11 h11 a12 h12 a13 h13 x0 x1 x2 x3 p q) (dh_canon a1 h1 a2 h2 a3 h3 a4 h4 a5 x0 x1 x2 x3)

theorem dhCodes_left_A (p : cond0_0 i) (q : ¬cond0_1 i) :
    out0_A_8 (F := Ideal) c i a1 h1 a2 h2 a3 h3 a4 h4 a5 h5 a6 h6 a7 h7 a8 h8 a9 h9 a10 h10 a11 h11 a12 h12 a13 h13 p q x0 x1 x2 x3 = dhCodeBlock x0 x1 x2 x3 :=
  left_eq VO0_8 (dhCodes_A c i a1 h1 a2 h2 a3 h3 a4 h4 a5 h5 a6 h6 a7 h7 a8 h8 a9 h9 a10 h10 a11 h11 a12 h12 a13 h13 x0 x1 x2 x3 p q) (dhCodes_canon a1 h1 a2 h2 a3 h3 a4 h4 a5 a8 x0 x1 x2 x3)

theorem dhRow_left_A (p : cond0_0 i) (q : ¬cond0_1 i) :
    out0_A_9 (F := Ideal) c i a1 h1 a2 h2 a3 h3 a4 h4 a5 h5 a6 h6 a7 h7 a8 h8 a9 h9 a10 h10 a11 h11 a12 h12 a13 h13 p q x0 x1 x2 x3 = dhScaleBlock x0 x1 x2 x3 :=
  left_eq VO0_9 (dhRow_A c i a1 h1 a2 h2 a3 h3 a4 h4 a5 h5 a6 h6 a7 h7 a8 h8 a9 h9 a10 h10 a11 h11 a12 h12 a13 h13 x0 x1 x2 x3 p q) (dhRow_canon a1 h1 a2 h2 a3 h3 a4 h4 a5 x0 x1 x2 x3)

theorem dyMax_left_A (p : cond0_0 i) (q : ¬cond0_1 i) :
    sout0_A_0 (F := Ideal) c i a1 h1 a2 h2 a3 h3 a4 h4 a5 h5 a6 h6 a7 h7 a8 h8 a9 h9 a10 h10 a11 h11 a12 h12 a13 h13 p q x0 x1 x2 x3 = dyJoin x1 (fun _ => 0) :=
  left_eq VS0_0 (dyMax_A c i a1 h1 a2 h2 a3 h3 a4 h4 a5 h5 a6 h6 a7 h7 a8 h8 a9 h9 a10 h10 a11 h11 a12 h12 a13 h13 x0 x1 x2 x3 p q) (dyMaxFirst_canon a2 h2 a12 x1)

theorem dhMax_left_A (p : cond0_0 i) (q : ¬cond0_1 i) :
    sout0_A_1 (F := Ideal) c i a1 h1 a2 h2 a3 h3 a4 h4 a5 h5 a6 h6 a7 h7 a8 h8 a9 h9 a10 h10 a11 h11 a12 h12 a13 h13 p q x0 x1 x2 x3 = dhJoin x0 x1 x2 x3 (fun _ => 0) :=
  left_eq VS0_1 (dhMax_A c i a1 h1 a2 h2 a3 h3 a4 h4 a5 h5 a6 h6 a7 h7 a8 h8 a9 h9 a10 h10 a11 h11 a12 h12 a13 h13 x0 x1 x2 x3 p q) (dhMaxFirst_canon a1 h1 a2 h2 a3 h3 a4 h4 a5 a13 x0 x1 x2 x3)

/-! A point between. -/

theorem dyCodes_left_B (p : ¬cond0_0 i) (q : ¬cond0_1 i) :
    out0_B_4 (F := Ideal) c i a1 h1 a2 h2 a3 h3 a4 h4 a5 h5 a6 h6 a7 h7 a8 h8 a9 h9 a10 h10 a11 h11 a12 h12 a13 h13 p q x0 x1 x2 x3 xs0 xs1 = dyCodeBlock x1 :=
  left_eq VO0_4 (dyCodes_B c i a1 h1 a2 h2 a3 h3 a4 h4 a5 h5 a6 h6 a7 h7 a8 h8 a9 h9 a10 h10 a11 h11 a12 h12 a13 h13 x0 x1 x2 x3 xs0 xs1 p q) (dyCodes_canon a2 h2 x1)

theorem dyRow_left_B (p : ¬cond0_0 i) (q : ¬cond0_1 i) :
    out0_B_5 (F := Ideal) c i a1 h1 a2 h2 a3 h3 a4 h4 a5 h5 a6 h6 a7 h7 a8 h8 a9 h9 a10 h10 a11 h11 a12 h12 a13 h13 p q x0 x1 x2 x3 xs0 xs1 = dyScaleBlock x1 :=
  left_eq VO0_5 (dyRow_B c i a1 h1 a2 h2 a3 h3 a4 h4 a5 h5 a6 h6 a7 h7 a8 h8 a9 h9 a10 h10 a11 h11 a12 h12 a13 h13 x0 x1 x2 x3 xs0 xs1 p q) (dyRow_canon a2 h2 x1)

theorem dh_left_B (p : ¬cond0_0 i) (q : ¬cond0_1 i) :
    out0_B_7 (F := Ideal) c i a1 h1 a2 h2 a3 h3 a4 h4 a5 h5 a6 h6 a7 h7 a8 h8 a9 h9 a10 h10 a11 h11 a12 h12 a13 h13 p q x0 x1 x2 x3 xs0 xs1 = dhBlock x0 x1 x2 x3 :=
  left_eq VO0_7 (dh_B c i a1 h1 a2 h2 a3 h3 a4 h4 a5 h5 a6 h6 a7 h7 a8 h8 a9 h9 a10 h10 a11 h11 a12 h12 a13 h13 x0 x1 x2 x3 xs0 xs1 p q) (dh_canon a1 h1 a2 h2 a3 h3 a4 h4 a5 x0 x1 x2 x3)

theorem dhCodes_left_B (p : ¬cond0_0 i) (q : ¬cond0_1 i) :
    out0_B_8 (F := Ideal) c i a1 h1 a2 h2 a3 h3 a4 h4 a5 h5 a6 h6 a7 h7 a8 h8 a9 h9 a10 h10 a11 h11 a12 h12 a13 h13 p q x0 x1 x2 x3 xs0 xs1 = dhCodeBlock x0 x1 x2 x3 :=
  left_eq VO0_8 (dhCodes_B c i a1 h1 a2 h2 a3 h3 a4 h4 a5 h5 a6 h6 a7 h7 a8 h8 a9 h9 a10 h10 a11 h11 a12 h12 a13 h13 x0 x1 x2 x3 xs0 xs1 p q) (dhCodes_canon a1 h1 a2 h2 a3 h3 a4 h4 a5 a8 x0 x1 x2 x3)

theorem dhRow_left_B (p : ¬cond0_0 i) (q : ¬cond0_1 i) :
    out0_B_9 (F := Ideal) c i a1 h1 a2 h2 a3 h3 a4 h4 a5 h5 a6 h6 a7 h7 a8 h8 a9 h9 a10 h10 a11 h11 a12 h12 a13 h13 p q x0 x1 x2 x3 xs0 xs1 = dhScaleBlock x0 x1 x2 x3 :=
  left_eq VO0_9 (dhRow_B c i a1 h1 a2 h2 a3 h3 a4 h4 a5 h5 a6 h6 a7 h7 a8 h8 a9 h9 a10 h10 a11 h11 a12 h12 a13 h13 x0 x1 x2 x3 xs0 xs1 p q) (dhRow_canon a1 h1 a2 h2 a3 h3 a4 h4 a5 x0 x1 x2 x3)

theorem dyMax_left_B (p : ¬cond0_0 i) (q : ¬cond0_1 i) :
    sout0_B_0 (F := Ideal) c i a1 h1 a2 h2 a3 h3 a4 h4 a5 h5 a6 h6 a7 h7 a8 h8 a9 h9 a10 h10 a11 h11 a12 h12 a13 h13 p q x0 x1 x2 x3 xs0 xs1 = dyJoin x1 xs0 :=
  left_eq VS0_0 (dyMax_B c i a1 h1 a2 h2 a3 h3 a4 h4 a5 h5 a6 h6 a7 h7 a8 h8 a9 h9 a10 h10 a11 h11 a12 h12 a13 h13 x0 x1 x2 x3 xs0 xs1 p q) (dyMaxNext_canon a2 h2 a12 h12 x1 xs0)

theorem dhMax_left_B (p : ¬cond0_0 i) (q : ¬cond0_1 i) :
    sout0_B_1 (F := Ideal) c i a1 h1 a2 h2 a3 h3 a4 h4 a5 h5 a6 h6 a7 h7 a8 h8 a9 h9 a10 h10 a11 h11 a12 h12 a13 h13 p q x0 x1 x2 x3 xs0 xs1 = dhJoin x0 x1 x2 x3 xs1 :=
  left_eq VS0_1 (dhMax_B c i a1 h1 a2 h2 a3 h3 a4 h4 a5 h5 a6 h6 a7 h7 a8 h8 a9 h9 a10 h10 a11 h11 a12 h12 a13 h13 x0 x1 x2 x3 xs0 xs1 p q) (dhMaxNext_canon a1 h1 a2 h2 a3 h3 a4 h4 a5 a13 h13 x0 x1 x2 x3 xs1)

/-! The last point. -/

theorem dyCodes_left_C (p : ¬cond0_0 i) (q : cond0_1 i) :
    out0_C_4 (F := Ideal) c i a1 h1 a2 h2 a3 h3 a4 h4 a5 h5 a6 h6 a7 h7 a8 h8 a9 h9 a10 h10 a11 h11 a12 h12 a13 h13 p q x0 x1 x2 x3 xs0 xs1 = dyCodeBlock x1 :=
  left_eq VO0_4 (dyCodes_C c i a1 h1 a2 h2 a3 h3 a4 h4 a5 h5 a6 h6 a7 h7 a8 h8 a9 h9 a10 h10 a11 h11 a12 h12 a13 h13 x0 x1 x2 x3 xs0 xs1 p q) (dyCodes_canon a2 h2 x1)

theorem dyRow_left_C (p : ¬cond0_0 i) (q : cond0_1 i) :
    out0_C_5 (F := Ideal) c i a1 h1 a2 h2 a3 h3 a4 h4 a5 h5 a6 h6 a7 h7 a8 h8 a9 h9 a10 h10 a11 h11 a12 h12 a13 h13 p q x0 x1 x2 x3 xs0 xs1 = dyScaleBlock x1 :=
  left_eq VO0_5 (dyRow_C c i a1 h1 a2 h2 a3 h3 a4 h4 a5 h5 a6 h6 a7 h7 a8 h8 a9 h9 a10 h10 a11 h11 a12 h12 a13 h13 x0 x1 x2 x3 xs0 xs1 p q) (dyRow_canon a2 h2 x1)

theorem dh_left_C (p : ¬cond0_0 i) (q : cond0_1 i) :
    out0_C_7 (F := Ideal) c i a1 h1 a2 h2 a3 h3 a4 h4 a5 h5 a6 h6 a7 h7 a8 h8 a9 h9 a10 h10 a11 h11 a12 h12 a13 h13 p q x0 x1 x2 x3 xs0 xs1 = dhBlock x0 x1 x2 x3 :=
  left_eq VO0_7 (dh_C c i a1 h1 a2 h2 a3 h3 a4 h4 a5 h5 a6 h6 a7 h7 a8 h8 a9 h9 a10 h10 a11 h11 a12 h12 a13 h13 x0 x1 x2 x3 xs0 xs1 p q) (dh_canon a1 h1 a2 h2 a3 h3 a4 h4 a5 x0 x1 x2 x3)

theorem dhCodes_left_C (p : ¬cond0_0 i) (q : cond0_1 i) :
    out0_C_8 (F := Ideal) c i a1 h1 a2 h2 a3 h3 a4 h4 a5 h5 a6 h6 a7 h7 a8 h8 a9 h9 a10 h10 a11 h11 a12 h12 a13 h13 p q x0 x1 x2 x3 xs0 xs1 = dhCodeBlock x0 x1 x2 x3 :=
  left_eq VO0_8 (dhCodes_C c i a1 h1 a2 h2 a3 h3 a4 h4 a5 h5 a6 h6 a7 h7 a8 h8 a9 h9 a10 h10 a11 h11 a12 h12 a13 h13 x0 x1 x2 x3 xs0 xs1 p q) (dhCodes_canon a1 h1 a2 h2 a3 h3 a4 h4 a5 a8 x0 x1 x2 x3)

theorem dhRow_left_C (p : ¬cond0_0 i) (q : cond0_1 i) :
    out0_C_9 (F := Ideal) c i a1 h1 a2 h2 a3 h3 a4 h4 a5 h5 a6 h6 a7 h7 a8 h8 a9 h9 a10 h10 a11 h11 a12 h12 a13 h13 p q x0 x1 x2 x3 xs0 xs1 = dhScaleBlock x0 x1 x2 x3 :=
  left_eq VO0_9 (dhRow_C c i a1 h1 a2 h2 a3 h3 a4 h4 a5 h5 a6 h6 a7 h7 a8 h8 a9 h9 a10 h10 a11 h11 a12 h12 a13 h13 x0 x1 x2 x3 xs0 xs1 p q) (dhRow_canon a1 h1 a2 h2 a3 h3 a4 h4 a5 x0 x1 x2 x3)

theorem dyMax_left_C (p : ¬cond0_0 i) (q : cond0_1 i) :
    sout0_C_0 (F := Ideal) c i a1 h1 a2 h2 a3 h3 a4 h4 a5 h5 a6 h6 a7 h7 a8 h8 a9 h9 a10 h10 a11 h11 a12 h12 a13 h13 p q x0 x1 x2 x3 xs0 xs1 = dyJoin x1 xs0 :=
  left_eq VS0_0 (dyMax_C c i a1 h1 a2 h2 a3 h3 a4 h4 a5 h5 a6 h6 a7 h7 a8 h8 a9 h9 a10 h10 a11 h11 a12 h12 a13 h13 x0 x1 x2 x3 xs0 xs1 p q) (dyMaxNext_canon a2 h2 a12 h12 x1 xs0)

theorem dhMax_left_C (p : ¬cond0_0 i) (q : cond0_1 i) :
    sout0_C_1 (F := Ideal) c i a1 h1 a2 h2 a3 h3 a4 h4 a5 h5 a6 h6 a7 h7 a8 h8 a9 h9 a10 h10 a11 h11 a12 h12 a13 h13 p q x0 x1 x2 x3 xs0 xs1 = dhJoin x0 x1 x2 x3 xs1 :=
  left_eq VS0_1 (dhMax_C c i a1 h1 a2 h2 a3 h3 a4 h4 a5 h5 a6 h6 a7 h7 a8 h8 a9 h9 a10 h10 a11 h11 a12 h12 a13 h13 x0 x1 x2 x3 xs0 xs1 p q) (dhMaxNext_canon a1 h1 a2 h2 a3 h3 a4 h4 a5 a13 h13 x0 x1 x2 x3 xs1)

theorem dyCol_left_C (p : ¬cond0_0 i) (q : cond0_1 i) :
    out0_C_6 (F := Ideal) c i a1 h1 a2 h2 a3 h3 a4 h4 a5 h5 a6 h6 a7 h7 a8 h8 a9 h9 a10 h10 a11 h11 a12 h12 a13 h13 p q x0 x1 x2 x3 xs0 xs1 = dyColBlock (dyJoin x1 xs0) :=
  left_eq VO0_6 (dyCol_C c i a1 h1 a2 h2 a3 h3 a4 h4 a5 h5 a6 h6 a7 h7 a8 h8 a9 h9 a10 h10 a11 h11 a12 h12 a13 h13 x0 x1 x2 x3 xs0 xs1 p q) (dyCol_canon a2 h2 a12 h12 x1 xs0)

theorem dhCol_left_C (p : ¬cond0_0 i) (q : cond0_1 i) :
    out0_C_10 (F := Ideal) c i a1 h1 a2 h2 a3 h3 a4 h4 a5 h5 a6 h6 a7 h7 a8 h8 a9 h9 a10 h10 a11 h11 a12 h12 a13 h13 p q x0 x1 x2 x3 xs0 xs1 = dhColBlock (dhJoin x0 x1 x2 x3 xs1) :=
  left_eq VO0_10 (dhCol_C c i a1 h1 a2 h2 a3 h3 a4 h4 a5 h5 a6 h6 a7 h7 a8 h8 a9 h9 a10 h10 a11 h11 a12 h12 a13 h13 x0 x1 x2 x3 xs0 xs1 p q) (dhCol_canon a1 h1 a2 h2 a3 h3 a4 h4 a5 a13 h13 x0 x1 x2 x3 xs1)

end Cases

variable (m : (ℓ : Loc nD τ sig) → Buf (Elt Ideal) ℓ) (c : Dev nD)

theorem point (t : Fin cfg0.N) :
    (outsAt0 m c t.val t.isLt).1 = dyCodeBlock (iblk m c 1 t)
    ∧ (outsAt0 m c t.val t.isLt).2.1 = dyScaleBlock (iblk m c 1 t)
    ∧ (outsAt0 m c t.val t.isLt).2.2.2.1 = dhBlock (iblk m c 0 t) (iblk m c 1 t) (iblk m c 2 t) (iblk m c 3 t)
    ∧ (outsAt0 m c t.val t.isLt).2.2.2.2.1 = dhCodeBlock (iblk m c 0 t) (iblk m c 1 t) (iblk m c 2 t) (iblk m c 3 t)
    ∧ (outsAt0 m c t.val t.isLt).2.2.2.2.2.1 = dhScaleBlock (iblk m c 0 t) (iblk m c 1 t) (iblk m c 2 t) (iblk m c 3 t) := by
  by_cases h0 : t.val % 32 = 0
  · rw [outsAt0_A m c t h0 (by omega)]
    dsimp only
    rw [dyCodes_left_A, dyRow_left_A, dh_left_A, dhCodes_left_A, dhRow_left_A]
    exact ⟨rfl, rfl, rfl, rfl, rfl⟩
  · by_cases h1 : t.val % 32 = 31
    · rw [outsAt0_C m c t h0 h1]
      dsimp only
      rw [dyCodes_left_C, dyRow_left_C, dh_left_C, dhCodes_left_C, dhRow_left_C]
      exact ⟨rfl, rfl, rfl, rfl, rfl⟩
    · rw [outsAt0_B m c t h0 h1]
      dsimp only
      rw [dyCodes_left_B, dyRow_left_B, dh_left_B, dhCodes_left_B, dhRow_left_B]
      exact ⟨rfl, rfl, rfl, rfl, rfl⟩

/-- The running maxima after point `n`. -/
def dyMax (n : ℕ) (hn : n < cfg0.N) : Vec Ideal S8x3072 .f32 := (outsAt0 m c n hn).2.2.2.2.2.2.2.1
def dhMax (n : ℕ) (hn : n < cfg0.N) : Vec Ideal S8x8192 .f32 := (outsAt0 m c n hn).2.2.2.2.2.2.2.2

theorem max_first (t : Fin cfg0.N) (h0 : t.val % 32 = 0) :
    dyMax m c t.val t.isLt = dyJoin (iblk m c 1 t) (fun _ => 0)
    ∧ dhMax m c t.val t.isLt = dhJoin (iblk m c 0 t) (iblk m c 1 t) (iblk m c 2 t) (iblk m c 3 t) (fun _ => 0) := by
  unfold dyMax dhMax
  rw [outsAt0_A m c t h0 (by omega)]
  dsimp only
  rw [dyMax_left_A, dhMax_left_A]
  exact ⟨rfl, rfl⟩

theorem max_next (t : Fin cfg0.N) (h0 : ¬t.val % 32 = 0) :
    dyMax m c t.val t.isLt = dyJoin (iblk m c 1 t) (dyMax m c (t.val - 1) (Nat.lt_of_le_of_lt (Nat.sub_le _ _) t.isLt))
    ∧ dhMax m c t.val t.isLt = dhJoin (iblk m c 0 t) (iblk m c 1 t) (iblk m c 2 t) (iblk m c 3 t)
      (dhMax m c (t.val - 1) (Nat.lt_of_le_of_lt (Nat.sub_le _ _) t.isLt)) := by
  by_cases h1 : t.val % 32 = 31
  · unfold dyMax dhMax
    rw [outsAt0_C m c t h0 h1]
    dsimp only
    rw [dyMax_left_C, dhMax_left_C]
    exact ⟨rfl, rfl⟩
  · unfold dyMax dhMax
    rw [outsAt0_B m c t h0 h1]
    dsimp only
    rw [dyMax_left_B, dhMax_left_B]
    exact ⟨rfl, rfl⟩

/-- The last point's column scales come from the maxima it leaves. -/
theorem cols_last (t : Fin cfg0.N) (h1 : t.val % 32 = 31) :
    (outsAt0 m c t.val t.isLt).2.2.1 = dyColBlock (dyMax m c t.val t.isLt)
    ∧ (outsAt0 m c t.val t.isLt).2.2.2.2.2.2.1 = dhColBlock (dhMax m c t.val t.isLt) := by
  have h0 : ¬t.val % 32 = 0 := by omega
  rw [(max_next m c t h0).1, (max_next m c t h0).2]
  unfold dyMax dhMax
  rw [outsAt0_C m c t h0 h1]
  dsimp only
  rw [dyCol_left_C, dhCol_left_C]
  exact ⟨rfl, rfl⟩

end Cert.KernelRowsIdeal.Block

end
-- ==== Proof.RowsArray.lean ====
/-
  What the rows kernel's seven result ARRAYS hold after its thirty-two grid points, and what its run leaves. Point `t` has
  rows `256 t … 256 t + 255` of dy and of the pre-activations, and writes the same rows of dH and of the two code arrays and
  the same columns of the two rows of row scales. The two rows of column scales are written once, by the last point, from
  the maxima that all points have joined.
-/
module

public import proofs.«01_k».proof.Proof.RowsState
public import Idealize.ShloMosaic.Lib.Claim

@[expose] public section

set_option maxRecDepth 16384

noncomputable section

namespace Cert.KernelRowsIdeal.Block

open Cert.KernelRowsIdeal Cert.KernelRowsIdeal.Gen Idealize.ShloMosaic Idealize.ShloMosaic.TcCoe Idealize.SL.Sem
open Cert.Math (top mag ratioOf scaleOf codeOf dhOf running)

variable (m : (ℓ : Loc nD τ sig) → Buf (Elt Ideal) ℓ) (ρ : Dev nD → PrngReg)

/-- The rows of dy, and those of dH. -/
def dyRows (c : Dev nD) (r : Fin 8192) (j : Fin 3072) : EReal := m ((c : Thread nD τ).loc main_arg0) (ix3 0 r j)
def dhRows (c : Dev nD) (r : Fin 8192) (l : Fin 8192) : EReal :=
  dhOf (dyRows m c r) (fun l => m ((c : Thread nD τ).loc main_arg1) (ix3 0 r l)) (fun f j => m ((c : Thread nD τ).loc main_arg2) (ix2 f j))
    (m ((c : Thread nD τ).loc main_arg3) ix0) l

/-- The seven results. -/
def dyCodeResult (c : Dev nD) : Buf (Elt Ideal) ((c : Thread nD τ).loc main_v3_0) := fun y => codeOf (dyRows m c (y 0) (y 1)) (ratioOf (dyRows m c (y 0)))
def dyScales (c : Dev nD) : Buf (Elt Ideal) ((c : Thread nD τ).loc main_v3_1) := fun y => scaleOf (ratioOf (dyRows m c (y 1)))
def dyColScales (c : Dev nD) : Buf (Elt Ideal) ((c : Thread nD τ).loc main_v3_2) := fun y => scaleOf (ratioOf fun r => dyRows m c r (y 1))
def dhResult (c : Dev nD) : Buf (Elt Ideal) ((c : Thread nD τ).loc main_v3_3) := fun y => dhRows m c (y 0) (y 1)
def dhCodeResult (c : Dev nD) : Buf (Elt Ideal) ((c : Thread nD τ).loc main_v3_4) := fun y => codeOf (dhRows m c (y 0) (y 1)) (ratioOf (dhRows m c (y 0)))
def dhScales (c : Dev nD) : Buf (Elt Ideal) ((c : Thread nD τ).loc main_v3_5) := fun y => scaleOf (ratioOf (dhRows m c (y 1)))
def dhColScales (c : Dev nD) : Buf (Elt Ideal) ((c : Thread nD τ).loc main_v3_6) := fun y => scaleOf (ratioOf fun r => dhRows m c r (y 1))

/-- The block indices at point `t`. -/
theorem index0 : ∀ t : Fin cfg0.N, win0_0.index t 0 = 0 := (by decide +kernel : ∀ t : Fin grid0.N, _)
theorem index1 : ∀ t : Fin cfg0.N, win0_1.index t 0 = t.val ∧ win0_1.index t 1 = 0 := (by decide +kernel : ∀ t : Fin grid0.N, _)
theorem index2 : ∀ t : Fin cfg0.N, win0_2.index t 0 = t.val ∧ win0_2.index t 1 = 0 := (by decide +kernel : ∀ t : Fin grid0.N, _)
theorem index3 : ∀ t : Fin cfg0.N, win0_3.index t 0 = 0 ∧ win0_3.index t 1 = 0 := (by decide +kernel : ∀ t : Fin grid0.N, _)
theorem index4 : ∀ t : Fin cfg0.N, win0_4.index t 0 = t.val ∧ win0_4.index t 1 = 0 := (by decide +kernel : ∀ t : Fin grid0.N, _)
theorem index5 : ∀ t : Fin cfg0.N, win0_5.index t 0 = 0 ∧ win0_5.index t 1 = t.val := (by decide +kernel : ∀ t : Fin grid0.N, _)
theorem index6 : ∀ t : Fin cfg0.N, win0_6.index t 0 = 0 ∧ win0_6.index t 1 = 0 := (by decide +kernel : ∀ t : Fin grid0.N, _)
theorem index7 : ∀ t : Fin cfg0.N, win0_7.index t 0 = t.val ∧ win0_7.index t 1 = 0 := (by decide +kernel : ∀ t : Fin grid0.N, _)
theorem index8 : ∀ t : Fin cfg0.N, win0_8.index t 0 = t.val ∧ win0_8.index t 1 = 0 := (by decide +kernel : ∀ t : Fin grid0.N, _)
theorem index9 : ∀ t : Fin cfg0.N, win0_9.index t 0 = 0 ∧ win0_9.index t 1 = t.val := (by decide +kernel : ∀ t : Fin grid0.N, _)
theorem index10 : ∀ t : Fin cfg0.N, win0_10.index t 0 = 0 ∧ win0_10.index t 1 = 0 := (by decide +kernel : ∀ t : Fin grid0.N, _)

/-- The host lays out dy, the pre-activations and the weight's scale. -/
theorem dy_eq (c : Dev nD) (r : Fin 8192) (j : Fin 3072) :
    (V m c main_v0 : S8192x3072.Idx → EReal) (ix2 r j) = m ((c : Thread nD τ).loc main_arg0) (ix3 0 r j) := by
  entry_read
  pointwise []

theorem gu_eq (c : Dev nD) (r : Fin 8192) (l : Fin 8192) :
    (V m c main_v1 : S8192x8192.Idx → EReal) (ix2 r l) = m ((c : Thread nD τ).loc main_arg1) (ix3 0 r l) := by
  entry_read
  pointwise []

theorem scale_eq (c : Dev nD) : (V m c main_v2 : S1.Idx → EReal) (ix1 0) = m ((c : Thread nD τ).loc main_arg3) ix0 := by
  entry_read
  pointwise []

/-- The row of the arrays at row `r` of point `t`. -/
def rowAt (t : Fin cfg0.N) (r : Fin 256) : Fin 8192 := ⟨256 * t.val + r.val, by have : t.val < 32 := t.isLt; omega⟩

theorem iblk0_eq (c : Dev nD) (t : Fin cfg0.N) :
    (iblk m c 0 t : Vec Ideal S1 .f32) (ix1 0) = m ((c : Thread nD τ).loc main_arg3) ix0 := by
  unfold iblk
  rw [View.read_apply]
  refine (congrArg (V m c main_v2) ?_).trans (scale_eq m c)
  funext a
  match a with
  | ⟨0, _⟩ =>
    refine Fin.ext ?_
    show win0_0.index t 0 * 1 + 1 * 0 = 0
    rw [index0 t]

theorem iblk1_eq (c : Dev nD) (t : Fin cfg0.N) (r : Fin 256) (j : Fin 3072) :
    (iblk m c 1 t : Vec Ideal S256x3072 .bf16) (ix2 r j) = dyRows m c (rowAt t r) j := by
  unfold iblk
  rw [View.read_apply]
  refine (congrArg (V m c main_v0) (Shape.idx_ext₂ ?_ ?_)).trans (dy_eq m c (rowAt t r) j)
  · show win0_1.index t 0 * 256 + 1 * r.val = 256 * t.val + r.val
    rw [(index1 t).1]; omega
  · show win0_1.index t 1 * 3072 + 1 * j.val = j.val
    rw [(index1 t).2]; omega

theorem iblk2_eq (c : Dev nD) (t : Fin cfg0.N) (r : Fin 256) (l : Fin 8192) :
    (iblk m c 2 t : Vec Ideal S256x8192 .bf16) (ix2 r l) = m ((c : Thread nD τ).loc main_arg1) (ix3 0 (rowAt t r) l) := by
  unfold iblk
  rw [View.read_apply]
  refine (congrArg (V m c main_v1) (Shape.idx_ext₂ ?_ ?_)).trans (gu_eq m c (rowAt t r) l)
  · show win0_2.index t 0 * 256 + 1 * r.val = 256 * t.val + r.val
    rw [(index2 t).1]; omega
  · show win0_2.index t 1 * 8192 + 1 * l.val = l.val
    rw [(index2 t).2]; omega

theorem iblk3_eq (c : Dev nD) (t : Fin cfg0.N) (f : Fin 4096) (j : Fin 3072) :
    (iblk m c 3 t : Vec Ideal S4096x3072 .fp8e4m3) (ix2 f j) = m ((c : Thread nD τ).loc main_arg2) (ix2 f j) := by
  unfold iblk
  rw [View.read_apply]
  show V m c main_arg2 _ = _
  rw [V_main_arg2]
  refine congrArg (m ((c : Thread nD τ).loc main_arg2)) (Shape.idx_ext₂ ?_ ?_)
  · show win0_3.index t 0 * 4096 + 1 * f.val = f.val
    rw [(index3 t).1]; omega
  · show win0_3.index t 1 * 3072 + 1 * j.val = j.val
    rw [(index3 t).2]; omega

/-- So the rows of a point's blocks are rows of the arrays. -/
theorem dyRow_eq (c : Dev nD) (t : Fin cfg0.N) (r : Fin 256) :
    (fun j => (iblk m c 1 t : Vec Ideal S256x3072 .bf16) (ix2 r j)) = dyRows m c (rowAt t r) := funext (iblk1_eq m c t r)

theorem dhV_eq (c : Dev nD) (t : Fin cfg0.N) (r : Fin 256) :
    dhV (iblk m c 0 t) (iblk m c 1 t) (iblk m c 2 t) (iblk m c 3 t) r = dhRows m c (rowAt t r) := by
  funext l
  unfold dhV dhRows
  rw [dyRow_eq, iblk0_eq]
  simp only [iblk2_eq, iblk3_eq]

theorem dyP_eq (c : Dev nD) (t : Fin cfg0.N) (r : Fin 256) : dyP (iblk m c 1 t) r = ratioOf (dyRows m c (rowAt t r)) :=
  congrArg ratioOf (dyRow_eq m c t r)

theorem dhP_eq (c : Dev nD) (t : Fin cfg0.N) (r : Fin 256) :
    dhP (iblk m c 0 t) (iblk m c 1 t) (iblk m c 2 t) (iblk m c 3 t) r = ratioOf (dhRows m c (rowAt t r)) :=
  congrArg ratioOf (dhV_eq m c t r)

/-- After the last point the maxima of a column over the eight sublanes are those over all rows. -/
theorem dyMax_last (c : Dev nD) (h : 31 < cfg0.N) (j : Fin 3072) :
    top (fun s => dyMax m c 31 h (ix2 s j)) = top fun r => mag (dyRows m c r j) := by
  refine running (fun n hn s => dyMax m c n hn (ix2 s j)) (fun r => dyRows m c r j) (fun s => ?_) (fun n hn s => ?_)
  · refine (congrFun (max_first m c ⟨0, by decide⟩ rfl).1 (ix2 s j)).trans ?_
    refine congrArg (max (0 : EReal)) (congrArg top (funext fun q => congrArg mag ?_))
    refine (iblk1_eq m c ⟨0, by decide⟩ (lineOf s q) j).trans (congrArg (dyRows m c · j) (Fin.ext ?_))
    show 256 * 0 + (q.val * 8 + s.val) = q.val * 8 + s.val
    omega
  · refine (congrFun (max_next m c ⟨n + 1, hn⟩ (by show ¬(n + 1) % 32 = 0; omega)).1 (ix2 s j)).trans ?_
    refine congrArg (max (dyMax m c n _ (ix2 s j))) (congrArg top (funext fun q => congrArg mag ?_))
    exact iblk1_eq m c ⟨n + 1, hn⟩ (lineOf s q) j

theorem dhMax_last (c : Dev nD) (h : 31 < cfg0.N) (l : Fin 8192) :
    top (fun s => dhMax m c 31 h (ix2 s l)) = top fun r => mag (dhRows m c r l) := by
  refine running (fun n hn s => dhMax m c n hn (ix2 s l)) (fun r => dhRows m c r l) (fun s => ?_) (fun n hn s => ?_)
  · refine (congrFun (max_first m c ⟨0, by decide⟩ rfl).2 (ix2 s l)).trans ?_
    refine congrArg (max (0 : EReal)) (congrArg top (funext fun q => congrArg mag ?_))
    refine (congrFun (dhV_eq m c ⟨0, by decide⟩ (lineOf s q)) l).trans (congrArg (dhRows m c · l) (Fin.ext ?_))
    show 256 * 0 + (q.val * 8 + s.val) = q.val * 8 + s.val
    omega
  · refine (congrFun (max_next m c ⟨n + 1, hn⟩ (by show ¬(n + 1) % 32 = 0; omega)).2 (ix2 s l)).trans ?_
    refine congrArg (max (dhMax m c n _ (ix2 s l))) (congrArg top (funext fun q => congrArg mag ?_))
    exact congrFun (dhV_eq m c ⟨n + 1, hn⟩ (lineOf s q)) l

/-- Where a point's blocks lie in the arrays. -/
theorem emb4_eq (t : Fin cfg0.N) (r : Fin 256) (j : Fin 3072) :
    ((cfg0.win 4).blk t).view.emb (ix2 r j) = (ix2 (rowAt t r) j : S8192x3072.Idx) := by
  refine Shape.idx_ext₂ ?_ ?_
  · show win0_4.index t 0 * 256 + 1 * r.val = 256 * t.val + r.val
    rw [(index4 t).1]; omega
  · show win0_4.index t 1 * 3072 + 1 * j.val = j.val
    rw [(index4 t).2]; omega

theorem emb7_eq (t : Fin cfg0.N) (r : Fin 256) (j : Fin 8192) :
    ((cfg0.win 7).blk t).view.emb (ix2 r j) = (ix2 (rowAt t r) j : S8192x8192.Idx) := by
  refine Shape.idx_ext₂ ?_ ?_
  · show win0_7.index t 0 * 256 + 1 * r.val = 256 * t.val + r.val
    rw [(index7 t).1]; omega
  · show win0_7.index t 1 * 8192 + 1 * j.val = j.val
    rw [(index7 t).2]; omega

theorem emb8_eq (t : Fin cfg0.N) (r : Fin 256) (j : Fin 8192) :
    ((cfg0.win 8).blk t).view.emb (ix2 r j) = (ix2 (rowAt t r) j : S8192x8192.Idx) := by
  refine Shape.idx_ext₂ ?_ ?_
  · show win0_8.index t 0 * 256 + 1 * r.val = 256 * t.val + r.val
    rw [(index8 t).1]; omega
  · show win0_8.index t 1 * 8192 + 1 * j.val = j.val
    rw [(index8 t).2]; omega

theorem emb5_eq (t : Fin cfg0.N) (r : Fin 256) :
    ((cfg0.win 5).blk t).view.emb (ix2 0 r) = (ix2 0 (rowAt t r) : S1x8192.Idx) := by
  refine Shape.idx_ext₂ ?_ ?_
  · show win0_5.index t 0 * 1 + 1 * 0 = 0
    rw [(index5 t).1]
  · show win0_5.index t 1 * 256 + 1 * r.val = 256 * t.val + r.val
    rw [(index5 t).2]; omega

theorem emb9_eq (t : Fin cfg0.N) (r : Fin 256) :
    ((cfg0.win 9).blk t).view.emb (ix2 0 r) = (ix2 0 (rowAt t r) : S1x8192.Idx) := by
  refine Shape.idx_ext₂ ?_ ?_
  · show win0_9.index t 0 * 1 + 1 * 0 = 0
    rw [(index9 t).1]
  · show win0_9.index t 1 * 256 + 1 * r.val = 256 * t.val + r.val
    rw [(index9 t).2]; omega

theorem emb6_eq (t : Fin cfg0.N) (y : S1x3072.Idx) : ((cfg0.win 6).blk t).view.emb y = y := by
  refine Shape.idx_ext₂ ?_ ?_
  · show win0_6.index t 0 * 1 + 1 * (y 0).val = (y 0).val
    rw [(index6 t).1]; omega
  · show win0_6.index t 1 * 3072 + 1 * (y 1).val = (y 1).val
    rw [(index6 t).2]; omega

theorem emb10_eq (t : Fin cfg0.N) (y : S1x8192.Idx) : ((cfg0.win 10).blk t).view.emb y = y := by
  refine Shape.idx_ext₂ ?_ ?_
  · show win0_10.index t 0 * 1 + 1 * (y 0).val = (y 0).val
    rw [(index10 t).1]; omega
  · show win0_10.index t 1 * 8192 + 1 * (y 1).val = (y 1).val
    rw [(index10 t).2]; omega

/-- What the points write back is the results, read through the blocks. -/
theorem flushed4_eq (c : Dev nD) (t : Fin cfg0.N) (hf : (cfg0.win 4).flush t = true) :
    (dats m 0 c).flushed 4 t = ((cfg0.win 4).blk t).view.read (Elt Ideal) (dyCodeResult m c) := by
  rw [Value.flushed4, (point m c t).1]
  funext y
  rw [View.read_apply]
  obtain ⟨r, j, rfl⟩ : ∃ (r : Fin 256) (j : Fin 3072), y = ix2 r j := ⟨y 0, y 1, eq_ix2 y⟩
  rw [emb4_eq t r j]
  show codeOf ((iblk m c 1 t : Vec Ideal S256x3072 .bf16) (ix2 r j)) (dyP (iblk m c 1 t) r) = codeOf (dyRows m c (rowAt t r) j) (ratioOf (dyRows m c (rowAt t r)))
  rw [iblk1_eq, dyP_eq]

theorem flushed7_eq (c : Dev nD) (t : Fin cfg0.N) (hf : (cfg0.win 7).flush t = true) :
    (dats m 0 c).flushed 7 t = ((cfg0.win 7).blk t).view.read (Elt Ideal) (dhResult m c) := by
  rw [Value.flushed7, (point m c t).2.2.1]
  funext y
  rw [View.read_apply]
  obtain ⟨r, j, rfl⟩ : ∃ (r : Fin 256) (j : Fin 8192), y = ix2 r j := ⟨y 0, y 1, eq_ix2 y⟩
  rw [emb7_eq t r j]
  exact congrFun (dhV_eq m c t r) j

theorem flushed8_eq (c : Dev nD) (t : Fin cfg0.N) (hf : (cfg0.win 8).flush t = true) :
    (dats m 0 c).flushed 8 t = ((cfg0.win 8).blk t).view.read (Elt Ideal) (dhCodeResult m c) := by
  rw [Value.flushed8, (point m c t).2.2.2.1]
  funext y
  rw [View.read_apply]
  obtain ⟨r, j, rfl⟩ : ∃ (r : Fin 256) (j : Fin 8192), y = ix2 r j := ⟨y 0, y 1, eq_ix2 y⟩
  rw [emb8_eq t r j]
  show codeOf (dhV (iblk m c 0 t) (iblk m c 1 t) (iblk m c 2 t) (iblk m c 3 t) r j) (dhP (iblk m c 0 t) (iblk m c 1 t) (iblk m c 2 t) (iblk m c 3 t) r) = codeOf (dhRows m c (rowAt t r) j) (ratioOf (dhRows m c (rowAt t r)))
  rw [dhV_eq, dhP_eq]

theorem flushed5_eq (c : Dev nD) (t : Fin cfg0.N) (hf : (cfg0.win 5).flush t = true) :
    (dats m 0 c).flushed 5 t = ((cfg0.win 5).blk t).view.read (Elt Ideal) (dyScales m c) := by
  rw [Value.flushed5, (point m c t).2.1]
  funext y
  rw [View.read_apply]
  obtain ⟨z, r, rfl⟩ : ∃ (z : Fin 1) (r : Fin 256), y = ix2 z r := ⟨y 0, y 1, eq_ix2 y⟩
  obtain rfl : z = 0 := Subsingleton.elim _ _
  rw [emb5_eq t r]
  exact congrArg scaleOf (dyP_eq m c t r)

theorem flushed9_eq (c : Dev nD) (t : Fin cfg0.N) (hf : (cfg0.win 9).flush t = true) :
    (dats m 0 c).flushed 9 t = ((cfg0.win 9).blk t).view.read (Elt Ideal) (dhScales m c) := by
  rw [Value.flushed9, (point m c t).2.2.2.2]
  funext y
  rw [View.read_apply]
  obtain ⟨z, r, rfl⟩ : ∃ (z : Fin 1) (r : Fin 256), y = ix2 z r := ⟨y 0, y 1, eq_ix2 y⟩
  obtain rfl : z = 0 := Subsingleton.elim _ _
  rw [emb9_eq t r]
  exact congrArg scaleOf (dhP_eq m c t r)

theorem flushed6_eq (c : Dev nD) (t : Fin cfg0.N) (hf : (cfg0.win 6).flush t = true) :
    (dats m 0 c).flushed 6 t = ((cfg0.win 6).blk t).view.read (Elt Ideal) (dyColScales m c) := by
  have h1 : t.val % 32 = 31 := (flush0_6 t).mp hf
  obtain ⟨n, hn⟩ := t
  obtain rfl : n = 31 := by have : n < 32 := hn; have : n % 32 = 31 := h1; omega
  rw [Value.flushed6, (cols_last m c ⟨31, hn⟩ h1).1]
  funext y
  rw [View.read_apply, emb6_eq]
  exact congrArg (fun z => scaleOf (z * Ideal.ofBits .f32 0x37924925#32)) (dyMax_last m c hn (y 1))

theorem flushed10_eq (c : Dev nD) (t : Fin cfg0.N) (hf : (cfg0.win 10).flush t = true) :
    (dats m 0 c).flushed 10 t = ((cfg0.win 10).blk t).view.read (Elt Ideal) (dhColScales m c) := by
  have h1 : t.val % 32 = 31 := (flush0_10 t).mp hf
  obtain ⟨n, hn⟩ := t
  obtain rfl : n = 31 := by have : n < 32 := hn; have : n % 32 = 31 := h1; omega
  rw [Value.flushed10, (cols_last m c ⟨31, hn⟩ h1).2]
  funext y
  rw [View.read_apply, emb10_eq]
  exact congrArg (fun z => scaleOf (z * Ideal.ofBits .f32 0x37924925#32)) (dhMax_last m c hn (y 1))

/-- The blocks cover the arrays. -/
theorem cover4 (i : S8192x3072.Idx) : ∃ t : Fin cfg0.N, (cfg0.win 4).flush t = true ∧ i ∈ ((cfg0.win 4).blk t).view.set :=
  (Value.covered_iff4 i).mpr (by have h0 : (i 0).val < 8192 := (i 0).isLt; have h1 : (i 1).val < 3072 := (i 1).isLt; omega)

theorem cover7 (i : S8192x8192.Idx) : ∃ t : Fin cfg0.N, (cfg0.win 7).flush t = true ∧ i ∈ ((cfg0.win 7).blk t).view.set :=
  (Value.covered_iff7 i).mpr (by have h0 : (i 0).val < 8192 := (i 0).isLt; have h1 : (i 1).val < 8192 := (i 1).isLt; omega)

theorem cover8 (i : S8192x8192.Idx) : ∃ t : Fin cfg0.N, (cfg0.win 8).flush t = true ∧ i ∈ ((cfg0.win 8).blk t).view.set :=
  (Value.covered_iff8 i).mpr (by have h0 : (i 0).val < 8192 := (i 0).isLt; have h1 : (i 1).val < 8192 := (i 1).isLt; omega)

theorem cover5 (i : S1x8192.Idx) : ∃ t : Fin cfg0.N, (cfg0.win 5).flush t = true ∧ i ∈ ((cfg0.win 5).blk t).view.set :=
  (Value.covered_iff5 i).mpr (by have h0 : (i 0).val < 1 := (i 0).isLt; have h1 : (i 1).val < 8192 := (i 1).isLt; omega)

theorem cover6 (i : S1x3072.Idx) : ∃ t : Fin cfg0.N, (cfg0.win 6).flush t = true ∧ i ∈ ((cfg0.win 6).blk t).view.set :=
  (Value.covered_iff6 i).mpr (by have h0 : (i 0).val < 1 := (i 0).isLt; have h1 : (i 1).val < 3072 := (i 1).isLt; omega)

theorem cover9 (i : S1x8192.Idx) : ∃ t : Fin cfg0.N, (cfg0.win 9).flush t = true ∧ i ∈ ((cfg0.win 9).blk t).view.set :=
  (Value.covered_iff9 i).mpr (by have h0 : (i 0).val < 1 := (i 0).isLt; have h1 : (i 1).val < 8192 := (i 1).isLt; omega)

theorem cover10 (i : S1x8192.Idx) : ∃ t : Fin cfg0.N, (cfg0.win 10).flush t = true ∧ i ∈ ((cfg0.win 10).blk t).view.set :=
  (Value.covered_iff10 i).mpr (by have h0 : (i 0).val < 1 := (i 0).isLt; have h1 : (i 1).val < 8192 := (i 1).isLt; omega)

/-- The run: the seven result arrays, the arguments unchanged. -/
theorem run : θ_run defs (onTc (τ := τ) (main (F := Ideal))) ⟨m, fun _ => 0, ρ⟩ fun r => ∀ c : Dev nD,
      r.2.mem ((c : Thread nD τ).loc main_v3_0) = dyCodeResult m c
      ∧ r.2.mem ((c : Thread nD τ).loc main_v3_1) = dyScales m c
      ∧ r.2.mem ((c : Thread nD τ).loc main_v3_2) = dyColScales m c
      ∧ r.2.mem ((c : Thread nD τ).loc main_v3_3) = dhResult m c
      ∧ r.2.mem ((c : Thread nD τ).loc main_v3_4) = dhCodeResult m c
      ∧ r.2.mem ((c : Thread nD τ).loc main_v3_5) = dhScales m c
      ∧ r.2.mem ((c : Thread nD τ).loc main_v3_6) = dhColScales m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans ((dats m 0 c).arrAt_eq_of_cover 4 (dyCodeResult m c) (flushed4_eq m c) cover4),
    (h c).2.1.trans ((dats m 0 c).arrAt_eq_of_cover 5 (dyScales m c) (flushed5_eq m c) cover5),
    (h c).2.2.1.trans ((dats m 0 c).arrAt_eq_of_cover 6 (dyColScales m c) (flushed6_eq m c) cover6),
    (h c).2.2.2.1.trans ((dats m 0 c).arrAt_eq_of_cover 7 (dhResult m c) (flushed7_eq m c) cover7),
    (h c).2.2.2.2.1.trans ((dats m 0 c).arrAt_eq_of_cover 8 (dhCodeResult m c) (flushed8_eq m c) cover8),
    (h c).2.2.2.2.2.1.trans ((dats m 0 c).arrAt_eq_of_cover 9 (dhScales m c) (flushed9_eq m c) cover9),
    (h c).2.2.2.2.2.2.1.trans ((dats m 0 c).arrAt_eq_of_cover 10 (dhColScales m c) (flushed10_eq m c) cover10),
    (h c).2.2.2.2.2.2.2⟩) (Value.run_blocks m ρ)

end Cert.KernelRowsIdeal.Block

end
-- ==== Proof.RowsReferenceOps.lean ====
/-
  The vector operations that the rows REFERENCE is made of, read entry by entry: the largest magnitudes along rows and
  columns, the exponents of the power-of-two scales, the codes, and the gradients of the two halves of the pre-activations.
-/
module

public import proofs.«01_k».proof.Proof.RowsMath
public import proofs.«01_k».proof.Proof.Gen.ReferenceRowsIdeal.Value
public import Idealize.ShloMosaic.Lib.Claim

@[expose] public section

set_option maxRecDepth 16384

noncomputable section

namespace Cert.ReferenceRowsIdeal.Whole

open Cert.ReferenceRowsIdeal Cert.ReferenceRowsIdeal.Gen Idealize.ShloMosaic Idealize.ShloMosaic.TcCoe Idealize.SL.Sem
open Cert.Math

/-! The constants of the exponents, and the integers they count through. -/

theorem c126 : Ideal.ofBits .f32 0x42FC0000#32 = ((126 : ℝ) : EReal) := by
  simp [Ideal.ofBits, Ideal.ieee, -EReal.coe_mul, -EReal.coe_neg]; norm_num
theorem cm126 : Ideal.ofBits .f32 0xC2FC0000#32 = ((-126 : ℝ) : EReal) := by
  simp [Ideal.ofBits, Ideal.ieee, -EReal.coe_mul, -EReal.coe_neg]; norm_num

theorem ints : ∀ k : Fin 239, (IntOp.subi (BitVec.ofNat 32 k.val) 126#32).toInt = (k.val : ℤ) - 126 := by decide

theorem sitofp_eq (k : Fin 239) : (FloatOps.sitofp (F := Ideal) FTy.f32 (IntOp.subi (BitVec.ofNat 32 k.val) 126#32) : EReal)
    = ((((k.val : ℤ) - 126 : ℤ) : ℝ) : EReal) := by
  rw [← ints k]
  rfl

/-- The largest magnitudes along the rows of dy … -/
def dyRowMax (a : FVec Ideal S8192x3072 .f32) : FVec Ideal S8192 .f32 :=
  multiReduction .maximumf [1] S8192 (absf a) 0xFF800000#32 reduces_S8192x3072_S8192 (.inl rfl) rfl

theorem dyRowMax_apply (a : FVec Ideal S8192x3072 .f32) (i : Fin 8192) : dyRowMax a (ix1 i) = top fun k : Fin 3072 => mag (a (ix2 i k)) := by
  refine (Ideal.multiReduction_maximumf_single (absf a) 0xFF800000#32 reduces_S8192x3072_S8192 (.inl rfl) rfl (ix1 i)).trans ?_
  unfold top
  refine congrArg (fun f => Finset.fold max (Ideal.ofBits .f32 0xFF800000#32) f (Finset.univ : Finset (Fin 3072))) (funext fun k => ?_)
  exact congrArg (fun i => mag (a i)) (Shape.idx_ext₂ rfl rfl)

/-- … the columns of dy … -/
def dyColMax (a : FVec Ideal S8192x3072 .f32) : FVec Ideal S3072 .f32 :=
  multiReduction .maximumf [0] S3072 (absf a) 0xFF800000#32 reduces_S8192x3072_S3072 (.inl rfl) rfl

theorem dyColMax_apply (a : FVec Ideal S8192x3072 .f32) (i : Fin 3072) : dyColMax a (ix1 i) = top fun k : Fin 8192 => mag (a (ix2 k i)) := by
  refine (Ideal.multiReduction_maximumf_single (absf a) 0xFF800000#32 reduces_S8192x3072_S3072 (.inl rfl) rfl (ix1 i)).trans ?_
  unfold top
  refine congrArg (fun f => Finset.fold max (Ideal.ofBits .f32 0xFF800000#32) f (Finset.univ : Finset (Fin 8192))) (funext fun k => ?_)
  exact congrArg (fun i => mag (a i)) (Shape.idx_ext₂ rfl rfl)

/-- … the rows of dH … -/
def dhRowMax (a : FVec Ideal S8192x8192 .f32) : FVec Ideal S8192 .f32 :=
  multiReduction .maximumf [1] S8192 (absf a) 0xFF800000#32 reduces_S8192x8192_S8192 (.inl rfl) rfl

theorem dhRowMax_apply (a : FVec Ideal S8192x8192 .f32) (i : Fin 8192) : dhRowMax a (ix1 i) = top fun k : Fin 8192 => mag (a (ix2 i k)) := by
  refine (Ideal.multiReduction_maximumf_single (absf a) 0xFF800000#32 reduces_S8192x8192_S8192 (.inl rfl) rfl (ix1 i)).trans ?_
  unfold top
  refine congrArg (fun f => Finset.fold max (Ideal.ofBits .f32 0xFF800000#32) f (Finset.univ : Finset (Fin 8192))) (funext fun k => ?_)
  exact congrArg (fun i => mag (a i)) (Shape.idx_ext₂ rfl rfl)

/-- … and its columns. -/
def dhColMax (a : FVec Ideal S8192x8192 .f32) : FVec Ideal S8192 .f32 :=
  multiReduction .maximumf [0] S8192 (absf a) 0xFF800000#32 reduces_S8192x8192_S8192_2 (.inl rfl) rfl

theorem dhColMax_apply (a : FVec Ideal S8192x8192 .f32) (i : Fin 8192) : dhColMax a (ix1 i) = top fun k : Fin 8192 => mag (a (ix2 k i)) := by
  refine (Ideal.multiReduction_maximumf_single (absf a) 0xFF800000#32 reduces_S8192x8192_S8192_2 (.inl rfl) rfl (ix1 i)).trans ?_
  unfold top
  refine congrArg (fun f => Finset.fold max (Ideal.ofBits .f32 0xFF800000#32) f (Finset.univ : Finset (Fin 8192))) (funext fun k => ?_)
  exact congrArg (fun i => mag (a i)) (Shape.idx_ext₂ rfl rfl)

/-- A column of ratios, of the powers of two that they reach, of their numbers and of the exponents. -/
def rowRatio (w : FVec Ideal S8192 .f32) : FVec Ideal S8192x1 .f32 :=
  mulf (shapeCast S8192x1 w shapeCasts_S8192_S8192x1) (broadcast S8192x1 (Scalar.ofBits .f32 0x37924925#32))

def rowReached (p : FVec Ideal S8192x1 .f32) : FVec Ideal S8192x239 .f32 :=
  select (cmpf .oge (broadcastTo S8192x239 p broadcasts_S8192x1_S8192x239)
      (broadcastTo S8192x239 (exp2 (sitofp .f32 (subi (iota .tc S1x239 32 [1] iota_S1x239_d1_w32) (broadcast S1x239 126#32)))) broadcasts_S1x239_S8192x239))
    (broadcast S8192x239 (Scalar.ofBits .f32 0x3F800000#32)) (broadcast S8192x239 (Scalar.ofBits .f32 0x00000000#32))

def rowCount (p : FVec Ideal S8192x1 .f32) : FVec Ideal S8192x1 .f32 :=
  subf (shapeCast S8192x1 (multiReduction .add [1] S8192 (rowReached p) 0x00000000#32 reduces_S8192x239_S8192 (.inl rfl) rfl) shapeCasts_S8192_S8192x1)
    (broadcast S8192x1 (Scalar.ofBits .f32 0x42FC0000#32))

def rowExpo (p : FVec Ideal S8192x1 .f32) : FVec Ideal S8192x1 .f32 :=
  select (cmpf .oeq (rowCount p) (broadcast S8192x1 (Scalar.ofBits .f32 0xC2FC0000#32))) (broadcast S8192x1 (Scalar.ofBits .f32 0x00000000#32)) (rowCount p)

theorem rowRatio_apply (w : FVec Ideal S8192 .f32) (i : Fin 8192) : rowRatio w (ix2 i 0) = w (ix1 i) * Ideal.ofBits .f32 0x37924925#32 := by
  pointwise [rowRatio]

theorem rowReached_apply (p : FVec Ideal S8192x1 .f32) (i : Fin 8192) (k : Fin 239) :
    rowReached p (ix2 i k) = if Ideal.exp2 ((((k.val : ℤ) - 126 : ℤ) : ℝ) : EReal) ≤ p (ix2 i 0) then (1 : EReal) else 0 := by
  pointwise [rowReached]
  rw [sitofp_eq]
  rfl

theorem rowCount_apply (p : FVec Ideal S8192x1 .f32) (i : Fin 8192) :
    rowCount p (ix2 i 0) = (∑ k : Fin 239, if Ideal.exp2 ((((k.val : ℤ) - 126 : ℤ) : ℝ) : EReal) ≤ p (ix2 i 0) then (1 : EReal) else 0) - ((126 : ℝ) : EReal) := by
  pointwise [rowCount]
  rw [c126]
  simp only [rowReached_apply]

theorem rowExpo_apply (p : FVec Ideal S8192x1 .f32) (i : Fin 8192) : rowExpo p (ix2 i 0) = expo (p (ix2 i 0)) := by
  unfold expo
  pointwise [rowExpo]
  rw [cm126, rowCount_apply]

/-- The same as a row, for the columns of dy … -/
def dyColRatio (w : FVec Ideal S3072 .f32) : FVec Ideal S1x3072 .f32 :=
  mulf (shapeCast S1x3072 w shapeCasts_S3072_S1x3072) (broadcast S1x3072 (Scalar.ofBits .f32 0x37924925#32))

def dyColReached (p : FVec Ideal S1x3072 .f32) : FVec Ideal S239x3072 .f32 :=
  select (cmpf .oge (broadcastTo S239x3072 p broadcasts_S1x3072_S239x3072)
      (broadcastTo S239x3072 (exp2 (sitofp .f32 (subi (iota .tc S239x1 32 [0] iota_S239x1_d0_w32) (broadcast S239x1 126#32)))) broadcasts_S239x1_S239x3072))
    (broadcast S239x3072 (Scalar.ofBits .f32 0x3F800000#32)) (broadcast S239x3072 (Scalar.ofBits .f32 0x00000000#32))

def dyColCount (p : FVec Ideal S1x3072 .f32) : FVec Ideal S1x3072 .f32 :=
  subf (shapeCast S1x3072 (multiReduction .add [0] S3072 (dyColReached p) 0x00000000#32 reduces_S239x3072_S3072 (.inl rfl) rfl) shapeCasts_S3072_S1x3072)
    (broadcast S1x3072 (Scalar.ofBits .f32 0x42FC0000#32))

def dyColExpo (p : FVec Ideal S1x3072 .f32) : FVec Ideal S1x3072 .f32 :=
  select (cmpf .oeq (dyColCount p) (broadcast S1x3072 (Scalar.ofBits .f32 0xC2FC0000#32))) (broadcast S1x3072 (Scalar.ofBits .f32 0x00000000#32)) (dyColCount p)

theorem dyColRatio_apply (w : FVec Ideal S3072 .f32) (i : Fin 3072) : dyColRatio w (ix2 0 i) = w (ix1 i) * Ideal.ofBits .f32 0x37924925#32 := by
  pointwise [dyColRatio]

theorem dyColReached_apply (p : FVec Ideal S1x3072 .f32) (i : Fin 3072) (k : Fin 239) :
    dyColReached p (ix2 k i) = if Ideal.exp2 ((((k.val : ℤ) - 126 : ℤ) : ℝ) : EReal) ≤ p (ix2 0 i) then (1 : EReal) else 0 := by
  pointwise [dyColReached]
  rw [sitofp_eq]
  rfl

theorem dyColCount_apply (p : FVec Ideal S1x3072 .f32) (i : Fin 3072) :
    dyColCount p (ix2 0 i) = (∑ k : Fin 239, if Ideal.exp2 ((((k.val : ℤ) - 126 : ℤ) : ℝ) : EReal) ≤ p (ix2 0 i) then (1 : EReal) else 0) - ((126 : ℝ) : EReal) := by
  pointwise [dyColCount]
  rw [c126]
  simp only [dyColReached_apply]

theorem dyColExpo_apply (p : FVec Ideal S1x3072 .f32) (i : Fin 3072) : dyColExpo p (ix2 0 i) = expo (p (ix2 0 i)) := by
  unfold expo
  pointwise [dyColExpo]
  rw [cm126, dyColCount_apply]

/-- … and for those of dH. -/
def dhColRatio (w : FVec Ideal S8192 .f32) : FVec Ideal S1x8192 .f32 :=
  mulf (shapeCast S1x8192 w shapeCasts_S8192_S1x8192) (broadcast S1x8192 (Scalar.ofBits .f32 0x37924925#32))

def dhColReached (p : FVec Ideal S1x8192 .f32) : FVec Ideal S239x8192 .f32 :=
  select (cmpf .oge (broadcastTo S239x8192 p broadcasts_S1x8192_S239x8192)
      (broadcastTo S239x8192 (exp2 (sitofp .f32 (subi (iota .tc S239x1 32 [0] iota_S239x1_d0_w32) (broadcast S239x1 126#32)))) broadcasts_S239x1_S239x8192))
    (broadcast S239x8192 (Scalar.ofBits .f32 0x3F800000#32)) (broadcast S239x8192 (Scalar.ofBits .f32 0x00000000#32))

def dhColCount (p : FVec Ideal S1x8192 .f32) : FVec Ideal S1x8192 .f32 :=
  subf (shapeCast S1x8192 (multiReduction .add [0] S8192 (dhColReached p) 0x00000000#32 reduces_S239x8192_S8192 (.inl rfl) rfl) shapeCasts_S8192_S1x8192)
    (broadcast S1x8192 (Scalar.ofBits .f32 0x42FC0000#32))

def dhColExpo (p : FVec Ideal S1x8192 .f32) : FVec Ideal S1x8192 .f32 :=
  select (cmpf .oeq (dhColCount p) (broadcast S1x8192 (Scalar.ofBits .f32 0xC2FC0000#32))) (broadcast S1x8192 (Scalar.ofBits .f32 0x00000000#32)) (dhColCount p)

theorem dhColRatio_apply (w : FVec Ideal S8192 .f32) (i : Fin 8192) : dhColRatio w (ix2 0 i) = w (ix1 i) * Ideal.ofBits .f32 0x37924925#32 := by
  pointwise [dhColRatio]

theorem dhColReached_apply (p : FVec Ideal S1x8192 .f32) (i : Fin 8192) (k : Fin 239) :
    dhColReached p (ix2 k i) = if Ideal.exp2 ((((k.val : ℤ) - 126 : ℤ) : ℝ) : EReal) ≤ p (ix2 0 i) then (1 : EReal) else 0 := by
  pointwise [dhColReached]
  rw [sitofp_eq]
  rfl

theorem dhColCount_apply (p : FVec Ideal S1x8192 .f32) (i : Fin 8192) :
    dhColCount p (ix2 0 i) = (∑ k : Fin 239, if Ideal.exp2 ((((k.val : ℤ) - 126 : ℤ) : ℝ) : EReal) ≤ p (ix2 0 i) then (1 : EReal) else 0) - ((126 : ℝ) : EReal) := by
  pointwise [dhColCount]
  rw [c126]
  simp only [dhColReached_apply]

theorem dhColExpo_apply (p : FVec Ideal S1x8192 .f32) (i : Fin 8192) : dhColExpo p (ix2 0 i) = expo (p (ix2 0 i)) := by
  unfold expo
  pointwise [dhColExpo]
  rw [cm126, dhColCount_apply]

/-! The payloads in these terms. -/

section Payloads

variable (v0 : Vec Ideal S8192x3072 .bf16) (v36 : FVec Ideal S8192x3072 .fp8e5m2) (v37 : FVec Ideal S8192x1 .f32)
  (v63 : Vec Ideal S4096x3072 .fp8e4m3) (v67 : Vec Ideal S1x1 .f32) (v71 v74 : Vec Ideal S8192x4096 .bf16)
  (v70 v73 v83 v84 : FVec Ideal S8192x4096 .f32)

theorem wide_apply (r : Fin 8192) (j : Fin 3072) : k0_pay1 v0 (ix2 r j) = v0 (ix2 r j) := by
  pointwise [k0_pay1]

theorem dyExpo_apply (r : Fin 8192) : k0_pay2 v0 (ix2 r 0) = expo (ratioOf fun j => v0 (ix2 r j)) := by
  refine (show k0_pay2 v0 (ix2 r 0) = rowExpo (rowRatio (dyRowMax (k0_pay1 v0))) (ix2 r 0) from rfl).trans ?_
  rw [rowExpo_apply, rowRatio_apply, dyRowMax_apply]
  simp only [wide_apply]
  rfl

theorem dyCode_apply (r : Fin 8192) (j : Fin 3072) : k0_pay3 v0 (ix2 r j) = codeOf (v0 (ix2 r j)) (ratioOf fun j => v0 (ix2 r j)) := by
  unfold codeOf
  rw [← hi_f32, ← lo_f32, ← dyExpo_apply]
  pointwise [k0_pay3, wide_apply]
  rfl

theorem dyScale_apply (r : Fin 8192) : k0_pay4 v0 (ix2 r 0) = scaleOf (ratioOf fun j => v0 (ix2 r j)) := by
  unfold scaleOf
  rw [← dyExpo_apply]
  rfl

theorem dyColScale_apply (j : Fin 3072) :
    k0_pay6 (iota .tc S239x1 32 [0] iota_S239x1_d0_w32) (k0_pay5 v0) (ix2 0 j) = scaleOf (ratioOf fun r => v0 (ix2 r j)) := by
  refine (show _ = Ideal.exp2 (dyColExpo (dyColRatio (dyColMax (k0_pay1 v0))) (ix2 0 j)) from rfl).trans ?_
  rw [dyColExpo_apply, dyColRatio_apply, dyColMax_apply]
  simp only [wide_apply]
  rfl

theorem pay7_apply (r : Fin 8192) (f : Fin 4096) :
    k0_pay7 v36 v37 v63 v67 (ix2 r f) = (∑ j : Fin 3072, v36 (ix2 r j) * v63 (ix2 f j)) * v37 (ix2 r 0) * v67 (ix2 0 0) := by
  pointwise [k0_pay7]

theorem pay8_apply (r : Fin 8192) (f : Fin 4096) : k0_pay8 v71 (ix2 r f) = v71 (ix2 r f) := by
  pointwise [k0_pay8]

theorem pay9_apply (r : Fin 8192) (f : Fin 4096) : k0_pay9 v71 (ix2 r f) = sigm (v71 (ix2 r f)) := by
  unfold sigm
  pointwise [k0_pay9, k0_pay8]

theorem pay10_apply (r : Fin 8192) (f : Fin 4096) :
    k0_pay10 v36 v37 v63 v67 v74 (ix2 r f) = k0_pay7 v36 v37 v63 v67 (ix2 r f) * v74 (ix2 r f) := by
  pointwise [k0_pay10]

theorem pay11_lo (r : Fin 8192) (f : Fin 4096) : k0_pay11 v70 v73 v83 v84 (ix2 r (⟨f.val, by omega⟩ : Fin 8192))
    = v84 (ix2 r f) * v83 (ix2 r f) * (1 + v73 (ix2 r f) * (1 - v83 (ix2 r f))) := by
  pointwise [k0_pay11]

theorem pay11_hi (r : Fin 8192) (f : Fin 4096) : k0_pay11 v70 v73 v83 v84 (ix2 r (⟨4096 + f.val, by omega⟩ : Fin 8192))
    = v70 (ix2 r f) * v73 (ix2 r f) * v83 (ix2 r f) := by
  pointwise [k0_pay11]

theorem dhExpo_apply (r : Fin 8192) :
    k0_pay12 v70 v73 v83 v84 (ix2 r 0) = expo (ratioOf fun l => k0_pay11 v70 v73 v83 v84 (ix2 r l)) := by
  refine (show k0_pay12 v70 v73 v83 v84 (ix2 r 0) = rowExpo (rowRatio (dhRowMax (k0_pay11 v70 v73 v83 v84))) (ix2 r 0) from rfl).trans ?_
  rw [rowExpo_apply, rowRatio_apply, dhRowMax_apply]
  rfl

theorem dhCode_apply (r l : Fin 8192) : k0_pay13 v70 v73 v83 v84 (ix2 r l)
    = codeOf (k0_pay11 v70 v73 v83 v84 (ix2 r l)) (ratioOf fun l => k0_pay11 v70 v73 v83 v84 (ix2 r l)) := by
  unfold codeOf
  rw [← hi_f32, ← lo_f32, ← dhExpo_apply]
  pointwise [k0_pay13]
  rfl

theorem dhScale_apply (r : Fin 8192) :
    k0_pay14 v70 v73 v83 v84 (ix2 r 0) = scaleOf (ratioOf fun l => k0_pay11 v70 v73 v83 v84 (ix2 r l)) := by
  unfold scaleOf
  rw [← dhExpo_apply]
  rfl

theorem dhColScale_apply (l : Fin 8192) :
    k0_pay16 (k0_pay15 v70 v73 v83 v84) (ix2 0 l) = scaleOf (ratioOf fun r => k0_pay11 v70 v73 v83 v84 (ix2 r l)) := by
  refine (show _ = Ideal.exp2 (dhColExpo (dhColRatio (dhColMax (k0_pay11 v70 v73 v83 v84))) (ix2 0 l)) from rfl).trans ?_
  rw [dhColExpo_apply, dhColRatio_apply, dhColMax_apply]
  rfl

theorem flip_apply (r : Fin 8192) : k0_pay17 v37 (ix2 0 r) = v37 (ix2 r 0) := by
  pointwise [k0_pay17]

theorem flip'_apply (r : Fin 8192) : k0_pay19 v37 (ix2 0 r) = v37 (ix2 r 0) := by
  pointwise [k0_pay19]

end Payloads

end Cert.ReferenceRowsIdeal.Whole

end
-- ==== Proof.RowsReference.lean ====
/-
  What the rows REFERENCE computes: one point on the whole arrays, which stores the codes and the scales of dy, dH, and the
  codes and the scales of dH.
-/
module

public import proofs.«01_k».proof.Proof.RowsReferenceOps

@[expose] public section

set_option maxRecDepth 16384

noncomputable section

namespace Cert.ReferenceRowsIdeal.Whole

open Cert.ReferenceRowsIdeal Cert.ReferenceRowsIdeal.Gen Idealize.ShloMosaic Idealize.ShloMosaic.TcCoe Idealize.SL.Sem
open Cert.Math

/-! The seven stores, in terms of the input blocks. -/

section Stores

variable (x0 : Vec Ideal S8192x3072 .bf16) (x1 : Vec Ideal S8192x8192 .bf16) (x2 : Vec Ideal S4096x3072 .fp8e4m3) (x3 : Vec Ideal S1x1 .f32)

/-- A row of dy, and one of dH. -/
def dyV (r : Fin 8192) (j : Fin 3072) : EReal := x0 (ix2 r j)
def dhV (r : Fin 8192) (l : Fin 8192) : EReal :=
  dhOf (dyV x0 r) (fun l => x1 (ix2 r l)) (fun f j => x2 (ix2 f j)) (x3 (ix2 0 0)) l

/-- The two halves of the pre-activations. -/
theorem lower_apply (r : Fin 8192) (f : Fin 4096) : View.ld x1 r0_3 (ix2 r f) = x1 (ix2 r ⟨f.val, by omega⟩) := by
  refine congrArg x1 (Shape.idx_ext₂ ?_ ?_)
  · show 0 + 1 * r.val = r.val
    omega
  · show 0 + 1 * f.val = f.val
    omega

theorem upper_apply (r : Fin 8192) (f : Fin 4096) : View.ld x1 r0_4 (ix2 r f) = x1 (ix2 r ⟨4096 + f.val, by omega⟩) := by
  refine congrArg x1 (Shape.idx_ext₂ ?_ ?_)
  · show 0 + 1 * r.val = r.val
    omega
  · show 4096 + 1 * f.val = 4096 + f.val
    omega

theorem ld0 : View.ld x0 r0_0 = x0 := View.ld_unit_zero (S := S8192x3072) hz2 _ _

theorem hidden_apply (r : Fin 8192) (f : Fin 4096) :
    k0_pay22 x0 x1 x2 x3 (ix2 r f) = Cert.Math.hidden (dyV x0 r) (fun f j => x2 (ix2 f j)) (x3 (ix2 0 0)) f := by
  unfold k0_pay22 k0_pay20 k0_pay21 Cert.Math.hidden
  simp only [View.ld_unit_zero (S := S8192x3072) hz2, View.ld_unit_zero (S := S4096x3072) hz2, View.ld_unit_zero (S := S1x1) hz2]
  rw [pay7_apply, dyScale_apply]
  simp only [dyCode_apply]
  rfl

theorem gate_apply (r : Fin 8192) (f : Fin 4096) : k0_pay23 x0 x1 x2 x3 (ix2 r f) = gateIn (fun l => x1 (ix2 r l)) f := by
  unfold k0_pay23
  rw [pay8_apply, lower_apply]
  rfl

theorem sigm_apply (r : Fin 8192) (f : Fin 4096) : k0_pay24 x0 x1 x2 x3 (ix2 r f) = sigm (gateIn (fun l => x1 (ix2 r l)) f) := by
  unfold k0_pay24
  rw [pay9_apply, lower_apply]
  rfl

theorem hiddenUp_apply (r : Fin 8192) (f : Fin 4096) : k0_pay25 x0 x1 x2 x3 (ix2 r f)
    = Cert.Math.hidden (dyV x0 r) (fun f j => x2 (ix2 f j)) (x3 (ix2 0 0)) f * upIn (fun l => x1 (ix2 r l)) f := by
  unfold k0_pay25
  rw [pay10_apply, upper_apply]
  exact congrArg (· * _) (hidden_apply x0 x1 x2 x3 r f)

/-- The one array that everything about dH is taken from. -/
theorem dh_apply (r l : Fin 8192) :
    k0_pay11 (k0_pay22 x0 x1 x2 x3) (k0_pay23 x0 x1 x2 x3) (k0_pay24 x0 x1 x2 x3) (k0_pay25 x0 x1 x2 x3) (ix2 r l) = dhV x0 x1 x2 x3 r l := by
  unfold dhV dhOf
  by_cases h : l.val < 4096
  · rw [dif_pos h]
    refine (pay11_lo _ _ _ _ r ⟨l.val, h⟩).trans ?_
    rw [gate_apply, sigm_apply, hiddenUp_apply]
    rfl
  · rw [dif_neg h]
    have e : l = (⟨4096 + (⟨l.val - 4096, by omega⟩ : Fin 4096).val, by show 4096 + (l.val - 4096) < 8192; omega⟩ : Fin 8192) :=
      Fin.ext (by show l.val = 4096 + (l.val - 4096); omega)
    refine (congrArg (fun i => k0_pay11 (k0_pay22 x0 x1 x2 x3) (k0_pay23 x0 x1 x2 x3) (k0_pay24 x0 x1 x2 x3) (k0_pay25 x0 x1 x2 x3) (ix2 r i)) e).trans ?_
    refine (pay11_hi _ _ _ _ r ⟨l.val - 4096, by omega⟩).trans ?_
    rw [hidden_apply, gate_apply, sigm_apply]
    rfl

def dyCodeBlock : Vec Ideal S8192x3072 .fp8e5m2 := fun y => codeOf (dyV x0 (y 0) (y 1)) (ratioOf (dyV x0 (y 0)))
def dyScaleBlock : Vec Ideal S1x8192 .f32 := fun y => scaleOf (ratioOf (dyV x0 (y 1)))
def dyColBlock : Vec Ideal S1x3072 .f32 := fun y => scaleOf (ratioOf fun r => dyV x0 r (y 1))
def dhBlock : Vec Ideal S8192x8192 .bf16 := fun y => dhV x0 x1 x2 x3 (y 0) (y 1)
def dhCodeBlock : Vec Ideal S8192x8192 .fp8e5m2 := fun y => codeOf (dhV x0 x1 x2 x3 (y 0) (y 1)) (ratioOf (dhV x0 x1 x2 x3 (y 0)))
def dhScaleBlock : Vec Ideal S1x8192 .f32 := fun y => scaleOf (ratioOf (dhV x0 x1 x2 x3 (y 1)))
def dhColBlock : Vec Ideal S1x8192 .f32 := fun y => scaleOf (ratioOf fun r => dhV x0 x1 x2 x3 r (y 1))

theorem out4_eq : out0_4 (F := Ideal) x0 x1 x2 x3 = dyCodeBlock x0 := by
  unfold out0_4 k0_pay20
  rw [View.canon_unit_zero hz2, ld0]
  funext y
  obtain ⟨r, j, rfl⟩ : ∃ (r : Fin 8192) (j : Fin 3072), y = ix2 r j := ⟨y 0, y 1, eq_ix2 y⟩
  exact dyCode_apply x0 r j

theorem out5_eq : out0_5 (F := Ideal) x0 x1 x2 x3 = dyScaleBlock x0 := by
  unfold out0_5 k0_pay21
  rw [View.canon_unit_zero hz2, ld0]
  funext y
  obtain ⟨z, j, rfl⟩ : ∃ (z : Fin 1) (j : Fin 8192), y = ix2 z j := ⟨y 0, y 1, eq_ix2 y⟩
  obtain rfl : z = 0 := Subsingleton.elim _ _
  exact (flip_apply _ j).trans (dyScale_apply x0 j)

theorem out6_eq : out0_6 (F := Ideal) x0 x1 x2 x3 = dyColBlock x0 := by
  unfold out0_6
  rw [View.canon_unit_zero hz2, ld0]
  funext y
  obtain ⟨z, j, rfl⟩ : ∃ (z : Fin 1) (j : Fin 3072), y = ix2 z j := ⟨y 0, y 1, eq_ix2 y⟩
  obtain rfl : z = 0 := Subsingleton.elim _ _
  exact dyColScale_apply x0 j

theorem out7_eq : out0_7 (F := Ideal) x0 x1 x2 x3 = dhBlock x0 x1 x2 x3 := by
  unfold out0_7
  rw [View.canon_unit_zero hz2]
  funext y
  obtain ⟨r, j, rfl⟩ : ∃ (r : Fin 8192) (j : Fin 8192), y = ix2 r j := ⟨y 0, y 1, eq_ix2 y⟩
  exact dh_apply x0 x1 x2 x3 r j

theorem out8_eq : out0_8 (F := Ideal) x0 x1 x2 x3 = dhCodeBlock x0 x1 x2 x3 := by
  unfold out0_8
  rw [View.canon_unit_zero hz2]
  funext y
  obtain ⟨r, j, rfl⟩ : ∃ (r : Fin 8192) (j : Fin 8192), y = ix2 r j := ⟨y 0, y 1, eq_ix2 y⟩
  refine (dhCode_apply _ _ _ _ r j).trans ?_
  simp only [dh_apply]
  rfl

theorem out9_eq : out0_9 (F := Ideal) x0 x1 x2 x3 = dhScaleBlock x0 x1 x2 x3 := by
  unfold out0_9
  rw [View.canon_unit_zero hz2]
  funext y
  obtain ⟨z, j, rfl⟩ : ∃ (z : Fin 1) (j : Fin 8192), y = ix2 z j := ⟨y 0, y 1, eq_ix2 y⟩
  obtain rfl : z = 0 := Subsingleton.elim _ _
  refine ((flip'_apply _ j).trans (dhScale_apply _ _ _ _ j)).trans ?_
  simp only [dh_apply]
  rfl

theorem out10_eq : out0_10 (F := Ideal) x0 x1 x2 x3 = dhColBlock x0 x1 x2 x3 := by
  unfold out0_10
  rw [View.canon_unit_zero hz2]
  funext y
  obtain ⟨z, j, rfl⟩ : ∃ (z : Fin 1) (j : Fin 8192), y = ix2 z j := ⟨y 0, y 1, eq_ix2 y⟩
  obtain rfl : z = 0 := Subsingleton.elim _ _
  refine (dhColScale_apply _ _ _ _ j).trans ?_
  simp only [dh_apply]
  rfl

end Stores

/-! From the blocks to the arrays. -/

variable (m : (ℓ : Loc nD τ sig) → Buf (Elt Ideal) ℓ) (ρ : Dev nD → PrngReg)

/-- The rows of dy, and those of dH. -/
def dyRows (c : Dev nD) (r : Fin 8192) (j : Fin 3072) : EReal := m ((c : Thread nD τ).loc main_arg0) (ix3 0 r j)
def dhRows (c : Dev nD) (r : Fin 8192) (l : Fin 8192) : EReal :=
  dhOf (dyRows m c r) (fun l => m ((c : Thread nD τ).loc main_arg1) (ix3 0 r l)) (fun f j => m ((c : Thread nD τ).loc main_arg2) (ix2 f j))
    (m ((c : Thread nD τ).loc main_arg3) ix0) l

/-- The seven results. -/
def dyCodeResult (c : Dev nD) : Buf (Elt Ideal) ((c : Thread nD τ).loc main_v3_0) := fun y => codeOf (dyRows m c (y 0) (y 1)) (ratioOf (dyRows m c (y 0)))
def dyScales (c : Dev nD) : Buf (Elt Ideal) ((c : Thread nD τ).loc main_v3_1) := fun y => scaleOf (ratioOf (dyRows m c (y 1)))
def dyColScales (c : Dev nD) : Buf (Elt Ideal) ((c : Thread nD τ).loc main_v3_2) := fun y => scaleOf (ratioOf fun r => dyRows m c r (y 1))
def dhResult (c : Dev nD) : Buf (Elt Ideal) ((c : Thread nD τ).loc main_v3_3) := fun y => dhRows m c (y 0) (y 1)
def dhCodeResult (c : Dev nD) : Buf (Elt Ideal) ((c : Thread nD τ).loc main_v3_4) := fun y => codeOf (dhRows m c (y 0) (y 1)) (ratioOf (dhRows m c (y 0)))
def dhScales (c : Dev nD) : Buf (Elt Ideal) ((c : Thread nD τ).loc main_v3_5) := fun y => scaleOf (ratioOf (dhRows m c (y 1)))
def dhColScales (c : Dev nD) : Buf (Elt Ideal) ((c : Thread nD τ).loc main_v3_6) := fun y => scaleOf (ratioOf fun r => dhRows m c r (y 1))

/-- The whole-array windows stand at the origin. -/
theorem iblk0_eq (c : Dev nD) (t : Fin cfg0.N) (r : Fin 8192) (j : Fin 3072) :
    (iblk m c 0 t : Vec Ideal S8192x3072 .bf16) (ix2 r j) = dyRows m c r j := by
  have e : (V m c main_v0 : S8192x3072.Idx → EReal) (ix2 r j) = m ((c : Thread nD τ).loc main_arg0) (ix3 0 r j) := by
    entry_read
    pointwise []
  unfold iblk
  rw [View.read_apply]
  refine (congrArg (V m c main_v0) (Shape.idx_ext₂ ?_ ?_)).trans e
  · show 0 * 8192 + 1 * r.val = r.val
    omega
  · show 0 * 3072 + 1 * j.val = j.val
    omega

theorem iblk1_eq (c : Dev nD) (t : Fin cfg0.N) (r l : Fin 8192) :
    (iblk m c 1 t : Vec Ideal S8192x8192 .bf16) (ix2 r l) = m ((c : Thread nD τ).loc main_arg1) (ix3 0 r l) := by
  have e : (V m c main_v1 : S8192x8192.Idx → EReal) (ix2 r l) = m ((c : Thread nD τ).loc main_arg1) (ix3 0 r l) := by
    entry_read
    pointwise []
  unfold iblk
  rw [View.read_apply]
  refine (congrArg (V m c main_v1) (Shape.idx_ext₂ ?_ ?_)).trans e
  · show 0 * 8192 + 1 * r.val = r.val
    omega
  · show 0 * 8192 + 1 * l.val = l.val
    omega

theorem iblk2_eq (c : Dev nD) (t : Fin cfg0.N) (f : Fin 4096) (j : Fin 3072) :
    (iblk m c 2 t : Vec Ideal S4096x3072 .fp8e4m3) (ix2 f j) = m ((c : Thread nD τ).loc main_arg2) (ix2 f j) := by
  unfold iblk
  rw [View.read_apply]
  show V m c main_arg2 _ = _
  rw [V_main_arg2]
  refine congrArg (m ((c : Thread nD τ).loc main_arg2)) (Shape.idx_ext₂ ?_ ?_)
  · show 0 * 4096 + 1 * f.val = f.val
    omega
  · show 0 * 3072 + 1 * j.val = j.val
    omega

theorem iblk3_eq (c : Dev nD) (t : Fin cfg0.N) :
    (iblk m c 3 t : Vec Ideal S1x1 .f32) (ix2 0 0) = m ((c : Thread nD τ).loc main_arg3) ix0 := by
  have e : (V m c main_v2 : S1x1.Idx → EReal) (ix2 0 0) = m ((c : Thread nD τ).loc main_arg3) ix0 := by
    entry_read
    pointwise []
  unfold iblk
  rw [View.read_apply]
  exact (congrArg (V m c main_v2) (Shape.idx_ext₂ rfl rfl)).trans e

theorem dyV_eq (c : Dev nD) (t : Fin cfg0.N) : dyV (iblk m c 0 t) = dyRows m c := by
  funext r j
  exact iblk0_eq m c t r j

theorem dhV_eq (c : Dev nD) (t : Fin cfg0.N) : dhV (iblk m c 0 t) (iblk m c 1 t) (iblk m c 2 t) (iblk m c 3 t) = dhRows m c := by
  funext r l
  unfold dhV dhRows
  rw [dyV_eq, iblk3_eq]
  simp only [iblk1_eq, iblk2_eq]

/-- Each output block stands on its array index for index, and holds the result. -/
theorem emb4_eq (t : Fin cfg0.N) (y : S8192x3072.Idx) : ((cfg0.win 4).blk t).view.emb y = y := by
  refine Shape.idx_ext₂ ?_ ?_
  · show 0 * 8192 + 1 * (y 0).val = (y 0).val
    omega
  · show 0 * 3072 + 1 * (y 1).val = (y 1).val
    omega

theorem flushed4_eq (c : Dev nD) (t : Fin cfg0.N) (hf : (cfg0.win 4).flush t = true) :
    (dats m 0 c).flushed 4 t = ((cfg0.win 4).blk t).view.read (Elt Ideal) (dyCodeResult m c) := by
  rw [Value.flushed4, out4_eq]
  unfold dyCodeBlock
  rw [dyV_eq]
  funext y
  rw [View.read_apply, emb4_eq t y]
  rfl

theorem mem_blk4 (t : Fin cfg0.N) (i : S8192x3072.Idx) : i ∈ ((cfg0.win 4).blk t).view.set := by
  have h := ((cfg0.win 4).blk t).view.emb_mem_set i
  rwa [emb4_eq t i] at h

theorem emb5_eq (t : Fin cfg0.N) (y : S1x8192.Idx) : ((cfg0.win 5).blk t).view.emb y = y := by
  refine Shape.idx_ext₂ ?_ ?_
  · show 0 * 1 + 1 * (y 0).val = (y 0).val
    omega
  · show 0 * 8192 + 1 * (y 1).val = (y 1).val
    omega

theorem flushed5_eq (c : Dev nD) (t : Fin cfg0.N) (hf : (cfg0.win 5).flush t = true) :
    (dats m 0 c).flushed 5 t = ((cfg0.win 5).blk t).view.read (Elt Ideal) (dyScales m c) := by
  rw [Value.flushed5, out5_eq]
  unfold dyScaleBlock
  rw [dyV_eq]
  funext y
  rw [View.read_apply, emb5_eq t y]
  rfl

theorem mem_blk5 (t : Fin cfg0.N) (i : S1x8192.Idx) : i ∈ ((cfg0.win 5).blk t).view.set := by
  have h := ((cfg0.win 5).blk t).view.emb_mem_set i
  rwa [emb5_eq t i] at h

theorem emb6_eq (t : Fin cfg0.N) (y : S1x3072.Idx) : ((cfg0.win 6).blk t).view.emb y = y := by
  refine Shape.idx_ext₂ ?_ ?_
  · show 0 * 1 + 1 * (y 0).val = (y 0).val
    omega
  · show 0 * 3072 + 1 * (y 1).val = (y 1).val
    omega

theorem flushed6_eq (c : Dev nD) (t : Fin cfg0.N) (hf : (cfg0.win 6).flush t = true) :
    (dats m 0 c).flushed 6 t = ((cfg0.win 6).blk t).view.read (Elt Ideal) (dyColScales m c) := by
  rw [Value.flushed6, out6_eq]
  unfold dyColBlock
  rw [dyV_eq]
  funext y
  rw [View.read_apply, emb6_eq t y]
  rfl

theorem mem_blk6 (t : Fin cfg0.N) (i : S1x3072.Idx) : i ∈ ((cfg0.win 6).blk t).view.set := by
  have h := ((cfg0.win 6).blk t).view.emb_mem_set i
  rwa [emb6_eq t i] at h

theorem emb7_eq (t : Fin cfg0.N) (y : S8192x8192.Idx) : ((cfg0.win 7).blk t).view.emb y = y := by
  refine Shape.idx_ext₂ ?_ ?_
  · show 0 * 8192 + 1 * (y 0).val = (y 0).val
    omega
  · show 0 * 8192 + 1 * (y 1).val = (y 1).val
    omega

theorem flushed7_eq (c : Dev nD) (t : Fin cfg0.N) (hf : (cfg0.win 7).flush t = true) :
    (dats m 0 c).flushed 7 t = ((cfg0.win 7).blk t).view.read (Elt Ideal) (dhResult m c) := by
  rw [Value.flushed7, out7_eq]
  unfold dhBlock
  rw [dhV_eq]
  funext y
  rw [View.read_apply, emb7_eq t y]
  rfl

theorem mem_blk7 (t : Fin cfg0.N) (i : S8192x8192.Idx) : i ∈ ((cfg0.win 7).blk t).view.set := by
  have h := ((cfg0.win 7).blk t).view.emb_mem_set i
  rwa [emb7_eq t i] at h

theorem emb8_eq (t : Fin cfg0.N) (y : S8192x8192.Idx) : ((cfg0.win 8).blk t).view.emb y = y := by
  refine Shape.idx_ext₂ ?_ ?_
  · show 0 * 8192 + 1 * (y 0).val = (y 0).val
    omega
  · show 0 * 8192 + 1 * (y 1).val = (y 1).val
    omega

theorem flushed8_eq (c : Dev nD) (t : Fin cfg0.N) (hf : (cfg0.win 8).flush t = true) :
    (dats m 0 c).flushed 8 t = ((cfg0.win 8).blk t).view.read (Elt Ideal) (dhCodeResult m c) := by
  rw [Value.flushed8, out8_eq]
  unfold dhCodeBlock
  rw [dhV_eq]
  funext y
  rw [View.read_apply, emb8_eq t y]
  rfl

theorem mem_blk8 (t : Fin cfg0.N) (i : S8192x8192.Idx) : i ∈ ((cfg0.win 8).blk t).view.set := by
  have h := ((cfg0.win 8).blk t).view.emb_mem_set i
  rwa [emb8_eq t i] at h

theorem emb9_eq (t : Fin cfg0.N) (y : S1x8192.Idx) : ((cfg0.win 9).blk t).view.emb y = y := by
  refine Shape.idx_ext₂ ?_ ?_
  · show 0 * 1 + 1 * (y 0).val = (y 0).val
    omega
  · show 0 * 8192 + 1 * (y 1).val = (y 1).val
    omega

theorem flushed9_eq (c : Dev nD) (t : Fin cfg0.N) (hf : (cfg0.win 9).flush t = true) :
    (dats m 0 c).flushed 9 t = ((cfg0.win 9).blk t).view.read (Elt Ideal) (dhScales m c) := by
  rw [Value.flushed9, out9_eq]
  unfold dhScaleBlock
  rw [dhV_eq]
  funext y
  rw [View.read_apply, emb9_eq t y]
  rfl

theorem mem_blk9 (t : Fin cfg0.N) (i : S1x8192.Idx) : i ∈ ((cfg0.win 9).blk t).view.set := by
  have h := ((cfg0.win 9).blk t).view.emb_mem_set i
  rwa [emb9_eq t i] at h

theorem emb10_eq (t : Fin cfg0.N) (y : S1x8192.Idx) : ((cfg0.win 10).blk t).view.emb y = y := by
  refine Shape.idx_ext₂ ?_ ?_
  · show 0 * 1 + 1 * (y 0).val = (y 0).val
    omega
  · show 0 * 8192 + 1 * (y 1).val = (y 1).val
    omega

theorem flushed10_eq (c : Dev nD) (t : Fin cfg0.N) (hf : (cfg0.win 10).flush t = true) :
    (dats m 0 c).flushed 10 t = ((cfg0.win 10).blk t).view.read (Elt Ideal) (dhColScales m c) := by
  rw [Value.flushed10, out10_eq]
  unfold dhColBlock
  rw [dhV_eq]
  funext y
  rw [View.read_apply, emb10_eq t y]
  rfl

theorem mem_blk10 (t : Fin cfg0.N) (i : S1x8192.Idx) : i ∈ ((cfg0.win 10).blk t).view.set := by
  have h := ((cfg0.win 10).blk t).view.emb_mem_set i
  rwa [emb10_eq t i] at h

/-- The run: the seven result arrays, the arguments unchanged. -/
theorem run : θ_run defs (onTc (τ := τ) (main (F := Ideal))) ⟨m, fun _ => 0, ρ⟩ fun r => ∀ c : Dev nD,
      r.2.mem ((c : Thread nD τ).loc main_v3_0) = dyCodeResult m c
      ∧ r.2.mem ((c : Thread nD τ).loc main_v3_1) = dyScales m c
      ∧ r.2.mem ((c : Thread nD τ).loc main_v3_2) = dyColScales m c
      ∧ r.2.mem ((c : Thread nD τ).loc main_v3_3) = dhResult m c
      ∧ r.2.mem ((c : Thread nD τ).loc main_v3_4) = dhCodeResult m c
      ∧ r.2.mem ((c : Thread nD τ).loc main_v3_5) = dhScales m c
      ∧ r.2.mem ((c : Thread nD τ).loc main_v3_6) = dhColScales m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans ((dats m 0 c).arrAt_eq_of_cover 4 (dyCodeResult m c) (flushed4_eq m c) fun i => ⟨⟨0, by decide⟩, flush0_4 _, mem_blk4 _ i⟩),
    (h c).2.1.trans ((dats m 0 c).arrAt_eq_of_cover 5 (dyScales m c) (flushed5_eq m c) fun i => ⟨⟨0, by decide⟩, flush0_5 _, mem_blk5 _ i⟩),
    (h c).2.2.1.trans ((dats m 0 c).arrAt_eq_of_cover 6 (dyColScales m c) (flushed6_eq m c) fun i => ⟨⟨0, by decide⟩, flush0_6 _, mem_blk6 _ i⟩),
    (h c).2.2.2.1.trans ((dats m 0 c).arrAt_eq_of_cover 7 (dhResult m c) (flushed7_eq m c) fun i => ⟨⟨0, by decide⟩, flush0_7 _, mem_blk7 _ i⟩),
    (h c).2.2.2.2.1.trans ((dats m 0 c).arrAt_eq_of_cover 8 (dhCodeResult m c) (flushed8_eq m c) fun i => ⟨⟨0, by decide⟩, flush0_8 _, mem_blk8 _ i⟩),
    (h c).2.2.2.2.2.1.trans ((dats m 0 c).arrAt_eq_of_cover 9 (dhScales m c) (flushed9_eq m c) fun i => ⟨⟨0, by decide⟩, flush0_9 _, mem_blk9 _ i⟩),
    (h c).2.2.2.2.2.2.1.trans ((dats m 0 c).arrAt_eq_of_cover 10 (dhColScales m c) (flushed10_eq m c) fun i => ⟨⟨0, by decide⟩, flush0_10 _, mem_blk10 _ i⟩),
    (h c).2.2.2.2.2.2.2⟩) (Value.run_blocks m ρ)

end Cert.ReferenceRowsIdeal.Whole

end
-- ==== Proof.Rows.lean ====
/-
  The rows claim: run on the same arguments, the kernel and the reference leave the same seven results.
-/
module

public import proofs.«01_k».proof.Defs
public import proofs.«01_k».proof.Proof.RowsArray
public import proofs.«01_k».proof.Proof.RowsReference

@[expose] public section

set_option maxRecDepth 16384

noncomputable section

namespace Cert.Proof

open Idealize.ShloMosaic Idealize.SL.Sem

theorem rows : Cert.algebraic_KernelRowsIdeal_ReferenceRowsIdeal (hKernelRowsIdeal := Cert.KernelRowsIdeal.Gen.facts)
    (hReferenceRowsIdeal := Cert.ReferenceRowsIdeal.Gen.facts) := by
  intro m g m' g' _ hargs
  refine ⟨fun c => Cert.KernelRowsIdeal.Block.dyCodeResult m c, fun c => Cert.KernelRowsIdeal.Block.dyScales m c,
    fun c => Cert.KernelRowsIdeal.Block.dyColScales m c, fun c => Cert.KernelRowsIdeal.Block.dhResult m c,
    fun c => Cert.KernelRowsIdeal.Block.dhCodeResult m c, fun c => Cert.KernelRowsIdeal.Block.dhScales m c,
    fun c => Cert.KernelRowsIdeal.Block.dhColScales m c, Cert.KernelRowsIdeal.Block.run m g, ?_⟩
  refine (θ_run _ _ _).mono (fun r h c => ?_) (Cert.ReferenceRowsIdeal.Whole.run m' g')
  obtain ⟨e0, e1, e2, e3⟩ := hargs c
  have hdy : Cert.ReferenceRowsIdeal.Whole.dyRows m' c = Cert.KernelRowsIdeal.Block.dyRows m c := by
    funext r j
    unfold Cert.ReferenceRowsIdeal.Whole.dyRows Cert.KernelRowsIdeal.Block.dyRows
    rw [e0]
  have hdh : Cert.ReferenceRowsIdeal.Whole.dhRows m' c = Cert.KernelRowsIdeal.Block.dhRows m c := by
    funext r l
    unfold Cert.ReferenceRowsIdeal.Whole.dhRows Cert.KernelRowsIdeal.Block.dhRows
    rw [hdy, e1, e2, e3]
  refine ⟨(h c).1.trans ?_, (h c).2.1.trans ?_, (h c).2.2.1.trans ?_, (h c).2.2.2.1.trans ?_, (h c).2.2.2.2.1.trans ?_,
    (h c).2.2.2.2.2.1.trans ?_, (h c).2.2.2.2.2.2.1.trans ?_, (h c).2.2.2.2.2.2.2⟩
  · unfold Cert.ReferenceRowsIdeal.Whole.dyCodeResult Cert.KernelRowsIdeal.Block.dyCodeResult
    rw [hdy]
    rfl
  · unfold Cert.ReferenceRowsIdeal.Whole.dyScales Cert.KernelRowsIdeal.Block.dyScales
    rw [hdy]
    rfl
  · unfold Cert.ReferenceRowsIdeal.Whole.dyColScales Cert.KernelRowsIdeal.Block.dyColScales
    rw [hdy]
    rfl
  · unfold Cert.ReferenceRowsIdeal.Whole.dhResult Cert.KernelRowsIdeal.Block.dhResult
    rw [hdh]
    rfl
  · unfold Cert.ReferenceRowsIdeal.Whole.dhCodeResult Cert.KernelRowsIdeal.Block.dhCodeResult
    rw [hdh]
    rfl
  · unfold Cert.ReferenceRowsIdeal.Whole.dhScales Cert.KernelRowsIdeal.Block.dhScales
    rw [hdh]
    rfl
  · unfold Cert.ReferenceRowsIdeal.Whole.dhColScales Cert.KernelRowsIdeal.Block.dhColScales
    rw [hdh]
    rfl

end Cert.Proof

end
-- ==== Proof.DxBlock.lean ====
/-
  What ONE BLOCK of the dX kernel computes, read at the ideal values: from a [512, 8192] block `a` of the row codes of
  dH, the [1, 512] block `s` of their row scales, the whole code matrix `w` of W1 and its one scale `q`, the kernel
  leaves at row `r` and column `j` of its [512, 3072] output block
      (∑ k, a r k · w j k) · s r · q.
  The body writes the block in twelve stores of 256 columns each; one lemma (`chunk`) reads any of them.
-/
module

public import proofs.«01_k».proof.Proof.Gen.KernelDxIdeal.Value
public import proofs.«01_k».proof.Proof.Dot
public import Idealize.ShloMosaic.Lib.Tactic

@[expose] public section

set_option maxRecDepth 16384

noncomputable section

namespace Cert.KernelDxIdeal.Block

open Cert.KernelDxIdeal Cert.KernelDxIdeal.Gen Idealize.ShloMosaic Idealize.ShloMosaic.TcCoe Idealize.SL.Sem
open Cert.Math (scaledDot)

/-- The payload every one of the twelve stores writes. -/
abbrev pay (s : Vec Ideal S1x512 .f32) (a : Vec Ideal S512x8192 .fp8e5m2) (w : Vec Ideal S256x8192 .fp8e4m3)
    (q : Elt Ideal .f32) : FVec Ideal S512x256 .bf16 := k0_pay3 s a w q

theorem pay_apply (s : Vec Ideal S1x512 .f32) (a : Vec Ideal S512x8192 .fp8e5m2) (w : Vec Ideal S256x8192 .fp8e4m3)
    (q : Elt Ideal .f32) (r : Fin 512) (l : Fin 256) :
    pay s a w q (ix2 r l) = scaledDot a w (fun r => s (ix2 0 r)) q r l := by
  unfold scaledDot
  pointwise [pay, k0_pay3, k0_pay2]
  split <;> rfl

/-- The whole [512, 3072] block. -/
def block (s : Vec Ideal S1x512 .f32) (a : Vec Ideal S512x8192 .fp8e5m2) (w : Vec Ideal S3072x8192 .fp8e4m3)
    (q : Elt Ideal .f32) : Vec Ideal S512x3072 .bf16 :=
  fun y => scaledDot a w (fun r => s (ix2 0 r)) q (y 0) (y 1)

/-- One store's piece: at column offset `o` it writes the payload of the rows `o …` of `w`, and that is the block's
    function at the columns `o …`. -/
theorem chunk (s : Vec Ideal S1x512 .f32) (a : Vec Ideal S512x8192 .fp8e5m2) (w : Vec Ideal S3072x8192 .fp8e4m3)
    (q : Elt Ideal .f32) (o : ℕ) (hw : ∀ b, (![o, 0] : Fin 2 → ℕ) b + S256x8192.size b ≤ S3072x8192.size b)
    (ho : ∀ b, (![0, o] : Fin 2 → ℕ) b + S512x256.size b ≤ S512x3072.size b) (x : S512x256.Idx) :
    pay s a (View.ld w (Rect.unit (s := S3072x8192) ![o, 0] S256x8192.size hw)) q x
      = block s a w q ((Rect.unit (s := S512x3072) ![0, o] S512x256.size ho).emb x) := by
  obtain ⟨r, l, rfl⟩ : ∃ (r : Fin 512) (l : Fin 256), x = ix2 r l := ⟨x 0, x 1, eq_ix2 x⟩
  rw [pay_apply]
  have h0 : (Rect.unit (s := S512x3072) ![0, o] S512x256.size ho).emb (ix2 r l) 0 = r := Fin.ext (by
    rw [Rect.emb_apply]; show 0 + 1 * r.val = r.val; omega)
  have h1 : ((Rect.unit (s := S512x3072) ![0, o] S512x256.size ho).emb (ix2 r l) 1).val = o + l.val := by
    rw [Rect.emb_apply]; show o + 1 * l.val = o + l.val; omega
  unfold block
  rw [h0]
  generalize (Rect.unit (s := S512x3072) ![0, o] S512x256.size ho).emb (ix2 r l) 1 = j at h1
  unfold scaledDot
  refine congrArg (· * _ * _) (Finset.sum_congr rfl fun k _ => congrArg (a (ix2 r k) * ·) (congrArg w ?_))
  refine Shape.idx_ext₂ ?_ ?_
  · show o + 1 * l.val = j.val
    omega
  · show 0 + 1 * k.val = k.val
    omega

theorem hz2 : (![0, 0] : Fin 2 → ℕ) = fun _ => 0 := funext fun a => by fin_cases a <;> rfl

/-- The output block after the body: `block` of the input blocks, whatever staging buffers they stand in. -/
theorem out_eq (c : Dev nD) (i : grid0.Coords) (a1 : Memref sig .tc .smem S1 .f32) (h1 : a1.IsWhole)
    (a2 : Memref sig .tc .vmem S512x8192 .fp8e5m2) (h2 : a2.IsWhole) (a3 : Memref sig .tc .vmem S1x512 .f32) (h3 : a3.IsWhole)
    (a4 : Memref sig .tc .vmem S3072x8192 .fp8e4m3) (h4 : a4.IsWhole) (a5 : Memref sig .tc .vmem S512x3072 .bf16) (h5 : a5.IsWhole)
    (q : Vec Ideal S1 .f32) (a : Vec Ideal S512x8192 .fp8e5m2) (s : Vec Ideal S1x512 .f32) (w : Vec Ideal S3072x8192 .fp8e4m3) :
    out0_A_4 (F := Ideal) c i a1 h1 a2 h2 a3 h3 a4 h4 a5 h5 q a s w = block s a w (q (ix1 0)) := by
  unfold out0_A_4
  rw [View.read_writes_eq_canon _ _ _ (cover0_A_4 c i a1 h1 a2 h2 a3 h3 a4 h4 a5 h5 q a s w)]
  funext y
  refine View.canon_apply_of_pieces _ _ ?_ y (cover0_A_4 c i a1 h1 a2 h2 a3 h3 a4 h4 a5 h5 q a s w y)
  unfold kernelRun0_A
  dsimp only
  sl_unfold_words
  simp only [View.readAt_eq_ld, h1.read_unread, h2.read_unread, h3.read_unread, h4.read_unread]
  simp only [View.ld_unit_zero (S := S512x8192) hz2, View.ld_unit_zero (S := S1x512) hz2]
  have hq : ∀ x : S1.Idx, View.ld q (Rect.unit (s := S1) ![0] S1.size inb_S1_S1_0) x = q (ix1 0) := fun x =>
    congrArg q (funext fun a => match a with
      | ⟨0, _⟩ => Fin.ext (by have := (x 0).isLt; show 0 + 1 * (x 0).val = 0; simp at this ⊢; omega))
  simp only [hq, List.forall_mem_cons]
  refine ⟨?_, ?_, ?_, ?_, ?_, ?_, ?_, ?_, ?_, ?_, ?_, ?_, fun p hp => absurd hp List.not_mem_nil⟩
  all_goals exact chunk s a w (q (ix1 0)) _ _ _

end Cert.KernelDxIdeal.Block

end
-- ==== Proof.DxArray.lean ====
/-
  What the dX kernel's ARRAY holds after its sixteen grid points, and what its run leaves: at row `r` and column `j` of the
  [8192, 3072] result, the scaled product of the whole arguments (`scaledDot`). Point `t` writes rows
  `512 t … 512 t + 511`, from the same rows of the codes and scales of dH; so its block is the result read through the
  block's rectangle, and the sixteen blocks cover the array.
-/
module

public import proofs.«01_k».proof.Proof.DxBlock
public import Idealize.ShloMosaic.Lib.Claim
public import Idealize.ShloMosaic.Lib.Pipeline.ValueKit.Geometry

@[expose] public section

set_option maxRecDepth 16384

noncomputable section

namespace Cert.KernelDxIdeal.Block

open Cert.KernelDxIdeal Cert.KernelDxIdeal.Gen Idealize.ShloMosaic Idealize.ShloMosaic.TcCoe Idealize.SL.Sem
open Cert.Math (scaledDot)

variable (m : (ℓ : Loc nD τ sig) → Buf (Elt Ideal) ℓ) (ρ : Dev nD → PrngReg)

/-- The result array: the scaled product of the arguments as launched. -/
def result (c : Dev nD) : Buf (Elt Ideal) ((c : Thread nD τ).loc main_v1) :=
  fun y => scaledDot (m ((c : Thread nD τ).loc main_arg0)) (m ((c : Thread nD τ).loc main_arg2))
    (fun r => m ((c : Thread nD τ).loc main_arg1) (ix2 0 r)) (m ((c : Thread nD τ).loc main_arg3) ix0) (y 0) (y 1)

/-- The block indices at point `t`: the row blocks move with the point, everything else stays. -/
theorem index_eq : ∀ t : Fin cfg0.N, win0_1.index t 0 = t.val ∧ win0_1.index t 1 = 0 ∧ win0_2.index t 0 = 0 ∧ win0_2.index t 1 = t.val
    ∧ win0_3.index t 0 = 0 ∧ win0_3.index t 1 = 0 ∧ win0_4.index t 0 = t.val ∧ win0_4.index t 1 = 0 ∧ win0_0.index t 0 = 0 :=
  (by decide +kernel : ∀ t : Fin grid0.N, _)

/-- The scale of W1 reaches the kernel as a vector of one element. -/
theorem scale_eq (c : Dev nD) (x : S1.Idx) : V m c main_v0 x = m ((c : Thread nD τ).loc main_arg3) ix0 := by
  entry_read
  unfold shapeCast
  exact congrArg (m ((c : Thread nD τ).loc main_arg3)) (funext fun a => a.elim0)

theorem iblk0_eq (c : Dev nD) (t : Fin cfg0.N) : iblk m c 0 t (ix1 0) = m ((c : Thread nD τ).loc main_arg3) ix0 := by
  unfold iblk
  rw [View.read_apply]
  exact scale_eq m c _

theorem iblk1_eq (c : Dev nD) (t : Fin cfg0.N) (r : Fin 512) (k : Fin 8192) (R : Fin 8192) (hR : R.val = 512 * t.val + r.val) :
    (iblk m c 1 t : Vec Ideal S512x8192 .fp8e5m2) (ix2 r k) = m ((c : Thread nD τ).loc main_arg0) (ix2 R k) := by
  unfold iblk
  rw [View.read_apply]
  show V m c main_arg0 _ = _
  rw [V_main_arg0]
  refine congrArg (m ((c : Thread nD τ).loc main_arg0)) (Shape.idx_ext₂ ?_ ?_)
  · show win0_1.index t 0 * 512 + 1 * r.val = R.val
    rw [(index_eq t).1]; omega
  · show win0_1.index t 1 * 8192 + 1 * k.val = k.val
    rw [(index_eq t).2.1]; omega

theorem iblk2_eq (c : Dev nD) (t : Fin cfg0.N) (r : Fin 512) (R : Fin 8192) (hR : R.val = 512 * t.val + r.val) :
    (iblk m c 2 t : Vec Ideal S1x512 .f32) (ix2 0 r) = m ((c : Thread nD τ).loc main_arg1) (ix2 0 R) := by
  unfold iblk
  rw [View.read_apply]
  show V m c main_arg1 _ = _
  rw [V_main_arg1]
  refine congrArg (m ((c : Thread nD τ).loc main_arg1)) (Shape.idx_ext₂ ?_ ?_)
  · show win0_2.index t 0 * 1 + 1 * 0 = 0
    rw [(index_eq t).2.2.1]
  · show win0_2.index t 1 * 512 + 1 * r.val = R.val
    rw [(index_eq t).2.2.2.1]; omega

theorem iblk3_eq (c : Dev nD) (t : Fin cfg0.N) (y : S3072x8192.Idx) :
    (iblk m c 3 t : Vec Ideal S3072x8192 .fp8e4m3) y = m ((c : Thread nD τ).loc main_arg2) y := by
  unfold iblk
  rw [View.read_apply]
  show V m c main_arg2 _ = _
  rw [V_main_arg2]
  refine congrArg (m ((c : Thread nD τ).loc main_arg2)) (Shape.idx_ext₂ ?_ ?_)
  · show win0_3.index t 0 * 3072 + 1 * (y 0).val = (y 0).val
    rw [(index_eq t).2.2.2.2.1]; omega
  · show win0_3.index t 1 * 8192 + 1 * (y 1).val = (y 1).val
    rw [(index_eq t).2.2.2.2.2.1]; omega

/-- Point `t` writes back the result's rows `512 t …`. -/
theorem flushed_eq (c : Dev nD) (t : Fin cfg0.N) (hf : (cfg0.win 4).flush t = true) :
    (dats m 0 c).flushed 4 t = ((cfg0.win 4).blk t).view.read (Elt Ideal) (result m c) := by
  rw [Value.flushed4_A, out_eq]
  funext y
  rw [View.read_apply]
  obtain ⟨r, j, rfl⟩ : ∃ (r : Fin 512) (j : Fin 3072), y = ix2 r j := ⟨y 0, y 1, eq_ix2 y⟩
  have ht : t.val < 16 := t.isLt
  have hR : 512 * t.val + r.val < 8192 := by omega
  have e : ((cfg0.win 4).blk t).view.emb (ix2 r j) = (ix2 ⟨512 * t.val + r.val, hR⟩ j : S8192x3072.Idx) := by
    refine Shape.idx_ext₂ ?_ ?_
    · show win0_4.index t 0 * 512 + 1 * r.val = _
      rw [(index_eq t).2.2.2.2.2.2.1]; show _ = 512 * t.val + r.val; omega
    · show win0_4.index t 1 * 3072 + 1 * j.val = j.val
      rw [(index_eq t).2.2.2.2.2.2.2.1]; omega
  rw [e]
  show block _ _ _ _ (ix2 r j) = result m c (ix2 ⟨512 * t.val + r.val, hR⟩ j)
  unfold block result
  show scaledDot _ _ _ _ r j = scaledDot _ _ _ _ (⟨512 * t.val + r.val, hR⟩ : Fin 8192) j
  unfold scaledDot
  simp only [iblk0_eq, iblk1_eq m c t r _ ⟨512 * t.val + r.val, hR⟩ rfl, iblk2_eq m c t r ⟨512 * t.val + r.val, hR⟩ rfl, iblk3_eq]

/-- The sixteen row blocks cover the array. -/
theorem cover (i : S8192x3072.Idx) :
    ∃ t : Fin cfg0.N, (cfg0.win 4).flush t = true ∧ i ∈ ((cfg0.win 4).blk t).view.set := by
  have h0 : (i 0 : ℕ) < 8192 := (i 0).isLt
  have h1 : (i 1 : ℕ) < 3072 := (i 1).isLt
  refine ⟨⟨(i 0 : ℕ) / 512, by show _ < 16; omega⟩, flush0_4 _, ?_⟩
  refine (ValueKit.mem_set_slice_whole_iff _ _ _ (Pipeline.Window.mem_rect_iff win0_4 _ i)).mpr ?_
  intro a
  match a with
  | ⟨0, _⟩ => show win0_4.index _ 0 * 512 ≤ (i 0 : ℕ) ∧ (i 0 : ℕ) < win0_4.index _ 0 * 512 + 512
              rw [(index_eq _).2.2.2.2.2.2.1]; dsimp only; omega
  | ⟨1, _⟩ => show win0_4.index _ 1 * 3072 ≤ (i 1 : ℕ) ∧ (i 1 : ℕ) < win0_4.index _ 1 * 3072 + 3072
              rw [(index_eq _).2.2.2.2.2.2.2.1]; omega

/-- So it ends holding the result. -/
theorem final (c : Dev nD) : (dats m 0 c).arrAt 4 cfg0.N = result m c :=
  (dats m 0 c).arrAt_eq_of_cover 4 (result m c) (flushed_eq m c) cover

/-- The run: the result array at `result`, the arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final m c), (h c).2⟩) (Value.run_blocks m ρ)

end Cert.KernelDxIdeal.Block

end
-- ==== Proof.DxReference.lean ====
/-
  What the dX REFERENCE computes: one point on the whole arrays, whose single store is the product with its scales. Its
  result array is therefore `scaledDot` of the arguments, index by index.
-/
module

public import proofs.«01_k».proof.Proof.Dot
public import proofs.«01_k».proof.Proof.Gen.ReferenceDxIdeal.Value
public import Idealize.ShloMosaic.Lib.Claim
public import Idealize.ShloMosaic.Lib.Pipeline.ValueKit.Geometry

@[expose] public section

set_option maxRecDepth 16384

noncomputable section

namespace Cert.ReferenceDxIdeal.Whole

open Cert.ReferenceDxIdeal Cert.ReferenceDxIdeal.Gen Idealize.ShloMosaic Idealize.ShloMosaic.TcCoe Idealize.SL.Sem
open Cert.Math (scaledDot)

variable (m : (ℓ : Loc nD τ sig) → Buf (Elt Ideal) ℓ) (ρ : Dev nD → PrngReg)

/-- The result array: the scaled product of the arguments as launched. -/
def result (c : Dev nD) : Buf (Elt Ideal) ((c : Thread nD τ).loc main_v2) :=
  fun y => scaledDot (m ((c : Thread nD τ).loc main_arg0)) (m ((c : Thread nD τ).loc main_arg2))
    (fun r => m ((c : Thread nD τ).loc main_arg1) (ix2 0 r)) (m ((c : Thread nD τ).loc main_arg3) ix0) (y 0) (y 1)

theorem hz2 : (![0, 0] : Fin 2 → ℕ) = fun _ => 0 := funext fun a => by fin_cases a <;> rfl

/-- The one store's payload, at an index. -/
theorem pay_apply (a : Vec Ideal S8192x8192 .fp8e5m2) (w : Vec Ideal S3072x8192 .fp8e4m3) (s : Vec Ideal S8192x1 .f32)
    (q : Vec Ideal S1x1 .f32) (r : Fin 8192) (j : Fin 3072) :
    k0_pay1 a w s q (ix2 r j) = scaledDot a w (fun r => s (ix2 r 0)) (q (ix2 0 0)) r j := by
  unfold scaledDot
  pointwise [k0_pay1]

/-- The whole result block, in terms of the input blocks. -/
def block (a : Vec Ideal S8192x8192 .fp8e5m2) (w : Vec Ideal S3072x8192 .fp8e4m3) (s : Vec Ideal S8192x1 .f32)
    (q : Vec Ideal S1x1 .f32) : Vec Ideal S8192x3072 .bf16 :=
  fun y => scaledDot a w (fun r => s (ix2 r 0)) (q (ix2 0 0)) (y 0) (y 1)

theorem out_eq (a : Vec Ideal S8192x8192 .fp8e5m2) (s : Vec Ideal S8192x1 .f32) (w : Vec Ideal S3072x8192 .fp8e4m3)
    (q : Vec Ideal S1x1 .f32) : out0_4 (F := Ideal) a s w q = block a w s q := by
  unfold out0_4
  simp only [View.ld_unit_zero (S := S8192x8192) hz2, View.ld_unit_zero (S := S3072x8192) hz2, View.ld_unit_zero (S := S8192x1) hz2,
    View.ld_unit_zero (S := S1x1) hz2]
  rw [View.canon_unit_zero hz2]
  funext y
  obtain ⟨r, j, rfl⟩ : ∃ (r : Fin 8192) (j : Fin 3072), y = ix2 r j := ⟨y 0, y 1, eq_ix2 y⟩
  exact pay_apply a w s q r j

/-- The whole-array windows stand at the origin. -/
theorem iblk0_eq (c : Dev nD) (t : Fin cfg0.N) (y : S8192x8192.Idx) :
    (iblk m c 0 t : Vec Ideal S8192x8192 .fp8e5m2) y = m ((c : Thread nD τ).loc main_arg0) y := by
  unfold iblk
  rw [View.read_apply]
  show V m c main_arg0 _ = _
  rw [V_main_arg0]
  refine congrArg (m ((c : Thread nD τ).loc main_arg0)) (Shape.idx_ext₂ ?_ ?_)
  · show 0 * 8192 + 1 * (y 0).val = (y 0).val
    omega
  · show 0 * 8192 + 1 * (y 1).val = (y 1).val
    omega

theorem iblk1_eq (c : Dev nD) (t : Fin cfg0.N) (r : Fin 8192) :
    (iblk m c 1 t : Vec Ideal S8192x1 .f32) (ix2 r 0) = m ((c : Thread nD τ).loc main_arg1) (ix2 0 r) := by
  unfold iblk
  rw [View.read_apply]
  show V m c main_v0 _ = _
  have e : ((cfg0.win 1).blk t).view.emb (ix2 r 0) = (ix2 r 0 : S8192x1.Idx) := by
    refine Shape.idx_ext₂ ?_ ?_
    · show 0 * 8192 + 1 * r.val = r.val
      omega
    · rfl
  rw [e]
  entry_read
  refine shapeCast_apply (s := S1x8192) (t := S8192x1) _ _ (ix2 r 0) (ix2 0 r) ?_
  rw [Shape.rowMajor_val_two, Shape.rowMajor_val_two]
  show 0 * 8192 + r.val = r.val * 1 + 0
  omega

theorem iblk2_eq (c : Dev nD) (t : Fin cfg0.N) (y : S3072x8192.Idx) :
    (iblk m c 2 t : Vec Ideal S3072x8192 .fp8e4m3) y = m ((c : Thread nD τ).loc main_arg2) y := by
  unfold iblk
  rw [View.read_apply]
  show V m c main_arg2 _ = _
  rw [V_main_arg2]
  refine congrArg (m ((c : Thread nD τ).loc main_arg2)) (Shape.idx_ext₂ ?_ ?_)
  · show 0 * 3072 + 1 * (y 0).val = (y 0).val
    omega
  · show 0 * 8192 + 1 * (y 1).val = (y 1).val
    omega

theorem iblk3_eq (c : Dev nD) (t : Fin cfg0.N) :
    (iblk m c 3 t : Vec Ideal S1x1 .f32) (ix2 0 0) = m ((c : Thread nD τ).loc main_arg3) ix0 := by
  unfold iblk
  rw [View.read_apply]
  show V m c main_v1 _ = _
  entry_read
  unfold shapeCast
  exact congrArg (m ((c : Thread nD τ).loc main_arg3)) (funext fun a => a.elim0)

/-- The one block stands on the array index for index. -/
theorem emb_eq (t : Fin cfg0.N) (y : S8192x3072.Idx) : ((cfg0.win 4).blk t).view.emb y = y := by
  refine Shape.idx_ext₂ ?_ ?_
  · show 0 * 8192 + 1 * (y 0).val = (y 0).val
    omega
  · show 0 * 3072 + 1 * (y 1).val = (y 1).val
    omega

theorem flushed_eq (c : Dev nD) (t : Fin cfg0.N) (hf : (cfg0.win 4).flush t = true) :
    (dats m 0 c).flushed 4 t = ((cfg0.win 4).blk t).view.read (Elt Ideal) (result m c) := by
  rw [Value.flushed4, out_eq]
  funext y
  rw [View.read_apply]
  obtain ⟨r, j, rfl⟩ : ∃ (r : Fin 8192) (j : Fin 3072), y = ix2 r j := ⟨y 0, y 1, eq_ix2 y⟩
  rw [emb_eq t (ix2 r j)]
  show block _ _ _ _ (ix2 r j) = result m c (ix2 r j)
  unfold block result
  show scaledDot _ _ _ _ r j = scaledDot _ _ _ _ r j
  unfold scaledDot
  simp only [iblk0_eq, iblk1_eq, iblk2_eq, iblk3_eq]

theorem mem_blk (t : Fin cfg0.N) (i : S8192x3072.Idx) : i ∈ ((cfg0.win 4).blk t).view.set := by
  have h := ((cfg0.win 4).blk t).view.emb_mem_set i
  rwa [emb_eq t i] at h

theorem final (c : Dev nD) : (dats m 0 c).arrAt 4 cfg0.N = result m c :=
  (dats m 0 c).arrAt_eq_of_cover 4 (result m c) (flushed_eq m c) fun i => ⟨⟨0, by decide⟩, flush0_4 _, mem_blk _ i⟩

/-- The run: the result array at `result`, the arguments unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final m c), (h c).2⟩) (Value.run_blocks m ρ)

end Cert.ReferenceDxIdeal.Whole

end
-- ==== Proof.Dx.lean ====
/-
  The dX claim: run on the same arguments, the kernel and the reference leave the same result array, since both hold the
  scaled product of the arguments.
-/
module

public import proofs.«01_k».proof.Defs
public import proofs.«01_k».proof.Proof.DxArray
public import proofs.«01_k».proof.Proof.DxReference

@[expose] public section

set_option maxRecDepth 16384

noncomputable section

namespace Cert.Proof

open Idealize.ShloMosaic Idealize.SL.Sem

theorem dx : Cert.algebraic_KernelDxIdeal_ReferenceDxIdeal (hKernelDxIdeal := Cert.KernelDxIdeal.Gen.facts)
    (hReferenceDxIdeal := Cert.ReferenceDxIdeal.Gen.facts) := by
  intro m g m' g' _ hargs
  refine ⟨fun c => Cert.KernelDxIdeal.Block.result m c, Cert.KernelDxIdeal.Block.run m g, ?_⟩
  refine (θ_run _ _ _).mono (fun r h c => ?_) (Cert.ReferenceDxIdeal.Whole.run m' g')
  refine ⟨(h c).1.trans ?_, (h c).2⟩
  obtain ⟨e0, e1, e2, e3⟩ := hargs c
  unfold Cert.ReferenceDxIdeal.Whole.result Cert.KernelDxIdeal.Block.result
  rw [e0, e1, e2, e3]
  rfl

end Cert.Proof

end
-- ==== Proof.Dw1Block.lean ====
/-
  What ONE BLOCK of the dW1 kernel computes, read at the ideal values: from the whole transposed code matrix `x` of the
  activations, their column scales `t`, a [8192, 512] block `v` of dH and its 512 column scales `s`, the kernel leaves
    the codes of the block: at row `k`, column `j`, the code of `v k j` under `s j`;
    the product: at row `d`, column `j`, `(∑ k, x d k · code k j) · t d · s j`.
  The codes are written 256 rows at a time, then read back whole; the product is written 512 rows at a time. One lemma
  each (`cc_chunk`, `dw_chunk`) reads any of these stores.
-/
module

public import proofs.«01_k».proof.Proof.Dot
public import proofs.«01_k».proof.Proof.Gen.KernelDw1Ideal.Value
public import Idealize.ShloMosaic.Lib.Tactic

@[expose] public section

set_option maxRecDepth 16384

noncomputable section

namespace Cert.KernelDw1Ideal.Block

open Cert.KernelDw1Ideal Cert.KernelDw1Ideal.Gen Idealize.ShloMosaic Idealize.ShloMosaic.TcCoe Idealize.SL.Sem
open Cert.Math (gradDot code emb_rows emb_cols hz2)

/-- The block's codes. -/
def ccBlock (v : Vec Ideal S8192x512 .bf16) (s : Vec Ideal S1x512 .f32) : Vec Ideal S8192x512 .fp8e5m2 :=
  fun y => code (v y) (s (ix2 0 (y 1)))

/-- The block's product. -/
def dwBlock (x : Vec Ideal S3072x8192 .fp8e4m3) (t : Vec Ideal S1x3072 .f32) (v : Vec Ideal S8192x512 .bf16)
    (s : Vec Ideal S1x512 .f32) : Vec Ideal S3072x512 .bf16 :=
  fun y => gradDot (fun k d => x (ix2 d k)) (fun d => t (ix2 0 d)) (fun k j => ccBlock v s (ix2 k j)) (fun j => s (ix2 0 j)) (y 0) (y 1)

theorem cc_apply (s : Vec Ideal S1x512 .f32) (v : Vec Ideal S256x512 .bf16) (r : Fin 256) (l : Fin 512) :
    k0_pay3 s v (ix2 r l) = code (v (ix2 r l)) (s (ix2 0 l)) := by
  unfold code
  rw [← Cert.Math.hi_bf16, ← Cert.Math.lo_bf16]
  pointwise [k0_pay3, k0_pay2]

/-- One store of codes: the 256 rows from row `o`. -/
theorem cc_chunk (s : Vec Ideal S1x512 .f32) (v : Vec Ideal S8192x512 .bf16) (o : ℕ)
    (h : ∀ b, (![o, 0] : Fin 2 → ℕ) b + S256x512.size b ≤ S8192x512.size b) (x : S256x512.Idx) :
    k0_pay3 s (View.ld v (Rect.unit (s := S8192x512) ![o, 0] S256x512.size h)) x
      = ccBlock v s ((Rect.unit (s := S8192x512) ![o, 0] S256x512.size h).emb x) := by
  obtain ⟨r, l, rfl⟩ : ∃ (r : Fin 256) (l : Fin 512), x = ix2 r l := ⟨x 0, x 1, eq_ix2 x⟩
  have h0 : o + 256 ≤ 8192 := h 0
  rw [cc_apply]
  show code (v ((Rect.unit (s := S8192x512) ![o, 0] S256x512.size h).emb (ix2 r l))) _ = _
  rw [emb_rows o h r l ⟨o + r.val, by omega⟩ rfl]
  rfl

theorem dw_apply (s : Vec Ideal S1x512 .f32) (q : Vec Ideal S8192x512 .fp8e5m2) (x : Vec Ideal S512x8192 .fp8e4m3)
    (t : Vec Ideal S1x512 .f32) (r l : Fin 512) :
    k0_pay43 s q x t (ix2 r l) = (∑ k : Fin 8192, x (ix2 r k) * q (ix2 k l)) * t (ix2 0 r) * s (ix2 0 l) := by
  pointwise [k0_pay43]
  split <;> [rfl; (split <;> [rfl; (split <;> rfl)])]

/-- One store of the product: the 512 rows from row `o`. -/
theorem dw_chunk (s : Vec Ideal S1x512 .f32) (v : Vec Ideal S8192x512 .bf16) (x : Vec Ideal S3072x8192 .fp8e4m3)
    (t : Vec Ideal S1x3072 .f32) (o : ℕ)
    (hx : ∀ b, (![o, 0] : Fin 2 → ℕ) b + S512x8192.size b ≤ S3072x8192.size b)
    (ht : ∀ b, (![0, o] : Fin 2 → ℕ) b + S1x512.size b ≤ S1x3072.size b)
    (hd : ∀ b, (![o, 0] : Fin 2 → ℕ) b + S512x512.size b ≤ S3072x512.size b) (y : S512x512.Idx) :
    k0_pay43 s (ccBlock v s) (View.ld x (Rect.unit (s := S3072x8192) ![o, 0] S512x8192.size hx))
        (View.ld t (Rect.unit (s := S1x3072) ![0, o] S1x512.size ht)) y
      = dwBlock x t v s ((Rect.unit (s := S3072x512) ![o, 0] S512x512.size hd).emb y) := by
  obtain ⟨r, l, rfl⟩ : ∃ (r : Fin 512) (l : Fin 512), y = ix2 r l := ⟨y 0, y 1, eq_ix2 y⟩
  have h0 : o + 512 ≤ 3072 := hx 0
  rw [dw_apply, emb_rows o hd r l ⟨o + r.val, by omega⟩ rfl]
  show (∑ k : Fin 8192, x ((Rect.unit (s := S3072x8192) ![o, 0] S512x8192.size hx).emb (ix2 r k)) * _)
    * t ((Rect.unit (s := S1x3072) ![0, o] S1x512.size ht).emb (ix2 0 r)) * _ = _
  rw [emb_cols o ht 0 r ⟨o + r.val, by omega⟩ rfl]
  simp only [emb_rows o hx r _ ⟨o + r.val, by omega⟩ rfl]
  rfl

section Stores

variable (c : Dev nD) (i : grid0.Coords) (a1 : Memref sig .tc .vmem S3072x8192 .fp8e4m3) (h1 : a1.IsWhole)
    (a2 : Memref sig .tc .vmem S1x3072 .f32) (h2 : a2.IsWhole) (a3 : Memref sig .tc .vmem S8192x512 .bf16) (h3 : a3.IsWhole)
    (a4 : Memref sig .tc .vmem S1x512 .f32) (h4 : a4.IsWhole) (a5 : Memref sig .tc .vmem S8192x512 .fp8e5m2) (h5 : a5.IsWhole)
    (a6 : Memref sig .tc .vmem S3072x512 .bf16) (h6 : a6.IsWhole) (x : Vec Ideal S3072x8192 .fp8e4m3) (t : Vec Ideal S1x3072 .f32)
    (v : Vec Ideal S8192x512 .bf16) (s : Vec Ideal S1x512 .f32)

/-- The thirty-two stores of codes make up the block's codes. -/
theorem cc_canon : View.canon (kernelRun0_A (F := Ideal) c i a1 h1 a2 h2 a3 h3 a4 h4 a5 h5 a6 h6 x t v s).1 = ccBlock v s := by
  funext y
  refine View.canon_apply_of_pieces _ _ ?_ y (cover0_A_4 c i a1 h1 a2 h2 a3 h3 a4 h4 a5 h5 a6 h6 x t v s y)
  unfold kernelRun0_A
  dsimp only
  sl_unfold_words
  simp only [View.readAt_eq_ld, h3.read_unread, h4.read_unread]
  simp only [View.ld_unit_zero (S := S1x512) hz2, List.forall_mem_cons]
  repeat' apply And.intro
  all_goals first | exact cc_chunk s v _ _ | exact fun p hp => absurd hp List.not_mem_nil

theorem cc_eq : out0_A_4 (F := Ideal) c i a1 h1 a2 h2 a3 h3 a4 h4 a5 h5 a6 h6 x t v s = ccBlock v s := by
  unfold out0_A_4
  rw [View.read_writes_eq_canon _ _ _ (cover0_A_4 c i a1 h1 a2 h2 a3 h3 a4 h4 a5 h5 a6 h6 x t v s)]
  exact cc_canon c i a1 h1 a2 h2 a3 h3 a4 h4 a5 h5 a6 h6 x t v s

/-- Read back whole, they are the block's codes. -/
theorem cc_read :
    a5.view.readCov (kernelRun0_A (F := Ideal) c i a1 h1 a2 h2 a3 h3 a4 h4 a5 h5 a6 h6 x t v s).1
        (Rect.unit (s := S8192x512) ![0, 0] S8192x512.size inb_S8192x512_S8192x512_0_0).toLoadRect = ccBlock v s := by
  rw [View.readCov_eq_canon_ld _ _ _ (cover0_A_4 c i a1 h1 a2 h2 a3 h3 a4 h4 a5 h5 a6 h6 x t v s), cc_canon]
  exact View.ld_unit_zero (S := S8192x512) hz2 _ _

theorem dw_eq : out0_A_5 (F := Ideal) c i a1 h1 a2 h2 a3 h3 a4 h4 a5 h5 a6 h6 x t v s = dwBlock x t v s := by
  have hr := cc_read c i a1 h1 a2 h2 a3 h3 a4 h4 a5 h5 a6 h6 x t v s
  unfold out0_A_5
  rw [View.read_writes_eq_canon _ _ _ (cover0_A_5 c i a1 h1 a2 h2 a3 h3 a4 h4 a5 h5 a6 h6 x t v s)]
  funext y
  refine View.canon_apply_of_pieces _ _ ?_ y (cover0_A_5 c i a1 h1 a2 h2 a3 h3 a4 h4 a5 h5 a6 h6 x t v s y)
  revert hr
  unfold kernelRun0_A
  dsimp only
  sl_unfold_words
  simp only [View.readAt_eq_ld, h1.read_unread, h2.read_unread, h3.read_unread, h4.read_unread]
  simp only [View.ld_unit_zero (S := S1x512) hz2]
  intro hr
  simp only [hr, List.forall_mem_cons]
  have e : k0_pay39 (ccBlock v s) = ccBlock v s := by unfold k0_pay39; exact shapeCast_self _ _
  have e' : ∀ w, k0_pay40 (ccBlock v s) w = k0_pay45 (ccBlock v s) w := fun w => congrArg (k0_pay45 · w) e
  simp only [e, e']
  refine ⟨?_, ?_, ?_, ?_, ?_, ?_, fun p hp => absurd hp List.not_mem_nil⟩
  all_goals exact dw_chunk s v x t _ _ _ _

end Stores

end Cert.KernelDw1Ideal.Block

end
-- ==== Proof.Dw1Array.lean ====
/-
  What the dW1 kernel's two result ARRAYS hold after its sixteen grid points, and what its run leaves. Point `t` writes
  columns `512 t … 512 t + 511` of both, from the same columns of dH and of its scales; so its blocks are the results read
  through the blocks' rectangles, and the sixteen blocks cover the arrays.
-/
module

public import proofs.«01_k».proof.Proof.Dw1Block
public import Idealize.ShloMosaic.Lib.Claim

@[expose] public section

set_option maxRecDepth 16384

noncomputable section

namespace Cert.KernelDw1Ideal.Block

open Cert.KernelDw1Ideal Cert.KernelDw1Ideal.Gen Idealize.ShloMosaic Idealize.ShloMosaic.TcCoe Idealize.SL.Sem
open Cert.Math (gradDot code)

variable (m : (ℓ : Loc nD τ sig) → Buf (Elt Ideal) ℓ) (ρ : Dev nD → PrngReg)

/-- The codes of dH by columns. -/
def codes (c : Dev nD) : Buf (Elt Ideal) ((c : Thread nD τ).loc main_v3_0) :=
  fun y => code (m ((c : Thread nD τ).loc main_arg2) y) (m ((c : Thread nD τ).loc main_arg3) (ix2 0 (y 1)))

/-- The product with the activations' codes. -/
def result (c : Dev nD) : Buf (Elt Ideal) ((c : Thread nD τ).loc main_v3_1) :=
  fun y => gradDot (fun k d => m ((c : Thread nD τ).loc main_arg0) (ix3 0 k d)) (fun d => m ((c : Thread nD τ).loc main_arg1) (ix1 d))
    (fun k j => codes m c (ix2 k j)) (fun j => m ((c : Thread nD τ).loc main_arg3) (ix2 0 j)) (y 0) (y 1)

/-- The block indices at point `t`: the column blocks move with the point, everything else stays. -/
theorem index_eq : ∀ t : Fin cfg0.N, (win0_0.index t 0 = 0 ∧ win0_0.index t 1 = 0) ∧ (win0_1.index t 0 = 0 ∧ win0_1.index t 1 = 0)
    ∧ (win0_2.index t 0 = 0 ∧ win0_2.index t 1 = t.val) ∧ (win0_3.index t 0 = 0 ∧ win0_3.index t 1 = t.val)
    ∧ (win0_4.index t 0 = 0 ∧ win0_4.index t 1 = t.val) ∧ (win0_5.index t 0 = 0 ∧ win0_5.index t 1 = t.val) :=
  (by decide +kernel : ∀ t : Fin grid0.N, _)

/-- The host transposes the codes of the activations … -/
theorem x_eq (c : Dev nD) (d : Fin 3072) (k : Fin 8192) :
    (V m c main_v1 : S3072x8192.Idx → EReal) (ix2 d k) = m ((c : Thread nD τ).loc main_arg0) (ix3 0 k d) := by
  entry_read
  pointwise []

/-- … and lays their scales out as one row. -/
theorem t_eq (c : Dev nD) (d : Fin 3072) :
    (V m c main_v2 : S1x3072.Idx → EReal) (ix2 0 d) = m ((c : Thread nD τ).loc main_arg1) (ix1 d) := by
  entry_read
  pointwise []

theorem iblk0_eq (c : Dev nD) (t : Fin cfg0.N) (d : Fin 3072) (k : Fin 8192) :
    (iblk m c 0 t : Vec Ideal S3072x8192 .fp8e4m3) (ix2 d k) = m ((c : Thread nD τ).loc main_arg0) (ix3 0 k d) := by
  unfold iblk
  rw [View.read_apply]
  refine (congrArg (V m c main_v1) (Shape.idx_ext₂ ?_ ?_)).trans (x_eq m c d k)
  · show win0_0.index t 0 * 3072 + 1 * d.val = d.val
    rw [(index_eq t).1.1]; omega
  · show win0_0.index t 1 * 8192 + 1 * k.val = k.val
    rw [(index_eq t).1.2]; omega

theorem iblk1_eq (c : Dev nD) (t : Fin cfg0.N) (d : Fin 3072) :
    (iblk m c 1 t : Vec Ideal S1x3072 .f32) (ix2 0 d) = m ((c : Thread nD τ).loc main_arg1) (ix1 d) := by
  unfold iblk
  rw [View.read_apply]
  refine (congrArg (V m c main_v2) (Shape.idx_ext₂ ?_ ?_)).trans (t_eq m c d)
  · show win0_1.index t 0 * 1 + 1 * 0 = 0
    rw [(index_eq t).2.1.1]
  · show win0_1.index t 1 * 3072 + 1 * d.val = d.val
    rw [(index_eq t).2.1.2]; omega

theorem iblk2_eq (c : Dev nD) (t : Fin cfg0.N) (k : Fin 8192) (j : Fin 512) (J : Fin 8192) (hJ : J.val = 512 * t.val + j.val) :
    (iblk m c 2 t : Vec Ideal S8192x512 .bf16) (ix2 k j) = m ((c : Thread nD τ).loc main_arg2) (ix2 k J) := by
  unfold iblk
  rw [View.read_apply]
  show V m c main_arg2 _ = _
  rw [V_main_arg2]
  refine congrArg (m ((c : Thread nD τ).loc main_arg2)) (Shape.idx_ext₂ ?_ ?_)
  · show win0_2.index t 0 * 8192 + 1 * k.val = k.val
    rw [(index_eq t).2.2.1.1]; omega
  · show win0_2.index t 1 * 512 + 1 * j.val = J.val
    rw [(index_eq t).2.2.1.2]; omega

theorem iblk3_eq (c : Dev nD) (t : Fin cfg0.N) (j : Fin 512) (J : Fin 8192) (hJ : J.val = 512 * t.val + j.val) :
    (iblk m c 3 t : Vec Ideal S1x512 .f32) (ix2 0 j) = m ((c : Thread nD τ).loc main_arg3) (ix2 0 J) := by
  unfold iblk
  rw [View.read_apply]
  show V m c main_arg3 _ = _
  rw [V_main_arg3]
  refine congrArg (m ((c : Thread nD τ).loc main_arg3)) (Shape.idx_ext₂ ?_ ?_)
  · show win0_3.index t 0 * 1 + 1 * 0 = 0
    rw [(index_eq t).2.2.2.1.1]
  · show win0_3.index t 1 * 512 + 1 * j.val = J.val
    rw [(index_eq t).2.2.2.1.2]; omega

/-- Column `j` of point `t`'s blocks is column `512 t + j` of the arrays. -/
theorem emb4_eq (t : Fin cfg0.N) (k : Fin 8192) (j : Fin 512) (J : Fin 8192) (hJ : J.val = 512 * t.val + j.val) :
    ((cfg0.win 4).blk t).view.emb (ix2 k j) = (ix2 k J : S8192x8192.Idx) := by
  refine Shape.idx_ext₂ ?_ ?_
  · show win0_4.index t 0 * 8192 + 1 * k.val = k.val
    rw [(index_eq t).2.2.2.2.1.1]; omega
  · show win0_4.index t 1 * 512 + 1 * j.val = J.val
    rw [(index_eq t).2.2.2.2.1.2]; omega

theorem emb5_eq (t : Fin cfg0.N) (d : Fin 3072) (j : Fin 512) (J : Fin 8192) (hJ : J.val = 512 * t.val + j.val) :
    ((cfg0.win 5).blk t).view.emb (ix2 d j) = (ix2 d J : S3072x8192.Idx) := by
  refine Shape.idx_ext₂ ?_ ?_
  · show win0_5.index t 0 * 3072 + 1 * d.val = d.val
    rw [(index_eq t).2.2.2.2.2.1]; omega
  · show win0_5.index t 1 * 512 + 1 * j.val = J.val
    rw [(index_eq t).2.2.2.2.2.2]; omega

theorem ccBlock_eq (c : Dev nD) (t : Fin cfg0.N) (k : Fin 8192) (j : Fin 512) (J : Fin 8192) (hJ : J.val = 512 * t.val + j.val) :
    ccBlock (iblk m c 2 t) (iblk m c 3 t) (ix2 k j) = codes m c (ix2 k J) := by
  show code ((iblk m c 2 t : Vec Ideal S8192x512 .bf16) (ix2 k j)) ((iblk m c 3 t : Vec Ideal S1x512 .f32) (ix2 0 j)) = code _ _
  rw [iblk2_eq m c t k j J hJ, iblk3_eq m c t j J hJ]
  rfl

/-- Point `t` writes back the codes' columns `512 t …` -/
theorem flushed4_eq (c : Dev nD) (t : Fin cfg0.N) (hf : (cfg0.win 4).flush t = true) :
    (dats m 0 c).flushed 4 t = ((cfg0.win 4).blk t).view.read (Elt Ideal) (codes m c) := by
  rw [Value.flushed4_A, cc_eq]
  funext y
  rw [View.read_apply]
  obtain ⟨k, j, rfl⟩ : ∃ (k : Fin 8192) (j : Fin 512), y = ix2 k j := ⟨y 0, y 1, eq_ix2 y⟩
  have ht : t.val < 16 := t.isLt
  rw [emb4_eq t k j ⟨512 * t.val + j.val, by omega⟩ rfl]
  exact ccBlock_eq m c t k j ⟨512 * t.val + j.val, by omega⟩ rfl

/-- and the product's. -/
theorem flushed5_eq (c : Dev nD) (t : Fin cfg0.N) (hf : (cfg0.win 5).flush t = true) :
    (dats m 0 c).flushed 5 t = ((cfg0.win 5).blk t).view.read (Elt Ideal) (result m c) := by
  rw [Value.flushed5_A, dw_eq]
  funext y
  rw [View.read_apply]
  obtain ⟨d, j, rfl⟩ : ∃ (d : Fin 3072) (j : Fin 512), y = ix2 d j := ⟨y 0, y 1, eq_ix2 y⟩
  have ht : t.val < 16 := t.isLt
  rw [emb5_eq t d j ⟨512 * t.val + j.val, by omega⟩ rfl]
  show dwBlock _ _ _ _ (ix2 d j) = result m c (ix2 d ⟨512 * t.val + j.val, by omega⟩)
  unfold dwBlock result
  show gradDot _ _ _ _ d j = gradDot _ _ _ _ d (⟨512 * t.val + j.val, by omega⟩ : Fin 8192)
  unfold gradDot
  simp only [iblk0_eq, iblk1_eq, iblk3_eq m c t j ⟨512 * t.val + j.val, by omega⟩ rfl, ccBlock_eq m c t _ j ⟨512 * t.val + j.val, by omega⟩ rfl]

/-- The blocks cover the arrays. -/
theorem cover4 (i : S8192x8192.Idx) : ∃ t : Fin cfg0.N, (cfg0.win 4).flush t = true ∧ i ∈ ((cfg0.win 4).blk t).view.set := by
  obtain ⟨k, J, rfl⟩ : ∃ (k : Fin 8192) (J : Fin 8192), i = ix2 k J := ⟨i 0, i 1, eq_ix2 i⟩
  refine ⟨⟨J.val / 512, by show _ < 16; omega⟩, flush0_4 _, ?_⟩
  have h := ((cfg0.win 4).blk ⟨J.val / 512, by show _ < 16; omega⟩).view.emb_mem_set (ix2 k (⟨J.val % 512, by omega⟩ : Fin 512))
  rwa [emb4_eq _ k _ J (by show J.val = 512 * (J.val / 512) + J.val % 512; omega)] at h

theorem cover5 (i : S3072x8192.Idx) : ∃ t : Fin cfg0.N, (cfg0.win 5).flush t = true ∧ i ∈ ((cfg0.win 5).blk t).view.set := by
  obtain ⟨d, J, rfl⟩ : ∃ (d : Fin 3072) (J : Fin 8192), i = ix2 d J := ⟨i 0, i 1, eq_ix2 i⟩
  refine ⟨⟨J.val / 512, by show _ < 16; omega⟩, flush0_5 _, ?_⟩
  have h := ((cfg0.win 5).blk ⟨J.val / 512, by show _ < 16; omega⟩).view.emb_mem_set (ix2 d (⟨J.val % 512, by omega⟩ : Fin 512))
  rwa [emb5_eq _ d _ J (by show J.val = 512 * (J.val / 512) + J.val % 512; omega)] at h

/-- The run: the result arrays at `codes` and `result`, the arguments unchanged. -/
theorem run : θ_run defs (onTc (τ := τ) (main (F := Ideal))) ⟨m, fun _ => 0, ρ⟩ fun r => ∀ c : Dev nD,
      r.2.mem ((c : Thread nD τ).loc main_v3_0) = codes m c
      ∧ r.2.mem ((c : Thread nD τ).loc main_v3_1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans ((dats m 0 c).arrAt_eq_of_cover 4 (codes m c) (flushed4_eq m c) cover4),
    (h c).2.1.trans ((dats m 0 c).arrAt_eq_of_cover 5 (result m c) (flushed5_eq m c) cover5), (h c).2.2⟩) (Value.run_blocks m ρ)

end Cert.KernelDw1Ideal.Block

end
-- ==== Proof.Dw1Reference.lean ====
/-
  What the dW1 REFERENCE computes: one point on the whole arrays, which stores the codes of dH by columns and the product
  with them.
-/
module

public import proofs.«01_k».proof.Proof.Dot
public import proofs.«01_k».proof.Proof.Gen.ReferenceDw1Ideal.Value
public import Idealize.ShloMosaic.Lib.Claim

@[expose] public section

set_option maxRecDepth 16384

noncomputable section

namespace Cert.ReferenceDw1Ideal.Whole

open Cert.ReferenceDw1Ideal Cert.ReferenceDw1Ideal.Gen Idealize.ShloMosaic Idealize.ShloMosaic.TcCoe Idealize.SL.Sem
open Cert.Math (gradDot code hz2)

variable (m : (ℓ : Loc nD τ sig) → Buf (Elt Ideal) ℓ) (ρ : Dev nD → PrngReg)

/-- The codes of dH by columns. -/
def codes (c : Dev nD) : Buf (Elt Ideal) ((c : Thread nD τ).loc main_v2_0) :=
  fun y => code (m ((c : Thread nD τ).loc main_arg2) y) (m ((c : Thread nD τ).loc main_arg3) (ix2 0 (y 1)))

/-- The product with the activations' codes. -/
def result (c : Dev nD) : Buf (Elt Ideal) ((c : Thread nD τ).loc main_v2_1) :=
  fun y => gradDot (fun k d => m ((c : Thread nD τ).loc main_arg0) (ix3 0 k d)) (fun d => m ((c : Thread nD τ).loc main_arg1) (ix1 d))
    (fun k j => codes m c (ix2 k j)) (fun j => m ((c : Thread nD τ).loc main_arg3) (ix2 0 j)) (y 0) (y 1)

/-- The two stores, in terms of the input blocks. -/
def ccBlock (v : Vec Ideal S8192x8192 .bf16) (s : Vec Ideal S1x8192 .f32) : Vec Ideal S8192x8192 .fp8e5m2 :=
  fun y => code (v y) (s (ix2 0 (y 1)))

def dwBlock (x : Vec Ideal S8192x3072 .fp8e4m3) (t : Vec Ideal S3072x1 .f32) (v : Vec Ideal S8192x8192 .bf16)
    (s : Vec Ideal S1x8192 .f32) : Vec Ideal S3072x8192 .bf16 :=
  fun y => gradDot (fun k d => x (ix2 k d)) (fun d => t (ix2 d 0)) (fun k j => ccBlock v s (ix2 k j)) (fun j => s (ix2 0 j)) (y 0) (y 1)

theorem cc_apply (v : Vec Ideal S8192x8192 .bf16) (s : Vec Ideal S1x8192 .f32) (r l : Fin 8192) :
    k0_pay1 v s (ix2 r l) = code (v (ix2 r l)) (s (ix2 0 l)) := by
  unfold code
  rw [← Cert.Math.hi_f32, ← Cert.Math.lo_f32]
  pointwise [k0_pay1]

theorem dw_apply (v : Vec Ideal S8192x8192 .bf16) (s : Vec Ideal S1x8192 .f32) (x : Vec Ideal S8192x3072 .fp8e4m3)
    (t : Vec Ideal S3072x1 .f32) (d : Fin 3072) (j : Fin 8192) :
    k0_pay2 v s x t s (ix2 d j) = (∑ k : Fin 8192, x (ix2 k d) * k0_pay1 v s (ix2 k j)) * t (ix2 d 0) * s (ix2 0 j) := by
  pointwise [k0_pay2]

theorem cc_eq (x : Vec Ideal S8192x3072 .fp8e4m3) (t : Vec Ideal S3072x1 .f32) (v : Vec Ideal S8192x8192 .bf16)
    (s : Vec Ideal S1x8192 .f32) : out0_4 (F := Ideal) x t v s = ccBlock v s := by
  unfold out0_4
  simp only [View.ld_unit_zero (S := S8192x8192) hz2, View.ld_unit_zero (S := S1x8192) hz2]
  rw [View.canon_unit_zero hz2]
  funext y
  obtain ⟨r, l, rfl⟩ : ∃ (r l : Fin 8192), y = ix2 r l := ⟨y 0, y 1, eq_ix2 y⟩
  exact cc_apply v s r l

theorem dw_eq (x : Vec Ideal S8192x3072 .fp8e4m3) (t : Vec Ideal S3072x1 .f32) (v : Vec Ideal S8192x8192 .bf16)
    (s : Vec Ideal S1x8192 .f32) : out0_5 (F := Ideal) x t v s = dwBlock x t v s := by
  unfold out0_5
  simp only [View.ld_unit_zero (S := S8192x8192) hz2, View.ld_unit_zero (S := S1x8192) hz2, View.ld_unit_zero (S := S8192x3072) hz2,
    View.ld_unit_zero (S := S3072x1) hz2]
  rw [View.canon_unit_zero hz2]
  funext y
  obtain ⟨d, j, rfl⟩ : ∃ (d : Fin 3072) (j : Fin 8192), y = ix2 d j := ⟨y 0, y 1, eq_ix2 y⟩
  refine (dw_apply v s x t d j).trans ?_
  simp only [cc_apply]
  rfl

/-- The whole-array windows stand at the origin. -/
theorem iblk0_eq (c : Dev nD) (t : Fin cfg0.N) (k : Fin 8192) (d : Fin 3072) :
    (iblk m c 0 t : Vec Ideal S8192x3072 .fp8e4m3) (ix2 k d) = m ((c : Thread nD τ).loc main_arg0) (ix3 0 k d) := by
  have e : (V m c main_v0 : S8192x3072.Idx → EReal) (ix2 k d) = m ((c : Thread nD τ).loc main_arg0) (ix3 0 k d) := by
    entry_read
    pointwise []
  unfold iblk
  rw [View.read_apply]
  refine (congrArg (V m c main_v0) (Shape.idx_ext₂ ?_ ?_)).trans e
  · show 0 * 8192 + 1 * k.val = k.val
    omega
  · show 0 * 3072 + 1 * d.val = d.val
    omega

theorem iblk1_eq (c : Dev nD) (t : Fin cfg0.N) (d : Fin 3072) :
    (iblk m c 1 t : Vec Ideal S3072x1 .f32) (ix2 d 0) = m ((c : Thread nD τ).loc main_arg1) (ix1 d) := by
  have e : (V m c main_v1 : S3072x1.Idx → EReal) (ix2 d 0) = m ((c : Thread nD τ).loc main_arg1) (ix1 d) := by
    entry_read
    pointwise []
  unfold iblk
  rw [View.read_apply]
  refine (congrArg (V m c main_v1) (Shape.idx_ext₂ ?_ ?_)).trans e
  · show 0 * 3072 + 1 * d.val = d.val
    omega
  · rfl

theorem iblk2_eq (c : Dev nD) (t : Fin cfg0.N) (k : Fin 8192) (j : Fin 8192) :
    (iblk m c 2 t : Vec Ideal S8192x8192 .bf16) (ix2 k j) = m ((c : Thread nD τ).loc main_arg2) (ix2 k j) := by
  unfold iblk
  rw [View.read_apply]
  show V m c main_arg2 _ = _
  rw [V_main_arg2]
  refine congrArg (m ((c : Thread nD τ).loc main_arg2)) (Shape.idx_ext₂ ?_ ?_)
  · show 0 * 8192 + 1 * k.val = k.val
    omega
  · show 0 * 8192 + 1 * j.val = j.val
    omega

theorem iblk3_eq (c : Dev nD) (t : Fin cfg0.N) (j : Fin 8192) :
    (iblk m c 3 t : Vec Ideal S1x8192 .f32) (ix2 0 j) = m ((c : Thread nD τ).loc main_arg3) (ix2 0 j) := by
  unfold iblk
  rw [View.read_apply]
  show V m c main_arg3 _ = _
  rw [V_main_arg3]
  refine congrArg (m ((c : Thread nD τ).loc main_arg3)) (Shape.idx_ext₂ ?_ ?_)
  · rfl
  · show 0 * 8192 + 1 * j.val = j.val
    omega

/-- Each one output block stands on its array index for index. -/
theorem emb4_eq (t : Fin cfg0.N) (y : S8192x8192.Idx) : ((cfg0.win 4).blk t).view.emb y = y := by
  refine Shape.idx_ext₂ ?_ ?_
  · show 0 * 8192 + 1 * (y 0).val = (y 0).val
    omega
  · show 0 * 8192 + 1 * (y 1).val = (y 1).val
    omega

theorem emb5_eq (t : Fin cfg0.N) (y : S3072x8192.Idx) : ((cfg0.win 5).blk t).view.emb y = y := by
  refine Shape.idx_ext₂ ?_ ?_
  · show 0 * 3072 + 1 * (y 0).val = (y 0).val
    omega
  · show 0 * 8192 + 1 * (y 1).val = (y 1).val
    omega

theorem ccBlock_eq (c : Dev nD) (t : Fin cfg0.N) (k j : Fin 8192) :
    ccBlock (iblk m c 2 t) (iblk m c 3 t) (ix2 k j) = codes m c (ix2 k j) := by
  show code ((iblk m c 2 t : Vec Ideal S8192x8192 .bf16) (ix2 k j)) ((iblk m c 3 t : Vec Ideal S1x8192 .f32) (ix2 0 j)) = code _ _
  rw [iblk2_eq, iblk3_eq]
  rfl

theorem flushed4_eq (c : Dev nD) (t : Fin cfg0.N) (hf : (cfg0.win 4).flush t = true) :
    (dats m 0 c).flushed 4 t = ((cfg0.win 4).blk t).view.read (Elt Ideal) (codes m c) := by
  rw [Value.flushed4, cc_eq]
  funext y
  rw [View.read_apply]
  obtain ⟨k, j, rfl⟩ : ∃ (k j : Fin 8192), y = ix2 k j := ⟨y 0, y 1, eq_ix2 y⟩
  rw [emb4_eq t (ix2 k j)]
  exact ccBlock_eq m c t k j

theorem flushed5_eq (c : Dev nD) (t : Fin cfg0.N) (hf : (cfg0.win 5).flush t = true) :
    (dats m 0 c).flushed 5 t = ((cfg0.win 5).blk t).view.read (Elt Ideal) (result m c) := by
  rw [Value.flushed5, dw_eq]
  funext y
  rw [View.read_apply]
  obtain ⟨d, j, rfl⟩ : ∃ (d : Fin 3072) (j : Fin 8192), y = ix2 d j := ⟨y 0, y 1, eq_ix2 y⟩
  rw [emb5_eq t (ix2 d j)]
  show dwBlock _ _ _ _ (ix2 d j) = result m c (ix2 d j)
  unfold dwBlock result
  show gradDot _ _ _ _ d j = gradDot _ _ _ _ d j
  unfold gradDot
  simp only [iblk0_eq, iblk1_eq, iblk3_eq, ccBlock_eq]

theorem mem_blk4 (t : Fin cfg0.N) (i : S8192x8192.Idx) : i ∈ ((cfg0.win 4).blk t).view.set := by
  have h := ((cfg0.win 4).blk t).view.emb_mem_set i
  rwa [emb4_eq t i] at h

theorem mem_blk5 (t : Fin cfg0.N) (i : S3072x8192.Idx) : i ∈ ((cfg0.win 5).blk t).view.set := by
  have h := ((cfg0.win 5).blk t).view.emb_mem_set i
  rwa [emb5_eq t i] at h

/-- The run: the result arrays at `codes` and `result`, the arguments unchanged. -/
theorem run : θ_run defs (onTc (τ := τ) (main (F := Ideal))) ⟨m, fun _ => 0, ρ⟩ fun r => ∀ c : Dev nD,
      r.2.mem ((c : Thread nD τ).loc main_v2_0) = codes m c
      ∧ r.2.mem ((c : Thread nD τ).loc main_v2_1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans ((dats m 0 c).arrAt_eq_of_cover 4 (codes m c) (flushed4_eq m c)
      fun i => ⟨⟨0, by decide⟩, flush0_4 _, mem_blk4 _ i⟩),
    (h c).2.1.trans ((dats m 0 c).arrAt_eq_of_cover 5 (result m c) (flushed5_eq m c)
      fun i => ⟨⟨0, by decide⟩, flush0_5 _, mem_blk5 _ i⟩), (h c).2.2⟩) (Value.run_blocks m ρ)

end Cert.ReferenceDw1Ideal.Whole

end
-- ==== Proof.Dw1.lean ====
/-
  The dW1 claim: run on the same arguments, the kernel and the reference leave the same codes and the same product.
-/
module

public import proofs.«01_k».proof.Defs
public import proofs.«01_k».proof.Proof.Dw1Array
public import proofs.«01_k».proof.Proof.Dw1Reference

@[expose] public section

set_option maxRecDepth 16384

noncomputable section

namespace Cert.Proof

open Idealize.ShloMosaic Idealize.SL.Sem

theorem dw1 : Cert.algebraic_KernelDw1Ideal_ReferenceDw1Ideal (hKernelDw1Ideal := Cert.KernelDw1Ideal.Gen.facts)
    (hReferenceDw1Ideal := Cert.ReferenceDw1Ideal.Gen.facts) := by
  intro m g m' g' _ hargs
  refine ⟨fun c => Cert.KernelDw1Ideal.Block.codes m c, fun c => Cert.KernelDw1Ideal.Block.result m c,
    Cert.KernelDw1Ideal.Block.run m g, ?_⟩
  refine (θ_run _ _ _).mono (fun r h c => ?_) (Cert.ReferenceDw1Ideal.Whole.run m' g')
  obtain ⟨e0, e1, e2, e3⟩ := hargs c
  refine ⟨(h c).1.trans ?_, (h c).2.1.trans ?_, (h c).2.2⟩
  · unfold Cert.ReferenceDw1Ideal.Whole.codes Cert.KernelDw1Ideal.Block.codes
    rw [e2, e3]
    rfl
  · unfold Cert.ReferenceDw1Ideal.Whole.result Cert.KernelDw1Ideal.Block.result Cert.ReferenceDw1Ideal.Whole.codes Cert.KernelDw1Ideal.Block.codes
    rw [e0, e1, e2, e3]
    rfl

end Cert.Proof

end
-- ==== Proof.Dw2Block.lean ====
/-
  What ONE BLOCK of the dW2 kernel computes, read at the ideal values: from the whole transposed code matrix `x` of the
  activations, their column scales `t`, a [8192, 256] block `v` of dy and its 256 column scales `s`, the kernel leaves
    the codes of the block: at row `k`, column `j`, the code of `v k j` under `s j`;
    the product: at row `d`, column `j`, `(∑ k, x d k · code k j) · t d · s j`.
  The codes are written 256 rows at a time, then read back whole; the product is written 512 rows at a time. One lemma
  each (`cc_chunk`, `dw_chunk`) reads any of these stores.
-/
module

public import proofs.«01_k».proof.Proof.Dot
public import proofs.«01_k».proof.Proof.Gen.KernelDw2Ideal.Value
public import Idealize.ShloMosaic.Lib.Tactic

@[expose] public section

set_option maxRecDepth 16384

noncomputable section

namespace Cert.KernelDw2Ideal.Block

open Cert.KernelDw2Ideal Cert.KernelDw2Ideal.Gen Idealize.ShloMosaic Idealize.ShloMosaic.TcCoe Idealize.SL.Sem
open Cert.Math (gradDot code emb_rows emb_cols hz2)

/-- The block's codes. -/
def ccBlock (v : Vec Ideal S8192x256 .bf16) (s : Vec Ideal S1x256 .f32) : Vec Ideal S8192x256 .fp8e5m2 :=
  fun y => code (v y) (s (ix2 0 (y 1)))

/-- The block's product. -/
def dwBlock (x : Vec Ideal S4096x8192 .fp8e4m3) (t : Vec Ideal S1x4096 .f32) (v : Vec Ideal S8192x256 .bf16)
    (s : Vec Ideal S1x256 .f32) : Vec Ideal S4096x256 .bf16 :=
  fun y => gradDot (fun k d => x (ix2 d k)) (fun d => t (ix2 0 d)) (fun k j => ccBlock v s (ix2 k j)) (fun j => s (ix2 0 j)) (y 0) (y 1)

theorem cc_apply (s : Vec Ideal S1x256 .f32) (v : Vec Ideal S256x256 .bf16) (r : Fin 256) (l : Fin 256) :
    k0_pay3 s v (ix2 r l) = code (v (ix2 r l)) (s (ix2 0 l)) := by
  unfold code
  rw [← Cert.Math.hi_bf16, ← Cert.Math.lo_bf16]
  pointwise [k0_pay3, k0_pay2]

/-- One store of codes: the 256 rows from row `o`. -/
theorem cc_chunk (s : Vec Ideal S1x256 .f32) (v : Vec Ideal S8192x256 .bf16) (o : ℕ)
    (h : ∀ b, (![o, 0] : Fin 2 → ℕ) b + S256x256.size b ≤ S8192x256.size b) (x : S256x256.Idx) :
    k0_pay3 s (View.ld v (Rect.unit (s := S8192x256) ![o, 0] S256x256.size h)) x
      = ccBlock v s ((Rect.unit (s := S8192x256) ![o, 0] S256x256.size h).emb x) := by
  obtain ⟨r, l, rfl⟩ : ∃ (r : Fin 256) (l : Fin 256), x = ix2 r l := ⟨x 0, x 1, eq_ix2 x⟩
  have h0 : o + 256 ≤ 8192 := h 0
  rw [cc_apply]
  show code (v ((Rect.unit (s := S8192x256) ![o, 0] S256x256.size h).emb (ix2 r l))) _ = _
  rw [emb_rows o h r l ⟨o + r.val, by omega⟩ rfl]
  rfl

theorem dw_apply (s : Vec Ideal S1x256 .f32) (q : Vec Ideal S8192x256 .fp8e5m2) (x : Vec Ideal S512x8192 .fp8e4m3)
    (t : Vec Ideal S1x512 .f32) (r : Fin 512) (l : Fin 256) :
    k0_pay43 s q x t (ix2 r l) = (∑ k : Fin 8192, x (ix2 r k) * q (ix2 k l)) * t (ix2 0 r) * s (ix2 0 l) := by
  pointwise [k0_pay43]
  split <;> rfl

/-- One store of the product: the 512 rows from row `o`. -/
theorem dw_chunk (s : Vec Ideal S1x256 .f32) (v : Vec Ideal S8192x256 .bf16) (x : Vec Ideal S4096x8192 .fp8e4m3)
    (t : Vec Ideal S1x4096 .f32) (o : ℕ)
    (hx : ∀ b, (![o, 0] : Fin 2 → ℕ) b + S512x8192.size b ≤ S4096x8192.size b)
    (ht : ∀ b, (![0, o] : Fin 2 → ℕ) b + S1x512.size b ≤ S1x4096.size b)
    (hd : ∀ b, (![o, 0] : Fin 2 → ℕ) b + S512x256.size b ≤ S4096x256.size b) (y : S512x256.Idx) :
    k0_pay43 s (ccBlock v s) (View.ld x (Rect.unit (s := S4096x8192) ![o, 0] S512x8192.size hx))
        (View.ld t (Rect.unit (s := S1x4096) ![0, o] S1x512.size ht)) y
      = dwBlock x t v s ((Rect.unit (s := S4096x256) ![o, 0] S512x256.size hd).emb y) := by
  obtain ⟨r, l, rfl⟩ : ∃ (r : Fin 512) (l : Fin 256), y = ix2 r l := ⟨y 0, y 1, eq_ix2 y⟩
  have h0 : o + 512 ≤ 4096 := hx 0
  rw [dw_apply, emb_rows o hd r l ⟨o + r.val, by omega⟩ rfl]
  show (∑ k : Fin 8192, x ((Rect.unit (s := S4096x8192) ![o, 0] S512x8192.size hx).emb (ix2 r k)) * _)
    * t ((Rect.unit (s := S1x4096) ![0, o] S1x512.size ht).emb (ix2 0 r)) * _ = _
  rw [emb_cols o ht 0 r ⟨o + r.val, by omega⟩ rfl]
  simp only [emb_rows o hx r _ ⟨o + r.val, by omega⟩ rfl]
  rfl

section Stores

variable (c : Dev nD) (i : grid0.Coords) (a1 : Memref sig .tc .vmem S4096x8192 .fp8e4m3) (h1 : a1.IsWhole)
    (a2 : Memref sig .tc .vmem S1x4096 .f32) (h2 : a2.IsWhole) (a3 : Memref sig .tc .vmem S8192x256 .bf16) (h3 : a3.IsWhole)
    (a4 : Memref sig .tc .vmem S1x256 .f32) (h4 : a4.IsWhole) (a5 : Memref sig .tc .vmem S8192x256 .fp8e5m2) (h5 : a5.IsWhole)
    (a6 : Memref sig .tc .vmem S4096x256 .bf16) (h6 : a6.IsWhole) (x : Vec Ideal S4096x8192 .fp8e4m3) (t : Vec Ideal S1x4096 .f32)
    (v : Vec Ideal S8192x256 .bf16) (s : Vec Ideal S1x256 .f32)

/-- The thirty-two stores of codes make up the block's codes. -/
theorem cc_canon : View.canon (kernelRun0_A (F := Ideal) c i a1 h1 a2 h2 a3 h3 a4 h4 a5 h5 a6 h6 x t v s).1 = ccBlock v s := by
  funext y
  refine View.canon_apply_of_pieces _ _ ?_ y (cover0_A_4 c i a1 h1 a2 h2 a3 h3 a4 h4 a5 h5 a6 h6 x t v s y)
  unfold kernelRun0_A
  dsimp only
  sl_unfold_words
  simp only [View.readAt_eq_ld, h3.read_unread, h4.read_unread]
  simp only [View.ld_unit_zero (S := S1x256) hz2, List.forall_mem_cons]
  repeat' apply And.intro
  all_goals first | exact cc_chunk s v _ _ | exact fun p hp => absurd hp List.not_mem_nil

theorem cc_eq : out0_A_4 (F := Ideal) c i a1 h1 a2 h2 a3 h3 a4 h4 a5 h5 a6 h6 x t v s = ccBlock v s := by
  unfold out0_A_4
  rw [View.read_writes_eq_canon _ _ _ (cover0_A_4 c i a1 h1 a2 h2 a3 h3 a4 h4 a5 h5 a6 h6 x t v s)]
  exact cc_canon c i a1 h1 a2 h2 a3 h3 a4 h4 a5 h5 a6 h6 x t v s

/-- Read back whole, they are the block's codes. -/
theorem cc_read :
    a5.view.readCov (kernelRun0_A (F := Ideal) c i a1 h1 a2 h2 a3 h3 a4 h4 a5 h5 a6 h6 x t v s).1
        (Rect.unit (s := S8192x256) ![0, 0] S8192x256.size inb_S8192x256_S8192x256_0_0).toLoadRect = ccBlock v s := by
  rw [View.readCov_eq_canon_ld _ _ _ (cover0_A_4 c i a1 h1 a2 h2 a3 h3 a4 h4 a5 h5 a6 h6 x t v s), cc_canon]
  exact View.ld_unit_zero (S := S8192x256) hz2 _ _

theorem dw_eq : out0_A_5 (F := Ideal) c i a1 h1 a2 h2 a3 h3 a4 h4 a5 h5 a6 h6 x t v s = dwBlock x t v s := by
  have hr := cc_read c i a1 h1 a2 h2 a3 h3 a4 h4 a5 h5 a6 h6 x t v s
  unfold out0_A_5
  rw [View.read_writes_eq_canon _ _ _ (cover0_A_5 c i a1 h1 a2 h2 a3 h3 a4 h4 a5 h5 a6 h6 x t v s)]
  funext y
  refine View.canon_apply_of_pieces _ _ ?_ y (cover0_A_5 c i a1 h1 a2 h2 a3 h3 a4 h4 a5 h5 a6 h6 x t v s y)
  revert hr
  unfold kernelRun0_A
  dsimp only
  sl_unfold_words
  simp only [View.readAt_eq_ld, h1.read_unread, h2.read_unread, h3.read_unread, h4.read_unread]
  simp only [View.ld_unit_zero (S := S1x256) hz2]
  intro hr
  simp only [hr, List.forall_mem_cons]
  have e : k0_pay40 (ccBlock v s) = ccBlock v s := by unfold k0_pay40; exact shapeCast_self _ _
  have e₁ : ∀ x t, k0_pay41 s (ccBlock v s) x t = k0_pay43 s (ccBlock v s) x t := fun x t => congrArg (k0_pay43 s · x t) e
  have e₂ : ∀ x t, k0_pay42 s (ccBlock v s) x t = k0_pay43 s (ccBlock v s) x t := fun x t => congrArg (k0_pay43 s · x t) e
  simp only [e, e₁, e₂]
  refine ⟨?_, ?_, ?_, ?_, ?_, ?_, ?_, ?_, fun p hp => absurd hp List.not_mem_nil⟩
  all_goals exact dw_chunk s v x t _ _ _ _

end Stores

end Cert.KernelDw2Ideal.Block

end
-- ==== Proof.Dw2Array.lean ====
/-
  What the dW2 kernel's two result ARRAYS hold after its twelve grid points, and what its run leaves. Point `t` writes
  columns `256 t … 256 t + 255` of both, from the same columns of dy and of its scales; so its blocks are the results read
  through the blocks' rectangles, and the twelve blocks cover the arrays.
-/
module

public import proofs.«01_k».proof.Proof.Dw2Block
public import Idealize.ShloMosaic.Lib.Claim

@[expose] public section

set_option maxRecDepth 16384

noncomputable section

namespace Cert.KernelDw2Ideal.Block

open Cert.KernelDw2Ideal Cert.KernelDw2Ideal.Gen Idealize.ShloMosaic Idealize.ShloMosaic.TcCoe Idealize.SL.Sem
open Cert.Math (gradDot code)

variable (m : (ℓ : Loc nD τ sig) → Buf (Elt Ideal) ℓ) (ρ : Dev nD → PrngReg)

/-- The codes of dy by columns. -/
def codes (c : Dev nD) : Buf (Elt Ideal) ((c : Thread nD τ).loc main_v4_0) :=
  fun y => code (m ((c : Thread nD τ).loc main_arg2) (ix3 0 (y 0) (y 1))) (m ((c : Thread nD τ).loc main_arg3) (ix2 0 (y 1)))

/-- The product with the activations' codes. -/
def result (c : Dev nD) : Buf (Elt Ideal) ((c : Thread nD τ).loc main_v4_1) :=
  fun y => gradDot (fun k d => m ((c : Thread nD τ).loc main_arg0) (ix3 0 k d)) (fun d => m ((c : Thread nD τ).loc main_arg1) (ix1 d))
    (fun k j => codes m c (ix2 k j)) (fun j => m ((c : Thread nD τ).loc main_arg3) (ix2 0 j)) (y 0) (y 1)

/-- The block indices at point `t`: the column blocks move with the point, everything else stays. -/
theorem index_eq : ∀ t : Fin cfg0.N, (win0_0.index t 0 = 0 ∧ win0_0.index t 1 = 0) ∧ (win0_1.index t 0 = 0 ∧ win0_1.index t 1 = 0)
    ∧ (win0_2.index t 0 = 0 ∧ win0_2.index t 1 = t.val) ∧ (win0_3.index t 0 = 0 ∧ win0_3.index t 1 = t.val)
    ∧ (win0_4.index t 0 = 0 ∧ win0_4.index t 1 = t.val) ∧ (win0_5.index t 0 = 0 ∧ win0_5.index t 1 = t.val) :=
  (by decide +kernel : ∀ t : Fin grid0.N, _)

/-- The host transposes the codes of the activations … -/
theorem x_eq (c : Dev nD) (d : Fin 4096) (k : Fin 8192) :
    (V m c main_v1 : S4096x8192.Idx → EReal) (ix2 d k) = m ((c : Thread nD τ).loc main_arg0) (ix3 0 k d) := by
  entry_read
  pointwise []

/-- … and lays their scales out as one row. -/
theorem t_eq (c : Dev nD) (d : Fin 4096) :
    (V m c main_v2 : S1x4096.Idx → EReal) (ix2 0 d) = m ((c : Thread nD τ).loc main_arg1) (ix1 d) := by
  entry_read
  pointwise []

theorem iblk0_eq (c : Dev nD) (t : Fin cfg0.N) (d : Fin 4096) (k : Fin 8192) :
    (iblk m c 0 t : Vec Ideal S4096x8192 .fp8e4m3) (ix2 d k) = m ((c : Thread nD τ).loc main_arg0) (ix3 0 k d) := by
  unfold iblk
  rw [View.read_apply]
  refine (congrArg (V m c main_v1) (Shape.idx_ext₂ ?_ ?_)).trans (x_eq m c d k)
  · show win0_0.index t 0 * 4096 + 1 * d.val = d.val
    rw [(index_eq t).1.1]; omega
  · show win0_0.index t 1 * 8192 + 1 * k.val = k.val
    rw [(index_eq t).1.2]; omega

theorem iblk1_eq (c : Dev nD) (t : Fin cfg0.N) (d : Fin 4096) :
    (iblk m c 1 t : Vec Ideal S1x4096 .f32) (ix2 0 d) = m ((c : Thread nD τ).loc main_arg1) (ix1 d) := by
  unfold iblk
  rw [View.read_apply]
  refine (congrArg (V m c main_v2) (Shape.idx_ext₂ ?_ ?_)).trans (t_eq m c d)
  · show win0_1.index t 0 * 1 + 1 * 0 = 0
    rw [(index_eq t).2.1.1]
  · show win0_1.index t 1 * 4096 + 1 * d.val = d.val
    rw [(index_eq t).2.1.2]; omega

theorem iblk2_eq (c : Dev nD) (t : Fin cfg0.N) (k : Fin 8192) (j : Fin 256) (J : Fin 3072) (hJ : J.val = 256 * t.val + j.val) :
    (iblk m c 2 t : Vec Ideal S8192x256 .bf16) (ix2 k j) = m ((c : Thread nD τ).loc main_arg2) (ix3 0 k J) := by
  have e : (V m c main_v3 : S8192x3072.Idx → EReal) (ix2 k J) = m ((c : Thread nD τ).loc main_arg2) (ix3 0 k J) := by
    entry_read
    pointwise []
  unfold iblk
  rw [View.read_apply]
  refine (congrArg (V m c main_v3) (Shape.idx_ext₂ ?_ ?_)).trans e
  · show win0_2.index t 0 * 8192 + 1 * k.val = k.val
    rw [(index_eq t).2.2.1.1]; omega
  · show win0_2.index t 1 * 256 + 1 * j.val = J.val
    rw [(index_eq t).2.2.1.2]; omega

theorem iblk3_eq (c : Dev nD) (t : Fin cfg0.N) (j : Fin 256) (J : Fin 3072) (hJ : J.val = 256 * t.val + j.val) :
    (iblk m c 3 t : Vec Ideal S1x256 .f32) (ix2 0 j) = m ((c : Thread nD τ).loc main_arg3) (ix2 0 J) := by
  unfold iblk
  rw [View.read_apply]
  show V m c main_arg3 _ = _
  rw [V_main_arg3]
  refine congrArg (m ((c : Thread nD τ).loc main_arg3)) (Shape.idx_ext₂ ?_ ?_)
  · show win0_3.index t 0 * 1 + 1 * 0 = 0
    rw [(index_eq t).2.2.2.1.1]
  · show win0_3.index t 1 * 256 + 1 * j.val = J.val
    rw [(index_eq t).2.2.2.1.2]; omega

/-- Column `j` of point `t`'s blocks is column `256 t + j` of the arrays. -/
theorem emb4_eq (t : Fin cfg0.N) (k : Fin 8192) (j : Fin 256) (J : Fin 3072) (hJ : J.val = 256 * t.val + j.val) :
    ((cfg0.win 4).blk t).view.emb (ix2 k j) = (ix2 k J : S8192x3072.Idx) := by
  refine Shape.idx_ext₂ ?_ ?_
  · show win0_4.index t 0 * 8192 + 1 * k.val = k.val
    rw [(index_eq t).2.2.2.2.1.1]; omega
  · show win0_4.index t 1 * 256 + 1 * j.val = J.val
    rw [(index_eq t).2.2.2.2.1.2]; omega

theorem emb5_eq (t : Fin cfg0.N) (d : Fin 4096) (j : Fin 256) (J : Fin 3072) (hJ : J.val = 256 * t.val + j.val) :
    ((cfg0.win 5).blk t).view.emb (ix2 d j) = (ix2 d J : S4096x3072.Idx) := by
  refine Shape.idx_ext₂ ?_ ?_
  · show win0_5.index t 0 * 4096 + 1 * d.val = d.val
    rw [(index_eq t).2.2.2.2.2.1]; omega
  · show win0_5.index t 1 * 256 + 1 * j.val = J.val
    rw [(index_eq t).2.2.2.2.2.2]; omega

theorem ccBlock_eq (c : Dev nD) (t : Fin cfg0.N) (k : Fin 8192) (j : Fin 256) (J : Fin 3072) (hJ : J.val = 256 * t.val + j.val) :
    ccBlock (iblk m c 2 t) (iblk m c 3 t) (ix2 k j) = codes m c (ix2 k J) := by
  show code ((iblk m c 2 t : Vec Ideal S8192x256 .bf16) (ix2 k j)) ((iblk m c 3 t : Vec Ideal S1x256 .f32) (ix2 0 j)) = code _ _
  rw [iblk2_eq m c t k j J hJ, iblk3_eq m c t j J hJ]
  rfl

/-- Point `t` writes back the codes' columns `256 t …` -/
theorem flushed4_eq (c : Dev nD) (t : Fin cfg0.N) (hf : (cfg0.win 4).flush t = true) :
    (dats m 0 c).flushed 4 t = ((cfg0.win 4).blk t).view.read (Elt Ideal) (codes m c) := by
  rw [Value.flushed4_A, cc_eq]
  funext y
  rw [View.read_apply]
  obtain ⟨k, j, rfl⟩ : ∃ (k : Fin 8192) (j : Fin 256), y = ix2 k j := ⟨y 0, y 1, eq_ix2 y⟩
  have ht : t.val < 12 := t.isLt
  rw [emb4_eq t k j ⟨256 * t.val + j.val, by omega⟩ rfl]
  exact ccBlock_eq m c t k j ⟨256 * t.val + j.val, by omega⟩ rfl

/-- and the product's. -/
theorem flushed5_eq (c : Dev nD) (t : Fin cfg0.N) (hf : (cfg0.win 5).flush t = true) :
    (dats m 0 c).flushed 5 t = ((cfg0.win 5).blk t).view.read (Elt Ideal) (result m c) := by
  rw [Value.flushed5_A, dw_eq]
  funext y
  rw [View.read_apply]
  obtain ⟨d, j, rfl⟩ : ∃ (d : Fin 4096) (j : Fin 256), y = ix2 d j := ⟨y 0, y 1, eq_ix2 y⟩
  have ht : t.val < 12 := t.isLt
  rw [emb5_eq t d j ⟨256 * t.val + j.val, by omega⟩ rfl]
  show dwBlock _ _ _ _ (ix2 d j) = result m c (ix2 d ⟨256 * t.val + j.val, by omega⟩)
  unfold dwBlock result
  show gradDot _ _ _ _ d j = gradDot _ _ _ _ d (⟨256 * t.val + j.val, by omega⟩ : Fin 3072)
  unfold gradDot
  simp only [iblk0_eq, iblk1_eq, iblk3_eq m c t j ⟨256 * t.val + j.val, by omega⟩ rfl, ccBlock_eq m c t _ j ⟨256 * t.val + j.val, by omega⟩ rfl]

/-- The blocks cover the arrays. -/
theorem cover4 (i : S8192x3072.Idx) : ∃ t : Fin cfg0.N, (cfg0.win 4).flush t = true ∧ i ∈ ((cfg0.win 4).blk t).view.set := by
  obtain ⟨k, J, rfl⟩ : ∃ (k : Fin 8192) (J : Fin 3072), i = ix2 k J := ⟨i 0, i 1, eq_ix2 i⟩
  refine ⟨⟨J.val / 256, by show _ < 12; omega⟩, flush0_4 _, ?_⟩
  have h := ((cfg0.win 4).blk ⟨J.val / 256, by show _ < 12; omega⟩).view.emb_mem_set (ix2 k (⟨J.val % 256, by omega⟩ : Fin 256))
  rwa [emb4_eq _ k _ J (by show J.val = 256 * (J.val / 256) + J.val % 256; omega)] at h

theorem cover5 (i : S4096x3072.Idx) : ∃ t : Fin cfg0.N, (cfg0.win 5).flush t = true ∧ i ∈ ((cfg0.win 5).blk t).view.set := by
  obtain ⟨d, J, rfl⟩ : ∃ (d : Fin 4096) (J : Fin 3072), i = ix2 d J := ⟨i 0, i 1, eq_ix2 i⟩
  refine ⟨⟨J.val / 256, by show _ < 12; omega⟩, flush0_5 _, ?_⟩
  have h := ((cfg0.win 5).blk ⟨J.val / 256, by show _ < 12; omega⟩).view.emb_mem_set (ix2 d (⟨J.val % 256, by omega⟩ : Fin 256))
  rwa [emb5_eq _ d _ J (by show J.val = 256 * (J.val / 256) + J.val % 256; omega)] at h

/-- The run: the result arrays at `codes` and `result`, the arguments unchanged. -/
theorem run : θ_run defs (onTc (τ := τ) (main (F := Ideal))) ⟨m, fun _ => 0, ρ⟩ fun r => ∀ c : Dev nD,
      r.2.mem ((c : Thread nD τ).loc main_v4_0) = codes m c
      ∧ r.2.mem ((c : Thread nD τ).loc main_v4_1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans ((dats m 0 c).arrAt_eq_of_cover 4 (codes m c) (flushed4_eq m c) cover4),
    (h c).2.1.trans ((dats m 0 c).arrAt_eq_of_cover 5 (result m c) (flushed5_eq m c) cover5), (h c).2.2⟩) (Value.run_blocks m ρ)

end Cert.KernelDw2Ideal.Block

end
-- ==== Proof.Dw2Reference.lean ====
/-
  What the dW2 REFERENCE computes: one point on the whole arrays, which stores the codes of dy by columns and the product
  with them.
-/
module

public import proofs.«01_k».proof.Proof.Dot
public import proofs.«01_k».proof.Proof.Gen.ReferenceDw2Ideal.Value
public import Idealize.ShloMosaic.Lib.Claim

@[expose] public section

set_option maxRecDepth 16384

noncomputable section

namespace Cert.ReferenceDw2Ideal.Whole

open Cert.ReferenceDw2Ideal Cert.ReferenceDw2Ideal.Gen Idealize.ShloMosaic Idealize.ShloMosaic.TcCoe Idealize.SL.Sem
open Cert.Math (gradDot code hz2)

variable (m : (ℓ : Loc nD τ sig) → Buf (Elt Ideal) ℓ) (ρ : Dev nD → PrngReg)

/-- The codes of dy by columns. -/
def codes (c : Dev nD) : Buf (Elt Ideal) ((c : Thread nD τ).loc main_v3_0) :=
  fun y => code (m ((c : Thread nD τ).loc main_arg2) (ix3 0 (y 0) (y 1))) (m ((c : Thread nD τ).loc main_arg3) (ix2 0 (y 1)))

/-- The product with the activations' codes. -/
def result (c : Dev nD) : Buf (Elt Ideal) ((c : Thread nD τ).loc main_v3_1) :=
  fun y => gradDot (fun k d => m ((c : Thread nD τ).loc main_arg0) (ix3 0 k d)) (fun d => m ((c : Thread nD τ).loc main_arg1) (ix1 d))
    (fun k j => codes m c (ix2 k j)) (fun j => m ((c : Thread nD τ).loc main_arg3) (ix2 0 j)) (y 0) (y 1)

/-- The two stores, in terms of the input blocks. -/
def ccBlock (v : Vec Ideal S8192x3072 .bf16) (s : Vec Ideal S1x3072 .f32) : Vec Ideal S8192x3072 .fp8e5m2 :=
  fun y => code (v y) (s (ix2 0 (y 1)))

def dwBlock (x : Vec Ideal S8192x4096 .fp8e4m3) (t : Vec Ideal S4096x1 .f32) (v : Vec Ideal S8192x3072 .bf16)
    (s : Vec Ideal S1x3072 .f32) : Vec Ideal S4096x3072 .bf16 :=
  fun y => gradDot (fun k d => x (ix2 k d)) (fun d => t (ix2 d 0)) (fun k j => ccBlock v s (ix2 k j)) (fun j => s (ix2 0 j)) (y 0) (y 1)

theorem cc_apply (v : Vec Ideal S8192x3072 .bf16) (s : Vec Ideal S1x3072 .f32) (r : Fin 8192) (l : Fin 3072) :
    k0_pay1 v s (ix2 r l) = code (v (ix2 r l)) (s (ix2 0 l)) := by
  unfold code
  rw [← Cert.Math.hi_f32, ← Cert.Math.lo_f32]
  pointwise [k0_pay1]

theorem dw_apply (v : Vec Ideal S8192x3072 .bf16) (s : Vec Ideal S1x3072 .f32) (x : Vec Ideal S8192x4096 .fp8e4m3)
    (t : Vec Ideal S4096x1 .f32) (d : Fin 4096) (j : Fin 3072) :
    k0_pay2 v s x t s (ix2 d j) = (∑ k : Fin 8192, x (ix2 k d) * k0_pay1 v s (ix2 k j)) * t (ix2 d 0) * s (ix2 0 j) := by
  pointwise [k0_pay2]

theorem cc_eq (x : Vec Ideal S8192x4096 .fp8e4m3) (t : Vec Ideal S4096x1 .f32) (v : Vec Ideal S8192x3072 .bf16)
    (s : Vec Ideal S1x3072 .f32) : out0_4 (F := Ideal) x t v s = ccBlock v s := by
  unfold out0_4
  simp only [View.ld_unit_zero (S := S8192x3072) hz2, View.ld_unit_zero (S := S1x3072) hz2]
  rw [View.canon_unit_zero hz2]
  funext y
  obtain ⟨r, l, rfl⟩ : ∃ (r : Fin 8192) (l : Fin 3072), y = ix2 r l := ⟨y 0, y 1, eq_ix2 y⟩
  exact cc_apply v s r l

theorem dw_eq (x : Vec Ideal S8192x4096 .fp8e4m3) (t : Vec Ideal S4096x1 .f32) (v : Vec Ideal S8192x3072 .bf16)
    (s : Vec Ideal S1x3072 .f32) : out0_5 (F := Ideal) x t v s = dwBlock x t v s := by
  unfold out0_5
  simp only [View.ld_unit_zero (S := S8192x3072) hz2, View.ld_unit_zero (S := S1x3072) hz2, View.ld_unit_zero (S := S8192x4096) hz2,
    View.ld_unit_zero (S := S4096x1) hz2]
  rw [View.canon_unit_zero hz2]
  funext y
  obtain ⟨d, j, rfl⟩ : ∃ (d : Fin 4096) (j : Fin 3072), y = ix2 d j := ⟨y 0, y 1, eq_ix2 y⟩
  refine (dw_apply v s x t d j).trans ?_
  simp only [cc_apply]
  rfl

/-- The whole-array windows stand at the origin. -/
theorem iblk0_eq (c : Dev nD) (t : Fin cfg0.N) (k : Fin 8192) (d : Fin 4096) :
    (iblk m c 0 t : Vec Ideal S8192x4096 .fp8e4m3) (ix2 k d) = m ((c : Thread nD τ).loc main_arg0) (ix3 0 k d) := by
  have e : (V m c main_v0 : S8192x4096.Idx → EReal) (ix2 k d) = m ((c : Thread nD τ).loc main_arg0) (ix3 0 k d) := by
    entry_read
    pointwise []
  unfold iblk
  rw [View.read_apply]
  refine (congrArg (V m c main_v0) (Shape.idx_ext₂ ?_ ?_)).trans e
  · show 0 * 8192 + 1 * k.val = k.val
    omega
  · show 0 * 4096 + 1 * d.val = d.val
    omega

theorem iblk1_eq (c : Dev nD) (t : Fin cfg0.N) (d : Fin 4096) :
    (iblk m c 1 t : Vec Ideal S4096x1 .f32) (ix2 d 0) = m ((c : Thread nD τ).loc main_arg1) (ix1 d) := by
  have e : (V m c main_v2 : S4096x1.Idx → EReal) (ix2 d 0) = m ((c : Thread nD τ).loc main_arg1) (ix1 d) := by
    entry_read
    pointwise []
  unfold iblk
  rw [View.read_apply]
  refine (congrArg (V m c main_v2) (Shape.idx_ext₂ ?_ ?_)).trans e
  · show 0 * 4096 + 1 * d.val = d.val
    omega
  · rfl

theorem iblk2_eq (c : Dev nD) (t : Fin cfg0.N) (k : Fin 8192) (j : Fin 3072) :
    (iblk m c 2 t : Vec Ideal S8192x3072 .bf16) (ix2 k j) = m ((c : Thread nD τ).loc main_arg2) (ix3 0 k j) := by
  have e : (V m c main_v1 : S8192x3072.Idx → EReal) (ix2 k j) = m ((c : Thread nD τ).loc main_arg2) (ix3 0 k j) := by
    entry_read
    pointwise []
  unfold iblk
  rw [View.read_apply]
  refine (congrArg (V m c main_v1) (Shape.idx_ext₂ ?_ ?_)).trans e
  · show 0 * 8192 + 1 * k.val = k.val
    omega
  · show 0 * 3072 + 1 * j.val = j.val
    omega

theorem iblk3_eq (c : Dev nD) (t : Fin cfg0.N) (j : Fin 3072) :
    (iblk m c 3 t : Vec Ideal S1x3072 .f32) (ix2 0 j) = m ((c : Thread nD τ).loc main_arg3) (ix2 0 j) := by
  unfold iblk
  rw [View.read_apply]
  show V m c main_arg3 _ = _
  rw [V_main_arg3]
  refine congrArg (m ((c : Thread nD τ).loc main_arg3)) (Shape.idx_ext₂ ?_ ?_)
  · rfl
  · show 0 * 3072 + 1 * j.val = j.val
    omega

/-- Each one output block stands on its array index for index. -/
theorem emb4_eq (t : Fin cfg0.N) (y : S8192x3072.Idx) : ((cfg0.win 4).blk t).view.emb y = y := by
  refine Shape.idx_ext₂ ?_ ?_
  · show 0 * 8192 + 1 * (y 0).val = (y 0).val
    omega
  · show 0 * 3072 + 1 * (y 1).val = (y 1).val
    omega

theorem emb5_eq (t : Fin cfg0.N) (y : S4096x3072.Idx) : ((cfg0.win 5).blk t).view.emb y = y := by
  refine Shape.idx_ext₂ ?_ ?_
  · show 0 * 4096 + 1 * (y 0).val = (y 0).val
    omega
  · show 0 * 3072 + 1 * (y 1).val = (y 1).val
    omega

theorem ccBlock_eq (c : Dev nD) (t : Fin cfg0.N) (k : Fin 8192) (j : Fin 3072) :
    ccBlock (iblk m c 2 t) (iblk m c 3 t) (ix2 k j) = codes m c (ix2 k j) := by
  show code ((iblk m c 2 t : Vec Ideal S8192x3072 .bf16) (ix2 k j)) ((iblk m c 3 t : Vec Ideal S1x3072 .f32) (ix2 0 j)) = code _ _
  rw [iblk2_eq, iblk3_eq]
  rfl

theorem flushed4_eq (c : Dev nD) (t : Fin cfg0.N) (hf : (cfg0.win 4).flush t = true) :
    (dats m 0 c).flushed 4 t = ((cfg0.win 4).blk t).view.read (Elt Ideal) (codes m c) := by
  rw [Value.flushed4, cc_eq]
  funext y
  rw [View.read_apply]
  obtain ⟨k, j, rfl⟩ : ∃ (k : Fin 8192) (j : Fin 3072), y = ix2 k j := ⟨y 0, y 1, eq_ix2 y⟩
  rw [emb4_eq t (ix2 k j)]
  exact ccBlock_eq m c t k j

theorem flushed5_eq (c : Dev nD) (t : Fin cfg0.N) (hf : (cfg0.win 5).flush t = true) :
    (dats m 0 c).flushed 5 t = ((cfg0.win 5).blk t).view.read (Elt Ideal) (result m c) := by
  rw [Value.flushed5, dw_eq]
  funext y
  rw [View.read_apply]
  obtain ⟨d, j, rfl⟩ : ∃ (d : Fin 4096) (j : Fin 3072), y = ix2 d j := ⟨y 0, y 1, eq_ix2 y⟩
  rw [emb5_eq t (ix2 d j)]
  show dwBlock _ _ _ _ (ix2 d j) = result m c (ix2 d j)
  unfold dwBlock result
  show gradDot _ _ _ _ d j = gradDot _ _ _ _ d j
  unfold gradDot
  simp only [iblk0_eq, iblk1_eq, iblk3_eq, ccBlock_eq]

theorem mem_blk4 (t : Fin cfg0.N) (i : S8192x3072.Idx) : i ∈ ((cfg0.win 4).blk t).view.set := by
  have h := ((cfg0.win 4).blk t).view.emb_mem_set i
  rwa [emb4_eq t i] at h

theorem mem_blk5 (t : Fin cfg0.N) (i : S4096x3072.Idx) : i ∈ ((cfg0.win 5).blk t).view.set := by
  have h := ((cfg0.win 5).blk t).view.emb_mem_set i
  rwa [emb5_eq t i] at h

/-- The run: the result arrays at `codes` and `result`, the arguments unchanged. -/
theorem run : θ_run defs (onTc (τ := τ) (main (F := Ideal))) ⟨m, fun _ => 0, ρ⟩ fun r => ∀ c : Dev nD,
      r.2.mem ((c : Thread nD τ).loc main_v3_0) = codes m c
      ∧ r.2.mem ((c : Thread nD τ).loc main_v3_1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans ((dats m 0 c).arrAt_eq_of_cover 4 (codes m c) (flushed4_eq m c)
      fun i => ⟨⟨0, by decide⟩, flush0_4 _, mem_blk4 _ i⟩),
    (h c).2.1.trans ((dats m 0 c).arrAt_eq_of_cover 5 (result m c) (flushed5_eq m c)
      fun i => ⟨⟨0, by decide⟩, flush0_5 _, mem_blk5 _ i⟩), (h c).2.2⟩) (Value.run_blocks m ρ)

end Cert.ReferenceDw2Ideal.Whole

end
-- ==== Proof.Dw2.lean ====
/-
  The dW2 claim: run on the same arguments, the kernel and the reference leave the same codes and the same product.
-/
module

public import proofs.«01_k».proof.Defs
public import proofs.«01_k».proof.Proof.Dw2Array
public import proofs.«01_k».proof.Proof.Dw2Reference

@[expose] public section

set_option maxRecDepth 16384

noncomputable section

namespace Cert.Proof

open Idealize.ShloMosaic Idealize.SL.Sem

theorem dw2 : Cert.algebraic_KernelDw2Ideal_ReferenceDw2Ideal (hKernelDw2Ideal := Cert.KernelDw2Ideal.Gen.facts)
    (hReferenceDw2Ideal := Cert.ReferenceDw2Ideal.Gen.facts) := by
  intro m g m' g' _ hargs
  refine ⟨fun c => Cert.KernelDw2Ideal.Block.codes m c, fun c => Cert.KernelDw2Ideal.Block.result m c,
    Cert.KernelDw2Ideal.Block.run m g, ?_⟩
  refine (θ_run _ _ _).mono (fun r h c => ?_) (Cert.ReferenceDw2Ideal.Whole.run m' g')
  obtain ⟨e0, e1, e2, e3⟩ := hargs c
  refine ⟨(h c).1.trans ?_, (h c).2.1.trans ?_, (h c).2.2⟩
  · unfold Cert.ReferenceDw2Ideal.Whole.codes Cert.KernelDw2Ideal.Block.codes
    rw [e2, e3]
    rfl
  · unfold Cert.ReferenceDw2Ideal.Whole.result Cert.KernelDw2Ideal.Block.result Cert.ReferenceDw2Ideal.Whole.codes Cert.KernelDw2Ideal.Block.codes
    rw [e0, e1, e2, e3]
    rfl

end Cert.Proof

end
-- ==== Proof.lean ====
/-
  The certificate. Four calls of the kernel, each with a reference of its own: every program returns and leaves its
  arguments and semaphores in order; reading a kernel at the ideal values changes nothing; and there each kernel computes what its reference
  computes.
-/
module

public import proofs.«01_k».proof.Defs
public import proofs.«01_k».proof.Proof.Gen.KernelDx.Frame
public import proofs.«01_k».proof.Proof.Gen.KernelDxIdeal.Frame
public import proofs.«01_k».proof.Proof.Gen.ReferenceDxIdeal.Frame
public import proofs.«01_k».proof.Proof.Gen.KernelDw1.Frame
public import proofs.«01_k».proof.Proof.Gen.KernelDw1Ideal.Frame
public import proofs.«01_k».proof.Proof.Gen.ReferenceDw1Ideal.Frame
public import proofs.«01_k».proof.Proof.Gen.KernelDw2.Frame
public import proofs.«01_k».proof.Proof.Gen.KernelDw2Ideal.Frame
public import proofs.«01_k».proof.Proof.Gen.ReferenceDw2Ideal.Frame
public import proofs.«01_k».proof.Proof.Gen.KernelRows.Frame
public import proofs.«01_k».proof.Proof.Gen.KernelRowsIdeal.Frame
public import proofs.«01_k».proof.Proof.Gen.ReferenceRowsIdeal.Frame
public import proofs.«01_k».proof.Proof.Rows
public import proofs.«01_k».proof.Proof.Dx
public import proofs.«01_k».proof.Proof.Dw1
public import proofs.«01_k».proof.Proof.Dw2

@[expose] public section

noncomputable section

namespace Cert.Proof

open Idealize.ShloMosaic Idealize.SL.Sem

theorem claim : Cert.Claim := ⟨Cert.KernelRows.Gen.facts, Cert.KernelRowsIdeal.Gen.facts, Cert.ReferenceRowsIdeal.Gen.facts,
  Cert.KernelDx.Gen.facts, Cert.KernelDxIdeal.Gen.facts, Cert.ReferenceDxIdeal.Gen.facts,
  Cert.KernelDw1.Gen.facts, Cert.KernelDw1Ideal.Gen.facts, Cert.ReferenceDw1Ideal.Gen.facts,
  Cert.KernelDw2.Gen.facts, Cert.KernelDw2Ideal.Gen.facts, Cert.ReferenceDw2Ideal.Gen.facts,
  fun m ρ _ => Cert.KernelRows.Gen.frame m ρ,
  fun m ρ _ => Cert.KernelRowsIdeal.Gen.frame m ρ,
  fun m ρ _ => Cert.ReferenceRowsIdeal.Gen.frame m ρ,
  fun m ρ _ => Cert.KernelDx.Gen.frame m ρ,
  fun m ρ _ => Cert.KernelDxIdeal.Gen.frame m ρ,
  fun m ρ _ => Cert.ReferenceDxIdeal.Gen.frame m ρ,
  fun m ρ _ => Cert.KernelDw1.Gen.frame m ρ,
  fun m ρ _ => Cert.KernelDw1Ideal.Gen.frame m ρ,
  fun m ρ _ => Cert.ReferenceDw1Ideal.Gen.frame m ρ,
  fun m ρ _ => Cert.KernelDw2.Gen.frame m ρ,
  fun m ρ _ => Cert.KernelDw2Ideal.Gen.frame m ρ,
  fun m ρ _ => Cert.ReferenceDw2Ideal.Gen.frame m ρ,
  trivial, rows, trivial, dx, trivial, dw1, trivial, dw2⟩

end Cert.Proof

end
